-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v8)) (v2 : (c : Dev Cert.Kernel2Ideal.nD) → Buf (Elt Ideal) ((c.tc : Thread Cert.Kernel2Ideal.nD Cert.Kernel2Ideal.τ).loc Cert.Kernel2Ideal.main_v9)) (v3 : (c : Dev Cert.Kernel2Ideal.nD) → Buf (Elt Ideal) ((c.tc : Thread Cert.Kernel2Ideal.nD Cert.Kernel2Ideal.τ).loc Cert.Kernel2Ideal.main_v10)) (v4 : (c : Dev Cert.Kernel2Ideal.nD) → Buf (Elt Ideal) ((c.tc : Thread Cert.Kernel2Ideal.nD Cert.Kernel2Ideal.τ).loc Cert.Kernel2Ideal.main_v5)) (v5 : (c : Dev Cert.Kernel2Ideal.nD) → Buf (Elt Ideal) ((c.tc : Thread Cert.Kernel2Ideal.nD Cert.Kernel2Ideal.τ).loc Cert.Kernel2Ideal.main_v11)) (v6 : (c : Dev Cert.Kernel2Ideal.nD) → Buf (Elt Ideal) ((c.tc : Thread Cert.Kernel2Ideal.nD Cert.Kernel2Ideal.τ).loc Cert.Kernel2Ideal.main_v12)) (v7 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_v9) = v2 c
          ∧ r.2.mem ((c.tc : Thread Cert.Kernel2Ideal.nD Cert.Kernel2Ideal.τ).loc Cert.Kernel2Ideal.main_v10) = v3 c
          ∧ r.2.mem ((c.tc : Thread Cert.Kernel2Ideal.nD Cert.Kernel2Ideal.τ).loc Cert.Kernel2Ideal.main_v5) = v4 c
          ∧ r.2.mem ((c.tc : Thread Cert.Kernel2Ideal.nD Cert.Kernel2Ideal.τ).loc Cert.Kernel2Ideal.main_v11) = v5 c
          ∧ r.2.mem ((c.tc : Thread Cert.Kernel2Ideal.nD Cert.Kernel2Ideal.τ).loc Cert.Kernel2Ideal.main_v12) = v6 c
          ∧ r.2.mem ((c.tc : Thread Cert.Kernel2Ideal.nD Cert.Kernel2Ideal.τ).loc Cert.Kernel2Ideal.main_v13) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_v15) = v4 c
          ∧ r.2.mem ((c.tc : Thread Cert.Reference2Ideal.nD Cert.Reference2Ideal.τ).loc Cert.Reference2Ideal.main_v12) = v5 c
          ∧ r.2.mem ((c.tc : Thread Cert.Reference2Ideal.nD Cert.Reference2Ideal.τ).loc Cert.Reference2Ideal.main_v30) = v6 c
          ∧ r.2.mem ((c.tc : Thread Cert.Reference2Ideal.nD Cert.Reference2Ideal.τ).loc Cert.Reference2Ideal.main_v29) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S8192x2048 : Shape := ⟨2, ![8192, 2048]⟩
abbrev S8192x128 : Shape := ⟨2, ![8192, 128]⟩
abbrev S8192x1024 : Shape := ⟨2, ![8192, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8192x128 : S_.BroadcastsInDim S8192x128 (![] : Fin 0 → Fin S8192x128.rank)
  bcast_S_S8192x1024 : S_.BroadcastsInDim S8192x1024 (![] : Fin 0 → Fin S8192x1024.rank)

variable [Facts]

def fn {F : FTy → Type} [FloatOps F] (main_arg0 : FVec F S8192x2048 .bf16) (main_arg1 : FVec F S8192x2048 .bf16) (main_arg2 : FVec F S8192x128 .bf16) (main_arg3 : FVec F S8192x1024 .f32) : IVec S8192x2048 1 × IVec S8192x2048 1 × IVec S8192x128 1 × IVec S8192x1024 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := (extf .f32 · bitsLt_bf16_f32) main_arg1
  let main_v5 : FVec F S8192x2048 .f32 := Host.absf main_v4
  let main_cst_0 : FVec F S_ .f32 := constant S_ .f32 0x7F800000#32
  let main_v6 : FVec F S8192x2048 .f32 := broadcastInDim S8192x2048 ![] bcast_S_S8192x2048 main_cst_0
  let main_v7 : IVec S8192x2048 1 := cmpf .olt main_v5 main_v6
  let main_v8 : FVec F S8192x128 .f32 := (extf .f32 · bitsLt_bf16_f32) main_arg2
  let main_v9 : FVec F S8192x128 .f32 := Host.absf main_v8
  let main_cst_1 : FVec F S_ .f32 := constant S_ .f32 0x7F800000#32
  let main_v10 : FVec F S8192x128 .f32 := broadcastInDim S8192x128 ![] bcast_S_S8192x128 main_cst_1
  let main_v11 : IVec S8192x128 1 := cmpf .olt main_v9 main_v10
  let main_v12 : FVec F S8192x1024 .f32 := Host.absf main_arg3
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  (main_v3, main_v7, main_v11, main_v14)
-- ==== Kernel.lean ====
abbrev S8192x2048 : Shape := ⟨2, ![8192, 2048]⟩
abbrev S8192x128 : Shape := ⟨2, ![8192, 128]⟩
abbrev S8192x1024 : Shape := ⟨2, ![8192, 1024]⟩
abbrev S8x8192x128 : Shape := ⟨3, ![8, 8192, 128]⟩
abbrev S512x256 : Shape := ⟨2, ![512, 256]⟩
abbrev S2048x128 : Shape := ⟨2, ![2048, 128]⟩
abbrev S512x128 : Shape := ⟨2, ![512, 128]⟩
abbrev S1x512x128 : Shape := ⟨3, ![1, 512, 128]⟩
abbrev S512x1 : Shape := ⟨2, ![512, 1]⟩
abbrev S1024x128 : Shape := ⟨2, ![1024, 128]⟩
abbrev S1024x256 : Shape := ⟨2, ![1024, 256]⟩
abbrev S256x256 : Shape := ⟨2, ![256, 256]⟩
abbrev S256x1024 : Shape := ⟨2, ![256, 1024]⟩
abbrev S256x1 : Shape := ⟨2, ![256, 1]⟩
abbrev S256 : Shape := ⟨1, ![256]⟩
abbrev S1x1024x128 : Shape := ⟨3, ![1, 1024, 128]⟩
abbrev S8192x256 : Shape := ⟨2, ![8192, 256]⟩
abbrev S2048x256 : Shape := ⟨2, ![2048, 256]⟩
abbrev S512 : Shape := ⟨1, ![512]⟩
abbrev S512x1024 : Shape := ⟨2, ![512, 1024]⟩

abbrev nBuf : Space → Nat
  | .hbm => 9
  | .vmem => 36
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x128, .bf16⟩
  | .hbm, ⟨3, _⟩ => ⟨S8192x1024, .f32⟩
  | .hbm, ⟨4, _⟩ => ⟨S8192x1024, .f32⟩
  | .hbm, ⟨5, _⟩ => ⟨S8x8192x128, .f32⟩
  | .hbm, ⟨6, _⟩ => ⟨S8192x2048, .f32⟩
  | .hbm, ⟨7, _⟩ => ⟨S8192x2048, .bf16⟩
  | .hbm, ⟨8, _⟩ => ⟨S8192x1024, .f32⟩
  | .local _ .vmem, ⟨0, _⟩ => ⟨S512x256, .bf16⟩
  | .local _ .vmem, ⟨1, _⟩ => ⟨S512x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S512x128, .f32⟩
  | .local _ .vmem, ⟨9, _⟩ => ⟨S512x128, .f32⟩
  | .local _ .vmem, ⟨10, _⟩ => ⟨S1x512x128, .f32⟩
  | .local _ .vmem, ⟨11, _⟩ => ⟨S1x512x128, .f32⟩
  | .local _ .vmem, ⟨12, _⟩ => ⟨S512x1, .f32⟩
  | .local _ .vmem, ⟨13, _⟩ => ⟨S512x256, .f32⟩
  | .local _ .vmem, ⟨14, _⟩ => ⟨S1024x256, .bf16⟩
  | .local _ .vmem, ⟨15, _⟩ => ⟨S1024x256, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1024x128, .f32⟩
  | .local _ .vmem, ⟨23, _⟩ => ⟨S1024x128, .f32⟩
  | .local _ .vmem, ⟨24, _⟩ => ⟨S1x1024x128, .f32⟩
  | .local _ .vmem, ⟨25, _⟩ => ⟨S1x1024x128, .f32⟩
  | .local _ .vmem, ⟨26, _⟩ => ⟨S1024x128, .f32⟩
  | .local _ .vmem, ⟨27, _⟩ => ⟨S1024x128, .f32⟩
  | .local _ .vmem, ⟨28, _⟩ => ⟨S8192x256, .f32⟩
  | .local _ .vmem, ⟨29, _⟩ => ⟨S8192x256, .f32⟩
  | .local _ .vmem, ⟨30, _⟩ => ⟨S2048x256, .bf16⟩
  | .local _ .vmem, ⟨31, _⟩ => ⟨S2048x256, .bf16⟩
  | .local _ .vmem, ⟨32, _⟩ => ⟨S2048x128, .f32⟩
  | .local _ .vmem, ⟨33, _⟩ => ⟨S2048x128, .f32⟩
  | .local _ .vmem, ⟨34, _⟩ => ⟨S2048x256, .f32⟩
  | .local _ .vmem, ⟨35, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_scratch0 : Ref sig .tc := ⟨.vmem, 34, rfl⟩
abbrev cc1_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨3, ![8, 16, 4], ![false, false, false]⟩

def k0_cond2 (i : grid0.Coords) : BitVec 1 :=
  let arg2 : BitVec 32 := BitVec.ofNat 32 (i 2).val
  let c3_i32 : BitVec 32 := 3#32
  let v107 : BitVec 1 := Scalar.cmpi .eq arg2 c3_i32
  let v108 : BitVec 32 := Scalar.extui v107
  let c0_i32_63 : BitVec 32 := 0#32
  let v109 : BitVec 1 := Scalar.cmpi .ne v108 c0_i32_63
  v109

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![8, 4, 8], ![false, false, false]⟩

def k1_mult1 (i : grid1.Coords) : BitVec 32 :=
  let arg2 : BitVec 32 := BitVec.ofNat 32 (i 2).val
  let c1024_i32 : BitVec 32 := 1024#32
  let v74 : BitVec 32 := Scalar.muli arg2 c1024_i32
  let c0_i32_49 : BitVec 32 := 0#32
  let v75 : BitVec 32 := Scalar.addi v74 c0_i32_49
  v75
def k1_off1 (i : grid1.Coords) (c0_i32_49 : BitVec 32) : Fin 2 → Nat :=
  let arg2 : BitVec 32 := BitVec.ofNat 32 (i 2).val
  let c1024_i32 : BitVec 32 := 1024#32
  let v74 : BitVec 32 := Scalar.muli arg2 c1024_i32
  let v75 : BitVec 32 := Scalar.addi v74 c0_i32_49
  let v76 : BitVec 32 := v75
  let v77 : Index := Scalar.indexCast v76
  let c0_50 : Index := 0#32
  ![v77.toNat, 0]
def k1_mult2 (i : grid1.Coords) : BitVec 32 :=
  let arg2 : BitVec 32 := BitVec.ofNat 32 (i 2).val
  let c1024_i32_99 : BitVec 32 := 1024#32
  let v149 : BitVec 32 := Scalar.muli arg2 c1024_i32_99
  let c512_i32 : BitVec 32 := 512#32
  let v150 : BitVec 32 := Scalar.addi v149 c512_i32
  v150
def k1_cond3 (i : grid1.Coords) : BitVec 1 :=
  let arg2 : BitVec 32 := BitVec.ofNat 32 (i 2).val
  let c7_i32 : BitVec 32 := 7#32
  let v158 : BitVec 1 := Scalar.cmpi .eq arg2 c7_i32
  let v159 : BitVec 32 := Scalar.extui v158
  let c0_i32_102 : BitVec 32 := 0#32
  let v160 : BitVec 1 := Scalar.cmpi .ne v159 c0_i32_102
  v160

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, true]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false, true]

abbrev stage1_7 : Fin 2 → Memref sig .tc .vmem S8192x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S2048x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S2048x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, false]
-- ==== ReferenceIdeal.lean ====
abbrev S8192x2048 : Shape := ⟨2, ![8192, 2048]⟩
abbrev S8192x128 : Shape := ⟨2, ![8192, 128]⟩
abbrev S8192x1024 : Shape := ⟨2, ![8192, 1024]⟩
abbrev S1x8192x1x128 : Shape := ⟨4, ![1, 8192, 1, 128]⟩
abbrev S1x8192x8x128 : Shape := ⟨4, ![1, 8192, 8, 128]⟩
abbrev S8192x8x256 : Shape := ⟨3, ![8192, 8, 256]⟩
abbrev S8x8192x256 : Shape := ⟨3, ![8, 8192, 256]⟩
abbrev S8192x8x128 : Shape := ⟨3, ![8192, 8, 128]⟩
abbrev S8x8192x128 : Shape := ⟨3, ![8, 8192, 128]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x128x8192 : Shape := ⟨3, ![8, 128, 8192]⟩

abbrev nBuf : Space → Nat
  | .hbm => 104
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x128, .bf16⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S8192x128, .f32⟩
  | .hbm, ⟨7, _⟩ => ⟨S1x8192x1x128, .f32⟩
  | .hbm, ⟨8, _⟩ => ⟨S1x8192x8x128, .f32⟩
  | .hbm, ⟨9, _⟩ => ⟨S8192x1024, .f32⟩
  | .hbm, ⟨10, _⟩ => ⟨S8192x8x256, .f32⟩
  | .hbm, ⟨11, _⟩ => ⟨S8x8192x256, .f32⟩
  | .hbm, ⟨12, _⟩ => ⟨S8192x8x256, .f32⟩
  | .hbm, ⟨13, _⟩ => ⟨S8x8192x256, .f32⟩
  | .hbm, ⟨14, _⟩ => ⟨S8192x8x128, .f32⟩
  | .hbm, ⟨15, _⟩ => ⟨S8x8192x128, .f32⟩
  | .hbm, ⟨16, _⟩ => ⟨S8x8192x128, .f32⟩
  | .hbm, ⟨17, _⟩ => ⟨S8x8192x128, .f32⟩
  | .hbm, ⟨18, _⟩ => ⟨S8x8192x128, .f32⟩
  | .hbm, ⟨19, _⟩ => ⟨S8x8192x128, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S8x8192, .i1⟩
  | .hbm, ⟨37, _⟩ => ⟨S_, .f32⟩
  | .hbm, ⟨38, _⟩ => ⟨S8x8192, .f32⟩
  | .hbm, ⟨39, _⟩ => ⟨S8x8192, .i1⟩
  | .hbm, ⟨40, _⟩ => ⟨S_, .f32⟩
  | .hbm, ⟨41, _⟩ => ⟨S8x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x8192, .f32⟩
  | .hbm, ⟨56, _⟩ => ⟨S8x8192x8192, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x128, .f32⟩
  | .hbm, ⟨62, _⟩ => ⟨S8192x8x128, .f32⟩
  | .hbm, ⟨63, _⟩ => ⟨S8192x1024, .f32⟩
  | .hbm, ⟨64, _⟩ => ⟨S8192x8x128, .f32⟩
  | .hbm, ⟨65, _⟩ => ⟨S8x8192x128, .f32⟩
  | .hbm, ⟨66, _⟩ => ⟨S8x128x8192, .f32⟩
  | .hbm, ⟨67, _⟩ => ⟨S8x8192x128, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x1, .f32⟩
  | .hbm, ⟨75, _⟩ => ⟨S8x8192x1, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S8x8192x128, .f32⟩
  | .hbm, ⟨84, _⟩ => ⟨S8x8192x128, .f32⟩
  | .hbm, ⟨85, _⟩ => ⟨S8x8192x128, .f32⟩
  | .hbm, ⟨86, _⟩ => ⟨S8x8192x128, .f32⟩
  | .hbm, ⟨87, _⟩ => ⟨S_, .f32⟩
  | .hbm, ⟨88, _⟩ => ⟨S8x8192x256, .f32⟩
  | .hbm, ⟨89, _⟩ => ⟨S_, .f32⟩
  | .hbm, ⟨90, _⟩ => ⟨S8x8192x256, .f32⟩
  | .hbm, ⟨91, _⟩ => ⟨S8x8192x256, .f32⟩
  | .hbm, ⟨92, _⟩ => ⟨S_, .f32⟩
  | .hbm, ⟨93, _⟩ => ⟨S8x8192x256, .f32⟩
  | .hbm, ⟨94, _⟩ => ⟨S_, .f32⟩
  | .hbm, ⟨95, _⟩ => ⟨S8x8192x256, .f32⟩
  | .hbm, ⟨96, _⟩ => ⟨S8x8192x256, .f32⟩
  | .hbm, ⟨97, _⟩ => ⟨S8192x8x128, .f32⟩
  | .hbm, ⟨98, _⟩ => ⟨S8192x1024, .f32⟩
  | .hbm, ⟨99, _⟩ => ⟨S8192x8x256, .f32⟩
  | .hbm, ⟨100, _⟩ => ⟨S8192x2048, .f32⟩
  | .hbm, ⟨101, _⟩ => ⟨S8192x8x256, .f32⟩
  | .hbm, ⟨102, _⟩ => ⟨S8192x2048, .f32⟩
  | .hbm, ⟨103, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_9 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_11 : Ref sig .tc := ⟨.hbm, 87, rfl⟩
abbrev main_v71 : Ref sig .tc := ⟨.hbm, 88, rfl⟩
abbrev main_cst_12 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_cst_14 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== Kernel2.lean ====
abbrev S8192x1024 : Shape := ⟨2, ![8192, 1024]⟩
abbrev S1024x2816 : Shape := ⟨2, ![1024, 2816]⟩
abbrev S2816x1024 : Shape := ⟨2, ![2816, 1024]⟩
abbrev S1024x8192 : Shape := ⟨2, ![1024, 8192]⟩
abbrev S8192x8192 : Shape := ⟨2, ![8192, 8192]⟩
abbrev S8192x2816 : Shape := ⟨2, ![8192, 2816]⟩
abbrev S1024x1024 : Shape := ⟨2, ![1024, 1024]⟩
abbrev S1024x1408 : Shape := ⟨2, ![1024, 1408]⟩
abbrev S256x2816 : Shape := ⟨2, ![256, 2816]⟩
abbrev S1024x256 : Shape := ⟨2, ![1024, 256]⟩
abbrev S256x1024 : Shape := ⟨2, ![256, 1024]⟩
abbrev S1408x1024 : Shape := ⟨2, ![1408, 1024]⟩

abbrev nBuf : Space → Nat
  | .hbm => 24
  | .vmem => 104
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8192x1024, .f32⟩
  | .hbm, ⟨6, _⟩ => ⟨S8192x1024, .bf16⟩
  | .hbm, ⟨7, _⟩ => ⟨S1024x8192, .bf16⟩
  | .hbm, ⟨8, _⟩ => ⟨S8192x8192, .bf16⟩
  | .hbm, ⟨9, _⟩ => ⟨S8192x2816, .f32⟩
  | .hbm, ⟨10, _⟩ => ⟨S8192x2816, .f32⟩
  | .hbm, ⟨11, _⟩ => ⟨S8192x2816, .bf16⟩
  | .hbm, ⟨12, _⟩ => ⟨S8192x1024, .f32⟩
  | .hbm, ⟨13, _⟩ => ⟨S8192x2816, .f32⟩
  | .hbm, ⟨14, _⟩ => ⟨S2816x1024, .f32⟩
  | .hbm, ⟨15, _⟩ => ⟨S8192x2816, .bf16⟩
  | .hbm, ⟨16, _⟩ => ⟨S8192x2816, .bf16⟩
  | .hbm, ⟨17, _⟩ => ⟨S8192x1024, .f32⟩
  | .hbm, ⟨18, _⟩ => ⟨S8192x1024, .f32⟩
  | .hbm, ⟨19, _⟩ => ⟨S1024x2816, .f32⟩
  | .hbm, ⟨20, _⟩ => ⟨S1024x2816, .f32⟩
  | .hbm, ⟨21, _⟩ => ⟨S8192x8192, .f32⟩
  | .hbm, ⟨22, _⟩ => ⟨S8192x1024, .f32⟩
  | .hbm, ⟨23, _⟩ => ⟨S1024x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | .local _ .vmem, ⟨8, _⟩ => ⟨S1024x1024, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .f32⟩
  | .local _ .vmem, ⟨12, _⟩ => ⟨S1024x1408, .f32⟩
  | .local _ .vmem, ⟨13, _⟩ => ⟨S1024x1408, .f32⟩
  | .local _ .vmem, ⟨14, _⟩ => ⟨S256x2816, .f32⟩
  | .local _ .vmem, ⟨15, _⟩ => ⟨S256x2816, .f32⟩
  | .local _ .vmem, ⟨16, _⟩ => ⟨S256x2816, .f32⟩
  | .local _ .vmem, ⟨17, _⟩ => ⟨S256x2816, .f32⟩
  | .local _ .vmem, ⟨18, _⟩ => ⟨S256x2816, .bf16⟩
  | .local _ .vmem, ⟨19, _⟩ => ⟨S256x2816, .bf16⟩
  | .local _ .vmem, ⟨20, _⟩ => ⟨S1024x256, .bf16⟩
  | .local _ .vmem, ⟨21, _⟩ => ⟨S1024x256, .bf16⟩
  | .local _ .vmem, ⟨22, _⟩ => ⟨S256x1024, .bf16⟩
  | .local _ .vmem, ⟨23, _⟩ => ⟨S256x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | .local _ .vmem, ⟨31, _⟩ => ⟨S1408x1024, .bf16⟩
  | .local _ .vmem, ⟨32, _⟩ => ⟨S1408x1024, .bf16⟩
  | .local _ .vmem, ⟨33, _⟩ => ⟨S1024x1408, .f32⟩
  | .local _ .vmem, ⟨34, _⟩ => ⟨S1024x1408, .f32⟩
  | .local _ .vmem, ⟨35, _⟩ => ⟨S1024x1408, .f32⟩
  | .local _ .vmem, ⟨36, _⟩ => ⟨S1024x1408, .bf16⟩
  | .local _ .vmem, ⟨37, _⟩ => ⟨S1024x1408, .bf16⟩
  | .local _ .vmem, ⟨38, _⟩ => ⟨S1024x1024, .f32⟩
  | .local _ .vmem, ⟨39, _⟩ => ⟨S1024x1024, .f32⟩
  | .local _ .vmem, ⟨40, _⟩ => ⟨S1408x1024, .f32⟩
  | .local _ .vmem, ⟨41, _⟩ => ⟨S1408x1024, .f32⟩
  | .local _ .vmem, ⟨42, _⟩ => ⟨S1408x1024, .f32⟩
  | .local _ .vmem, ⟨43, _⟩ => ⟨S256x2816, .f32⟩
  | .local _ .vmem, ⟨44, _⟩ => ⟨S256x2816, .f32⟩
  | .local _ .vmem, ⟨45, _⟩ => ⟨S256x2816, .f32⟩
  | .local _ .vmem, ⟨46, _⟩ => ⟨S256x2816, .f32⟩
  | .local _ .vmem, ⟨47, _⟩ => ⟨S256x2816, .f32⟩
  | .local _ .vmem, ⟨48, _⟩ => ⟨S256x2816, .f32⟩
  | .local _ .vmem, ⟨49, _⟩ => ⟨S256x2816, .bf16⟩
  | .local _ .vmem, ⟨50, _⟩ => ⟨S256x2816, .bf16⟩
  | .local _ .vmem, ⟨51, _⟩ => ⟨S256x2816, .bf16⟩
  | .local _ .vmem, ⟨52, _⟩ => ⟨S256x2816, .bf16⟩
  | .local _ .vmem, ⟨53, _⟩ => ⟨S1024x256, .bf16⟩
  | .local _ .vmem, ⟨54, _⟩ => ⟨S1024x256, .bf16⟩
  | .local _ .vmem, ⟨55, _⟩ => ⟨S1024x256, .bf16⟩
  | .local _ .vmem, ⟨56, _⟩ => ⟨S1024x256, .bf16⟩
  | .local _ .vmem, ⟨57, _⟩ => ⟨S1024x1024, .f32⟩
  | .local _ .vmem, ⟨58, _⟩ => ⟨S1024x1024, .f32⟩
  | .local _ .vmem, ⟨59, _⟩ => ⟨S1024x1024, .f32⟩
  | .local _ .vmem, ⟨60, _⟩ => ⟨S1024x256, .bf16⟩
  | .local _ .vmem, ⟨61, _⟩ => ⟨S1024x256, .bf16⟩
  | .local _ .vmem, ⟨62, _⟩ => ⟨S1024x256, .bf16⟩
  | .local _ .vmem, ⟨63, _⟩ => ⟨S1024x256, .bf16⟩
  | .local _ .vmem, ⟨64, _⟩ => ⟨S1024x1024, .f32⟩
  | .local _ .vmem, ⟨65, _⟩ => ⟨S1024x1024, .f32⟩
  | .local _ .vmem, ⟨66, _⟩ => ⟨S1024x1024, .f32⟩
  | .local _ .vmem, ⟨67, _⟩ => ⟨S1024x1024, .f32⟩
  | .local _ .vmem, ⟨68, _⟩ => ⟨S1024x1024, .f32⟩
  | .local _ .vmem, ⟨69, _⟩ => ⟨S1024x1024, .bf16⟩
  | .local _ .vmem, ⟨70, _⟩ => ⟨S1024x1024, .bf16⟩
  | .local _ .vmem, ⟨71, _⟩ => ⟨S1024x1408, .bf16⟩
  | .local _ .vmem, ⟨72, _⟩ => ⟨S1024x1408, .bf16⟩
  | .local _ .vmem, ⟨73, _⟩ => ⟨S1024x1408, .f32⟩
  | .local _ .vmem, ⟨74, _⟩ => ⟨S1024x1408, .f32⟩
  | .local _ .vmem, ⟨75, _⟩ => ⟨S1024x1408, .f32⟩
  | .local _ .vmem, ⟨76, _⟩ => ⟨S1024x1024, .bf16⟩
  | .local _ .vmem, ⟨77, _⟩ => ⟨S1024x1024, .bf16⟩
  | .local _ .vmem, ⟨78, _⟩ => ⟨S1024x1408, .bf16⟩
  | .local _ .vmem, ⟨79, _⟩ => ⟨S1024x1408, .bf16⟩
  | .local _ .vmem, ⟨80, _⟩ => ⟨S1024x1408, .f32⟩
  | .local _ .vmem, ⟨81, _⟩ => ⟨S1024x1408, .f32⟩
  | .local _ .vmem, ⟨82, _⟩ => ⟨S1024x1408, .f32⟩
  | .local _ .vmem, ⟨83, _⟩ => ⟨S1024x1024, .bf16⟩
  | .local _ .vmem, ⟨84, _⟩ => ⟨S1024x1024, .bf16⟩
  | .local _ .vmem, ⟨85, _⟩ => ⟨S1024x1024, .bf16⟩
  | .local _ .vmem, ⟨86, _⟩ => ⟨S1024x1024, .bf16⟩
  | .local _ .vmem, ⟨87, _⟩ => ⟨S1024x1024, .f32⟩
  | .local _ .vmem, ⟨88, _⟩ => ⟨S1024x1024, .f32⟩
  | .local _ .vmem, ⟨89, _⟩ => ⟨S1024x1024, .f32⟩
  | .local _ .vmem, ⟨90, _⟩ => ⟨S1024x1024, .bf16⟩
  | .local _ .vmem, ⟨91, _⟩ => ⟨S1024x1024, .bf16⟩
  | .local _ .vmem, ⟨92, _⟩ => ⟨S1024x1024, .bf16⟩
  | .local _ .vmem, ⟨93, _⟩ => ⟨S1024x1024, .bf16⟩
  | .local _ .vmem, ⟨94, _⟩ => ⟨S1024x1024, .f32⟩
  | .local _ .vmem, ⟨95, _⟩ => ⟨S1024x1024, .f32⟩
  | .local _ .vmem, ⟨96, _⟩ => ⟨S1024x1024, .f32⟩
  | .local _ .vmem, ⟨97, _⟩ => ⟨S1024x1024, .bf16⟩
  | .local _ .vmem, ⟨98, _⟩ => ⟨S1024x1024, .bf16⟩
  | .local _ .vmem, ⟨99, _⟩ => ⟨S1024x1024, .bf16⟩
  | .local _ .vmem, ⟨100, _⟩ => ⟨S1024x1024, .bf16⟩
  | .local _ .vmem, ⟨101, _⟩ => ⟨S1024x1024, .f32⟩
  | .local _ .vmem, ⟨102, _⟩ => ⟨S1024x1024, .f32⟩
  | .local _ .vmem, ⟨103, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_scratch0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc6_stg3_0 : Ref sig .tc := ⟨.vmem, 49, rfl⟩
abbrev cc6_stg3_1 : Ref sig .tc := ⟨.vmem, 50, rfl⟩
abbrev cc6_stg4_0 : Ref sig .tc := ⟨.vmem, 51, rfl⟩
abbrev cc6_stg4_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_scratch0 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg1_1 : Ref sig .tc := ⟨.vmem, 63, rfl⟩
abbrev cc8_stg2_0 : Ref sig .tc := ⟨.vmem, 64, rfl⟩
abbrev cc8_stg2_1 : Ref sig .tc := ⟨.vmem, 65, rfl⟩
abbrev cc8_stg3_0 : Ref sig .tc := ⟨.vmem, 66, rfl⟩
abbrev cc8_stg3_1 : Ref sig .tc := ⟨.vmem, 67, rfl⟩
abbrev cc8_scratch0 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg1_1 : Ref sig .tc := ⟨.vmem, 72, rfl⟩
abbrev cc9_stg2_0 : Ref sig .tc := ⟨.vmem, 73, rfl⟩
abbrev cc9_stg2_1 : Ref sig .tc := ⟨.vmem, 74, rfl⟩
abbrev cc9_scratch0 : Ref sig .tc := ⟨.vmem, 75, rfl⟩
abbrev cc10_stg0_0 : Ref sig .tc := ⟨.vmem, 76, rfl⟩
abbrev cc10_stg0_1 : Ref sig .tc := ⟨.vmem, 77, rfl⟩
abbrev cc10_stg1_0 : Ref sig .tc := ⟨.vmem, 78, rfl⟩
abbrev cc10_stg1_1 : Ref sig .tc := ⟨.vmem, 79, rfl⟩
abbrev cc10_stg2_0 : Ref sig .tc := ⟨.vmem, 80, rfl⟩
abbrev cc10_stg2_1 : Ref sig .tc := ⟨.vmem, 81, rfl⟩
abbrev cc10_scratch0 : Ref sig .tc := ⟨.vmem, 82, rfl⟩
abbrev cc11_stg0_0 : Ref sig .tc := ⟨.vmem, 83, rfl⟩
abbrev cc11_stg0_1 : Ref sig .tc := ⟨.vmem, 84, rfl⟩
abbrev cc11_stg1_0 : Ref sig .tc := ⟨.vmem, 85, rfl⟩
abbrev cc11_stg1_1 : Ref sig .tc := ⟨.vmem, 86, rfl⟩
abbrev cc11_stg2_0 : Ref sig .tc := ⟨.vmem, 87, rfl⟩
abbrev cc11_stg2_1 : Ref sig .tc := ⟨.vmem, 88, rfl⟩
abbrev cc11_scratch0 : Ref sig .tc := ⟨.vmem, 89, rfl⟩
abbrev cc12_stg0_0 : Ref sig .tc := ⟨.vmem, 90, rfl⟩
abbrev cc12_stg0_1 : Ref sig .tc := ⟨.vmem, 91, rfl⟩
abbrev cc12_stg1_0 : Ref sig .tc := ⟨.vmem, 92, rfl⟩
abbrev cc12_stg1_1 : Ref sig .tc := ⟨.vmem, 93, rfl⟩
abbrev cc12_stg2_0 : Ref sig .tc := ⟨.vmem, 94, rfl⟩
abbrev cc12_stg2_1 : Ref sig .tc := ⟨.vmem, 95, rfl⟩
abbrev cc12_scratch0 : Ref sig .tc := ⟨.vmem, 96, rfl⟩
abbrev cc13_stg0_0 : Ref sig .tc := ⟨.vmem, 97, rfl⟩
abbrev cc13_stg0_1 : Ref sig .tc := ⟨.vmem, 98, rfl⟩
abbrev cc13_stg1_0 : Ref sig .tc := ⟨.vmem, 99, rfl⟩
abbrev cc13_stg1_1 : Ref sig .tc := ⟨.vmem, 100, rfl⟩
abbrev cc13_stg2_0 : Ref sig .tc := ⟨.vmem, 101, rfl⟩
abbrev cc13_stg2_1 : Ref sig .tc := ⟨.vmem, 102, rfl⟩
abbrev cc13_scratch0 : Ref sig .tc := ⟨.vmem, 103, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59
abbrev cc8_sem3_0 : DmaSem sig := 60
abbrev cc8_sem3_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem2_1 : DmaSem sig := 67
abbrev cc10_sem0_0 : DmaSem sig := 68
abbrev cc10_sem0_1 : DmaSem sig := 69
abbrev cc10_sem1_0 : DmaSem sig := 70
abbrev cc10_sem1_1 : DmaSem sig := 71
abbrev cc10_sem2_0 : DmaSem sig := 72
abbrev cc10_sem2_1 : DmaSem sig := 73
abbrev cc11_sem0_0 : DmaSem sig := 74
abbrev cc11_sem0_1 : DmaSem sig := 75
abbrev cc11_sem1_0 : DmaSem sig := 76
abbrev cc11_sem1_1 : DmaSem sig := 77
abbrev cc11_sem2_0 : DmaSem sig := 78
abbrev cc11_sem2_1 : DmaSem sig := 79
abbrev cc12_sem0_0 : DmaSem sig := 80
abbrev cc12_sem0_1 : DmaSem sig := 81
abbrev cc12_sem1_0 : DmaSem sig := 82
abbrev cc12_sem1_1 : DmaSem sig := 83
abbrev cc12_sem2_0 : DmaSem sig := 84
abbrev cc12_sem2_1 : DmaSem sig := 85
abbrev cc13_sem0_0 : DmaSem sig := 86
abbrev cc13_sem0_1 : DmaSem sig := 87
abbrev cc13_sem1_0 : DmaSem sig := 88
abbrev cc13_sem1_1 : DmaSem sig := 89
abbrev cc13_sem2_0 : DmaSem sig := 90
abbrev cc13_sem2_1 : DmaSem sig := 91

abbrev nD : Nat := 1
abbrev τ : Topo := Topo.v7x

variable {F : FTy → Type} [FloatOps F]

abbrev grid0 : Pipeline.Grid := ⟨3, ![2, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 8, 1], ![false, false, false]⟩

def k1_cond2 (i : grid1.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x1408 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2816 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2816 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![8, 1, 11], ![false, false, false]⟩

def k3_cond2 (i : grid3.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 8, 1], ![false, false, false]⟩

def k4_cond2 (i : grid4.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S1408x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 8], ![false, false, false]⟩

def k5_cond2 (i : grid5.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1408x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S256x2816 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x2816 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x2816 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S256x2816 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S256x2816 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨3, ![8, 1, 11], ![false, false, false]⟩

def k7_cond2 (i : grid7.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![8, 1, 11], ![false, false, false]⟩

def k8_cond2 (i : grid8.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1024x256 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev stage8_3 : Fin 2 → Memref sig .tc .vmem S1024x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]

abbrev grid9 : Pipeline.Grid := ⟨3, ![1, 2, 8], ![false, false, false]⟩

def k9_cond2 (i : grid9.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1024x1408 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x1408 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![1, 2, 8], ![false, false, false]⟩

def k10_cond2 (i : grid10.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S1024x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1024x1408 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S1024x1408 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![8, 8, 1], ![false, false, false]⟩

def k11_cond2 (i : grid11.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1024x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S1024x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![8, 1, 8], ![false, false, false]⟩

def k12_cond2 (i : grid12.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 2 → Memref sig .tc .vmem S1024x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false, true]

abbrev stage12_1 : Fin 2 → Memref sig .tc .vmem S1024x1024 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, true]

abbrev stage12_2 : Fin 2 → Memref sig .tc .vmem S1024x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev grid13 : Pipeline.Grid := ⟨3, ![1, 8, 8], ![false, false, false]⟩

def k13_cond2 (i : grid13.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc13_transform_0 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc13_transform_1 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc13_transform_2 (i : grid13.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage13_0 : Fin 2 → Memref sig .tc .vmem S1024x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false, true]

abbrev stage13_1 : Fin 2 → Memref sig .tc .vmem S1024x1024 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true, true]

abbrev stage13_2 : Fin 2 → Memref sig .tc .vmem S1024x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true, false]
-- ==== Reference2Ideal.lean ====
abbrev S8192x1024 : Shape := ⟨2, ![8192, 1024]⟩
abbrev S1024x2816 : Shape := ⟨2, ![1024, 2816]⟩
abbrev S2816x1024 : Shape := ⟨2, ![2816, 1024]⟩
abbrev S1024x8192 : Shape := ⟨2, ![1024, 8192]⟩
abbrev S8192x8192 : Shape := ⟨2, ![8192, 8192]⟩
abbrev S8192x2816 : Shape := ⟨2, ![8192, 2816]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S8192x1024, .f32⟩
  | .hbm, ⟨6, _⟩ => ⟨S8192x1024, .bf16⟩
  | .hbm, ⟨7, _⟩ => ⟨S1024x8192, .bf16⟩
  | .hbm, ⟨8, _⟩ => ⟨S8192x8192, .bf16⟩
  | .hbm, ⟨9, _⟩ => ⟨S8192x1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1024x8192, .f32⟩
  | .hbm, ⟨33, _⟩ => ⟨S8192x8192, .f32⟩
  | .hbm, ⟨34, _⟩ => ⟨S8192x1024, .f32⟩
  | .hbm, ⟨35, _⟩ => ⟨S1024x2816, .f32⟩
  | .hbm, ⟨36, _⟩ => ⟨S2816x1024, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S2816x1024, .f32⟩
  | .hbm, ⟨41, _⟩ => ⟨S1024x2816, .f32⟩
  | .hbm, ⟨42, _⟩ => ⟨S8192x1024, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S2816x1024, .f32⟩
  | .hbm, ⟨48, _⟩ => ⟨S1024x2816, .f32⟩
  | .hbm, ⟨49, _⟩ => ⟨S8192x1024, .f32⟩
  | .hbm, ⟨50, _⟩ => ⟨S8192x1024, .f32⟩
  | .hbm, ⟨51, _⟩ => ⟨S8192x8192, .f32⟩
  | .hbm, ⟨52, _⟩ => ⟨S8192x1024, .f32⟩
  | .hbm, ⟨53, _⟩ => ⟨S1024x8192, .f32⟩
  | .hbm, ⟨54, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v5_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v5_1 : Ref sig .tc := ⟨.hbm, 25, rfl⟩
abbrev main_v5_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]
-- ==== Proof.Same.lean ====
/- The kernel's text is the same read at the machine's words and at the extended reals: one table of bodies. -/
module

public import proofs.«01_k».proof.Defs
public import proofs.«01_k».proof.Proof.Gen.KernelIdeal
public import proofs.«01_k».proof.Proof.Gen.Kernel

@[expose] public section

set_option maxRecDepth 16384

noncomputable section

namespace Cert.Attn

open Idealize.ShloMosaic Idealize.SL.Sem

theorem fwdBody_same (x : Cert.Kernel.Λ₀.Args (0 : Fin 2)) :
    Cert.Kernel.defs₀ (F := Bits) .tc (0 : Fin 2) x = Cert.KernelIdeal.defs₀ (F := Bits) .tc (0 : Fin 2) x := rfl

theorem bwdBody_same (x : Cert.Kernel.Λ₀.Args (1 : Fin 2)) :
    Cert.Kernel.defs₀ (F := Bits) .tc (1 : Fin 2) x = Cert.KernelIdeal.defs₀ (F := Bits) .tc (1 : Fin 2) x := rfl

theorem tcBodies_same : Cert.Kernel.defs₀ (F := Bits) .tc = Cert.KernelIdeal.defs₀ (F := Bits) .tc :=
  funext ((Fin.forall_fin_two (p := fun l => Cert.Kernel.defs₀ (F := Bits) .tc l = Cert.KernelIdeal.defs₀ (F := Bits) .tc l)).2
    ⟨funext fwdBody_same, funext bwdBody_same⟩)

theorem bodies_same : Cert.Kernel.defs₀ (F := Bits) = Cert.KernelIdeal.defs₀ (F := Bits) :=
  funext fun
    | .tc => tcBodies_same
    | .scScalar _ => rfl
    | .scVector _ _ => rfl

theorem calls_same : Cert.Kernel.defs (F := Bits) = Cert.KernelIdeal.defs (F := Bits) :=
  congrArg (Pipeline.defs (Cert.Kernel.pcfgs (F := Bits))) bodies_same

end Cert.Attn

end
-- ==== Proof.Fwd.Base.lean ====
/- What the runs of the two kernels' bodies share: the conditions of their branches, in the program's own words. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionsLoop
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore
public import Idealize.ShloMosaic.Lib.Tactic.Stretches

@[expose] public section

set_option maxRecDepth 16384

noncomputable section

namespace Cert.Attn

open Cert.KernelIdeal
open Idealize.ShloMosaic Idealize.ShloMosaic.TcCoe Idealize.ShloMosaic.Tactic

/-- The forward body's first branch: the first key tile of a row of query tiles. -/
abbrev fwdFirst (i : grid0.Coords) : Prop :=
  (Scalar.cmpi .ne (Scalar.extui (Scalar.cmpi .eq (BitVec.ofNat 32 (i 2).val) 0#32)) 0#32) = 1#1

/-- The forward body's second branch: the last key tile. -/
abbrev fwdLast (i : grid0.Coords) : Prop := k0_cond2 i = 1#1

/-- The backward body's first branch: the first query tile of a key tile. -/
abbrev bwdFirst (i : grid1.Coords) : Prop :=
  (Scalar.cmpi .ne (Scalar.extui (Scalar.cmpi .eq (BitVec.ofNat 32 (i 2).val) 0#32)) 0#32) = 1#1

/-- The backward body's second branch: the first query tile of the first key tile. -/
abbrev bwdHead (i : grid1.Coords) : Prop :=
  (Scalar.cmpi .ne (Scalar.extui (Scalar.andi (Scalar.cmpi .eq (BitVec.ofNat 32 (i 2).val) 0#32) (Scalar.cmpi .eq (BitVec.ofNat 32 (i 1).val) 0#32))) 0#32) = 1#1

/-- The backward body's third branch: the last query tile. -/
abbrev bwdLast (i : grid1.Coords) : Prop := k1_cond3 i = 1#1

/-! ## Buffers of rows read and written block by block -/

section Blocks

variable {sig : RefSig} {κ : Kind} {sp : Space} {s : Shape} {e : EltTy} {Val : EltTy → Type} {α : Type}

/-- A load through a unit-stride rectangle is the window of what the buffer reads. -/
theorem load_window (v : View sig κ sp s e) (f : v.ty.Contents Val) {off size : Fin s.rank → ℕ} (inb : ∀ a, off a + size a ≤ s.size a) :
    v.readAt Val (Rect.unit off size inb).toLoadRect f = VecWindow.window (v.read Val f) off size inb := rfl

/-- The same for a load that earlier stores cover. -/
theorem load_stored [∀ e, Nonempty (Val e)] (v : View sig κ sp s e) (L : List (View.Piece Val s e)) {off size : Fin s.rank → ℕ}
    (inb : ∀ a, off a + size a ≤ s.size a) :
    v.readCov L (Rect.unit off size inb).toLoadRect = VecWindow.window (v.read Val (v.writes Val v.junk L)) off size inb := rfl

/-- The newest store is put over what the older ones left. -/
theorem stored_put (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A block of rows apart from the rows just put is unchanged. -/
theorem window_put_apart {R C : ℕ} (x : (⟨2, ![R, C]⟩ : Shape).Idx → α) {o p n c o' p' n' c' : ℕ}
    (inb' : ∀ a, (![o', p'] : Fin 2 → ℕ) a + (![n', c'] : Fin 2 → ℕ) a ≤ (⟨2, ![R, C]⟩ : Shape).size a)
    (w : ((a : Fin 2) → Fin ((![n, c] : Fin 2 → ℕ) a)) → α) (h : o' + n' ≤ o ∨ o + n ≤ o') :
    VecWindow.window (VecWindow.put (s := ⟨2, ![R, C]⟩) x ![o, p] ![n, c] w) ![o', p'] ![n', c'] inb' = VecWindow.window x ![o', p'] ![n', c'] inb' :=
  VecWindow.window_put_of_disjoint (s := ⟨2, ![R, C]⟩) x ![o, p] ![n, c] ![o', p'] ![n', c'] inb' w 0 h

/-- The rows just put are the rows put. -/
theorem window_put_rows {R C : ℕ} (x : (⟨2, ![R, C]⟩ : Shape).Idx → α) {o p n c : ℕ}
    (inb : ∀ a, (![o, p] : Fin 2 → ℕ) a + (![n, c] : Fin 2 → ℕ) a ≤ (⟨2, ![R, C]⟩ : Shape).size a)
    (w : ((a : Fin 2) → Fin ((![n, c] : Fin 2 → ℕ) a)) → α) :
    VecWindow.window (VecWindow.put (s := ⟨2, ![R, C]⟩) x ![o, p] ![n, c] w) ![o, p] ![n, c] inb = w :=
  VecWindow.window_put_same (s := ⟨2, ![R, C]⟩) x ![o, p] ![n, c] inb w

/-- A buffer put whole is what was put. -/
theorem put_whole {R C : ℕ} (x : (⟨2, ![R, C]⟩ : Shape).Idx → α) (w : (⟨2, ![R, C]⟩ : Shape).Idx → α) :
    VecWindow.put (s := ⟨2, ![R, C]⟩) x ![0, 0] ![R, C] w = w := by
  funext y
  have h : ∀ a : Fin 2, (![0, 0] : Fin 2 → ℕ) a ≤ (y a).val ∧ (y a).val < (![0, 0] : Fin 2 → ℕ) a + (![R, C] : Fin 2 → ℕ) a := fun a => by
    have := (y a).isLt
    fin_cases a
    · exact ⟨Nat.zero_le _, by simpa using this⟩
    · exact ⟨Nat.zero_le _, by simpa using this⟩
  unfold VecWindow.put
  rw [dif_pos h]
  exact congrArg w (funext fun a => Fin.ext (by
    show (y a).val - (![0, 0] : Fin 2 → ℕ) a = (y a).val
    fin_cases a <;> rfl))

/-- The same over three axes. -/
theorem put_whole3 {Q R C : ℕ} (x : (⟨3, ![Q, R, C]⟩ : Shape).Idx → α) (w : (⟨3, ![Q, R, C]⟩ : Shape).Idx → α) :
    VecWindow.put (s := ⟨3, ![Q, R, C]⟩) x ![0, 0, 0] ![Q, R, C] w = w := by
  funext y
  have h : ∀ a : Fin 3, (![0, 0, 0] : Fin 3 → ℕ) a ≤ (y a).val ∧ (y a).val < (![0, 0, 0] : Fin 3 → ℕ) a + (![Q, R, C] : Fin 3 → ℕ) a := fun a => by
    have := (y a).isLt
    fin_cases a
    · exact ⟨Nat.zero_le _, by simpa using this⟩
    · exact ⟨Nat.zero_le _, by simpa using this⟩
    · exact ⟨Nat.zero_le _, by simpa using this⟩
  unfold VecWindow.put
  rw [dif_pos h]
  exact congrArg w (funext fun a => Fin.ext (by
    show (y a).val - (![0, 0, 0] : Fin 3 → ℕ) a = (y a).val
    fin_cases a <;> rfl))

/-- The window of a buffer's own extents is the buffer. -/
theorem window_whole {R C : ℕ} (x : (⟨2, ![R, C]⟩ : Shape).Idx → α)
    (inb : ∀ d, (![0, 0] : Fin 2 → ℕ) d + (![R, C] : Fin 2 → ℕ) d ≤ (⟨2, ![R, C]⟩ : Shape).size d) :
    VecWindow.window x ![0, 0] ![R, C] inb = x :=
  funext fun y => congrArg x (funext fun a => Fin.ext (by
    show (![0, 0] : Fin 2 → ℕ) a + 1 * (y a).val = (y a).val
    fin_cases a <;> simp))

/-- Two blocks of `r` rows, one above the other. -/
def stack {r C : ℕ} (R : ℕ) (h : R = r + r) (a b : (⟨2, ![r, C]⟩ : Shape).Idx → α) : (⟨2, ![R, C]⟩ : Shape).Idx → α := fun y =>
  if hy : (y 0).val < r then a (ValueIdx.ix2 ⟨(y 0).val, hy⟩ (y 1)) else b (ValueIdx.ix2 ⟨(y 0).val - r, by have : (y 0).val < R := (y 0).isLt; omega⟩ (y 1))

/-- Putting the upper block and then the lower one leaves the two stacked, whatever was there. -/
theorem put_put_stack {r R C : ℕ} (h : R = r + r) (x : (⟨2, ![R, C]⟩ : Shape).Idx → α) (a b : (⟨2, ![r, C]⟩ : Shape).Idx → α) :
    VecWindow.put (s := ⟨2, ![R, C]⟩) (VecWindow.put (s := ⟨2, ![R, C]⟩) x ![0, 0] ![r, C] a) ![r, 0] ![r, C] b = stack R h a b := by
  funext y
  have h0 : (y 0).val < R := (y 0).isLt
  have h1 : (y 1).val < C := (y 1).isLt
  unfold VecWindow.put stack
  by_cases hy : (y 0).val < r
  · have hn : ¬ ∀ a : Fin 2, (![r, 0] : Fin 2 → ℕ) a ≤ (y a).val ∧ (y a).val < (![r, 0] : Fin 2 → ℕ) a + (![r, C] : Fin 2 → ℕ) a := fun hh => by
      have : r ≤ (y 0).val := (hh 0).1
      omega
    have hp : ∀ a : Fin 2, (![0, 0] : Fin 2 → ℕ) a ≤ (y a).val ∧ (y a).val < (![0, 0] : Fin 2 → ℕ) a + (![r, C] : Fin 2 → ℕ) a := fun a => by
      fin_cases a
      · exact ⟨Nat.zero_le _, by simpa using hy⟩
      · exact ⟨Nat.zero_le _, by simpa using h1⟩
    rw [dif_neg hn, dif_pos hp, dif_pos hy]
    exact congrArg a (funext fun a => by fin_cases a <;> rfl)
  · have hp : ∀ a : Fin 2, (![r, 0] : Fin 2 → ℕ) a ≤ (y a).val ∧ (y a).val < (![r, 0] : Fin 2 → ℕ) a + (![r, C] : Fin 2 → ℕ) a := fun a => by
      fin_cases a
      · exact ⟨Nat.not_lt.mp hy, show (y 0).val < r + r by omega⟩
      · exact ⟨Nat.zero_le _, by simpa using h1⟩
    rw [dif_pos hp, dif_neg hy]
    exact congrArg b (funext fun a => by fin_cases a <;> rfl)

/-- The upper block of two stacked. -/
theorem window_stack_upper {r R C : ℕ} (h : R = r + r) (a b : (⟨2, ![r, C]⟩ : Shape).Idx → α)
    (inb : ∀ d, (![0, 0] : Fin 2 → ℕ) d + (![r, C] : Fin 2 → ℕ) d ≤ (⟨2, ![R, C]⟩ : Shape).size d) :
    VecWindow.window (stack R h a b) ![0, 0] ![r, C] inb = a := by
  rw [← put_put_stack h (stack R h a b) a b, window_put_apart _ _ _ (Or.inl (by omega)), window_put_rows]

/-- The lower block of two stacked. -/
theorem window_stack_lower {r R C : ℕ} (h : R = r + r) (a b : (⟨2, ![r, C]⟩ : Shape).Idx → α)
    (inb : ∀ d, (![r, 0] : Fin 2 → ℕ) d + (![r, C] : Fin 2 → ℕ) d ≤ (⟨2, ![R, C]⟩ : Shape).size d) :
    VecWindow.window (stack R h a b) ![r, 0] ![r, C] inb = b := by
  rw [← put_put_stack h (stack R h a b) a b, window_put_rows]

end Blocks

end Cert.Attn

end
-- ==== Proof.Fwd.Step.lean ====
/- What one point of the forward grid does to the running row maximum and to the running sums, in the kernel's own pure operations. A query tile
   is two halves of 256 rows, a key tile two chunks of 1024 rows; every half runs through both chunks by itself. -/
module

public import proofs.«01_k».proof.Proof.Fwd.Base

@[expose] public section

set_option maxRecDepth 16384

noncomputable section

namespace Cert.Attn

open Cert.KernelIdeal Cert.KernelIdeal.Gen
open Idealize.ShloMosaic

variable {F : FTy → Type} [FloatOps F]

/-- The upper and the lower chunk of a tile of 2048 rows of 128 lanes. -/
abbrev chunk0 {φ : EltTy} (x : Vec F S2048x128 φ) : Vec F S1024x128 φ := VecWindow.window x ![0, 0] S1024x128.size inb_S2048x128_S1024x128_0_0
abbrev chunk1 {φ : EltTy} (x : Vec F S2048x128 φ) : Vec F S1024x128 φ := VecWindow.window x ![1024, 0] S1024x128.size inb_S2048x128_S1024x128_1024_0

/-- The upper and the lower half of a query tile, of its row maxima and of its sums. -/
abbrev half0 {φ : EltTy} (x : Vec F S512x256 φ) : Vec F S256x256 φ := VecWindow.window x ![0, 0] S256x256.size inb_S512x256_S256x256_0_0
abbrev half1 {φ : EltTy} (x : Vec F S512x256 φ) : Vec F S256x256 φ := VecWindow.window x ![256, 0] S256x256.size inb_S512x256_S256x256_256_0
abbrev mhalf0 (x : Vec F S512x1 .f32) : Vec F S256x1 .f32 := VecWindow.window x ![0, 0] S256x1.size inb_S512x1_S256x1_0_0
abbrev mhalf1 (x : Vec F S512x1 .f32) : Vec F S256x1 .f32 := VecWindow.window x ![256, 0] S256x1.size inb_S512x1_S256x1_256_0

/-- The row maxima of a half after a chunk of keys `k`. -/
def chunkMax (k : Vec F S1024x256 .bf16) (q : Vec F S256x256 .bf16) (m : Vec F S256x1 .f32) : Vec F S256x1 .f32 := k0_pay15 k q m

/-- The sums of a half after a chunk of keys `k` with values `v`. -/
def chunkAcc (k v : Vec F S1024x256 .bf16) (q : Vec F S256x256 .bf16) (m : Vec F S256x1 .f32) (a : Vec F S256x256 .f32) : Vec F S256x256 .f32 :=
  k0_pay14 k v q m a

/-- The row maxima of a half after a tile of keys. -/
def tileMax (kn kr : Vec F S2048x128 .bf16) (q : Vec F S256x256 .bf16) (m : Vec F S256x1 .f32) : Vec F S256x1 .f32 :=
  chunkMax (k0_pay6 (chunk1 kn) (chunk1 kr)) q (chunkMax (k0_pay6 (chunk0 kn) (chunk0 kr)) q m)

/-- The sums of a half after a tile of keys. -/
def tileAcc (kn v kr : Vec F S2048x128 .bf16) (q : Vec F S256x256 .bf16) (m : Vec F S256x1 .f32) (a : Vec F S256x256 .f32) : Vec F S256x256 .f32 :=
  chunkAcc (k0_pay6 (chunk1 kn) (chunk1 kr)) (k0_pay7 (chunk1 v)) q (chunkMax (k0_pay6 (chunk0 kn) (chunk0 kr)) q m)
    (chunkAcc (k0_pay6 (chunk0 kn) (chunk0 kr)) (k0_pay7 (chunk0 v)) q m a)

/-- The row maxima of a query tile after a tile of keys. -/
def fwdMax (q : Vec F S512x256 .bf16) (kn kr : Vec F S2048x128 .bf16) (m : Vec F S512x1 .f32) : Vec F S512x1 .f32 :=
  stack 512 rfl (tileMax kn kr (half0 q) (mhalf0 m)) (tileMax kn kr (half1 q) (mhalf1 m))

/-- The sums of a query tile after a tile of keys. -/
def fwdAcc (q : Vec F S512x256 .bf16) (kn v kr : Vec F S2048x128 .bf16) (m : Vec F S512x1 .f32) (a : Vec F S512x256 .f32) : Vec F S512x256 .f32 :=
  stack 512 rfl (tileAcc kn v kr (half0 q) (mhalf0 m) (half0 a)) (tileAcc kn v kr (half1 q) (mhalf1 m) (half1 a))

/-- The output's block: the weighted sums over the sum of the weights. -/
def fwdOut (a : Vec F S512x256 .f32) : Vec F S512x128 .f32 :=
  k0_pay2 (VecWindow.window a ![0, 128] S512x128.size inb_S512x256_S512x128_0_128) (VecWindow.window a ![0, 0] S512x128.size inb_S512x256_S512x128_0_0)

/-- The log-sums' block. -/
def fwdLse (m : Vec F S512x1 .f32) (a : Vec F S512x256 .f32) : Vec F S1x512x128 .f32 :=
  k0_pay3 (VecWindow.window a ![0, 128] S512x128.size inb_S512x256_S512x128_0_128) m

end Cert.Attn

end
-- ==== Proof.Bwd.Step.lean ====
/- What one point of the backward grid does to the gradients it accumulates, in the kernel's own pure operations. A query tile is two halves of 512
   rows, a key tile two chunks of 1024 rows; each half meets each chunk once. -/
module

public import proofs.«01_k».proof.Proof.Fwd.Step

@[expose] public section

set_option maxRecDepth 16384

noncomputable section

namespace Cert.Attn

open Cert.KernelIdeal Cert.KernelIdeal.Gen
open Idealize.ShloMosaic

variable {F : FTy → Type} [FloatOps F]

/-- The halves of a query tile, of the tiles of the outputs and of their gradients, and of the log-sums. -/
abbrev qhalf0 {φ : EltTy} (x : Vec F S1024x256 φ) : Vec F S512x256 φ := VecWindow.window x ![0, 0] S512x256.size inb_S1024x256_S512x256_0_0
abbrev qhalf1 {φ : EltTy} (x : Vec F S1024x256 φ) : Vec F S512x256 φ := VecWindow.window x ![512, 0] S512x256.size inb_S1024x256_S512x256_512_0
abbrev ohalf0 {φ : EltTy} (x : Vec F S1024x128 φ) : Vec F S512x128 φ := VecWindow.window x ![0, 0] S512x128.size inb_S1024x128_S512x128_0_0
abbrev ohalf1 {φ : EltTy} (x : Vec F S1024x128 φ) : Vec F S512x128 φ := VecWindow.window x ![512, 0] S512x128.size inb_S1024x128_S512x128_512_0
abbrev lhalf0 (x : Vec F S1x1024x128 .f32) : Vec F S1x512x128 .f32 := VecWindow.window x ![0, 0, 0] S1x512x128.size inb_S1x1024x128_S1x512x128_0_0_0
abbrev lhalf1 (x : Vec F S1x1024x128 .f32) : Vec F S1x512x128 .f32 := VecWindow.window x ![0, 512, 0] S1x512x128.size inb_S1x1024x128_S1x512x128_0_512_0

/-- The upper and the lower chunk of the sums of the gradient of the keys. -/
abbrev kchunk0 (x : Vec F S2048x256 .f32) : Vec F S1024x256 .f32 := VecWindow.window x ![0, 0] S1024x256.size inb_S2048x256_S1024x256_0_0
abbrev kchunk1 (x : Vec F S2048x256 .f32) : Vec F S1024x256 .f32 := VecWindow.window x ![1024, 0] S1024x256.size inb_S2048x256_S1024x256_1024_0

/-- The weights of a half's queries on a chunk of keys. -/
def weights (kn kr : Vec F S1024x128 .bf16) (q : Vec F S512x256 .bf16) (l : Vec F S1x512x128 .f32) : Vec F S512x1024 .f32 :=
  k1_pay34 q (k1_pay25 l) kn kr

/-- The gradient of the scores of a half's queries on a chunk of keys. -/
def dscores (kn v kr : Vec F S1024x128 .bf16) (q : Vec F S512x256 .bf16) (o : Vec F S512x128 .f32) (l : Vec F S1x512x128 .f32)
    (g : Vec F S512x128 .f32) : Vec F S512x1024 .bf16 :=
  k1_pay35 q (k1_pay23 g) (k1_pay24 g o) (k1_pay25 l) kn kr v

/-- The sums of the gradient of a chunk's values after a half of the queries. -/
def chunkDv (kn kr : Vec F S1024x128 .bf16) (q : Vec F S512x256 .bf16) (l : Vec F S1x512x128 .f32) (g : Vec F S512x128 .f32)
    (a : Vec F S1024x128 .f32) : Vec F S1024x128 .f32 :=
  k1_pay1 (k1_pay23 g) (weights kn kr q l) a

/-- The sums of the gradient of a chunk's keys after a half of the queries. -/
def chunkDk (kn v kr : Vec F S1024x128 .bf16) (q : Vec F S512x256 .bf16) (o : Vec F S512x128 .f32) (l : Vec F S1x512x128 .f32)
    (g : Vec F S512x128 .f32) (a : Vec F S1024x256 .f32) : Vec F S1024x256 .f32 :=
  k1_pay2 q (dscores kn v kr q o l g) a

/-- The sums of the gradient of a half's queries after a tile of keys. -/
def halfDq (kn v kr : Vec F S2048x128 .bf16) (q : Vec F S512x256 .bf16) (o : Vec F S512x128 .f32) (l : Vec F S1x512x128 .f32)
    (g : Vec F S512x128 .f32) (a : Vec F S512x256 .f32) : Vec F S512x256 .f32 :=
  k1_pay3 (k1_pay16 (k1_pay11 (chunk0 kn) (chunk0 kr)) (dscores (chunk0 kn) (chunk0 v) (chunk0 kr) q o l g)) (k1_pay33 (chunk1 kn) (chunk1 kr))
    (dscores (chunk1 kn) (chunk1 v) (chunk1 kr) q o l g) a

/-- The sums of the gradient of a tile's values after a tile of queries. -/
def bwdDv (q : Vec F S1024x256 .bf16) (kn kr : Vec F S2048x128 .bf16) (l : Vec F S1x1024x128 .f32) (g : Vec F S1024x128 .f32)
    (a : Vec F S2048x128 .f32) : Vec F S2048x128 .f32 :=
  stack 2048 rfl
    (chunkDv (chunk0 kn) (chunk0 kr) (qhalf1 q) (lhalf1 l) (ohalf1 g) (chunkDv (chunk0 kn) (chunk0 kr) (qhalf0 q) (lhalf0 l) (ohalf0 g) (chunk0 a)))
    (chunkDv (chunk1 kn) (chunk1 kr) (qhalf1 q) (lhalf1 l) (ohalf1 g) (chunkDv (chunk1 kn) (chunk1 kr) (qhalf0 q) (lhalf0 l) (ohalf0 g) (chunk1 a)))

/-- The sums of the gradient of a tile's keys after a tile of queries. -/
def bwdDk (q : Vec F S1024x256 .bf16) (kn v kr : Vec F S2048x128 .bf16) (o : Vec F S1024x128 .f32) (l : Vec F S1x1024x128 .f32)
    (g : Vec F S1024x128 .f32) (a : Vec F S2048x256 .f32) : Vec F S2048x256 .f32 :=
  stack 2048 rfl
    (chunkDk (chunk0 kn) (chunk0 v) (chunk0 kr) (qhalf1 q) (ohalf1 o) (lhalf1 l) (ohalf1 g)
      (chunkDk (chunk0 kn) (chunk0 v) (chunk0 kr) (qhalf0 q) (ohalf0 o) (lhalf0 l) (ohalf0 g) (kchunk0 a)))
    (chunkDk (chunk1 kn) (chunk1 v) (chunk1 kr) (qhalf1 q) (ohalf1 o) (lhalf1 l) (ohalf1 g)
      (chunkDk (chunk1 kn) (chunk1 v) (chunk1 kr) (qhalf0 q) (ohalf0 o) (lhalf0 l) (ohalf0 g) (kchunk1 a)))

/-- The rows of the queries' gradient that point `i` adds to, half by half. -/
abbrev dqRows0 (i : grid1.Coords) (x : Vec F S8192x256 .f32) : Vec F S512x256 .f32 := VecWindow.window x (k1_off1 i 0#32) S512x256.size (k1_off1_inb i 0)
abbrev dqRows1 (i : grid1.Coords) (x : Vec F S8192x256 .f32) : Vec F S512x256 .f32 := VecWindow.window x (k1_off1 i 512#32) S512x256.size (k1_off1_inb i 1)

/-- The queries' gradient after point `i`. -/
def bwdDq (i : grid1.Coords) (q : Vec F S1024x256 .bf16) (kn v kr : Vec F S2048x128 .bf16) (o : Vec F S1024x128 .f32) (l : Vec F S1x1024x128 .f32)
    (g : Vec F S1024x128 .f32) (x : Vec F S8192x256 .f32) : Vec F S8192x256 .f32 :=
  VecWindow.put (VecWindow.put x (k1_off1 i 0#32) S512x256.size (halfDq kn v kr (qhalf0 q) (ohalf0 o) (lhalf0 l) (ohalf0 g) (dqRows0 i x)))
    (k1_off1 i 512#32) S512x256.size (halfDq kn v kr (qhalf1 q) (ohalf1 o) (lhalf1 l) (ohalf1 g) (dqRows1 i x))

/-- The second half's rows lie below the first half's. -/
theorem dqRows1_put (i : grid1.Coords) (x : Vec F S8192x256 .f32) (w : ((a : Fin 2) → Fin ((![512, 256] : Fin 2 → ℕ) a)) → Elt F .f32)
    (inb : ∀ a, k1_off1 i 512#32 a + (![512, 256] : Fin 2 → ℕ) a ≤ (⟨2, ![8192, 256]⟩ : Shape).size a) :
    VecWindow.window (VecWindow.put (s := ⟨2, ![8192, 256]⟩) x (k1_off1 i 0#32) ![512, 256] w) (k1_off1 i 512#32) ![512, 256] inb = dqRows1 i x :=
  VecWindow.window_put_of_disjoint (s := S8192x256) x (k1_off1 i 0#32) S512x256.size (k1_off1 i 512#32) S512x256.size (k1_off1_inb i 1) w 0 (Or.inr (by
    have e0 : k1_off1 i 0#32 = ![1024 * (i 2).val + 512 * 0, 0] := k1_off1_eq i 0
    have e1 : k1_off1 i 512#32 = ![1024 * (i 2).val + 512 * 1, 0] := k1_off1_eq i 1
    rw [e0, e1]
    show 1024 * (i 2).val + 512 * 0 + 512 ≤ 1024 * (i 2).val + 512 * 1
    omega))

/-- The block of the keys' and the values' gradients. -/
def bwdDkv (dk : Vec F S2048x256 .f32) (dv : Vec F S2048x128 .f32) : Vec F S2048x256 .bf16 :=
  k1_pay4 (VecWindow.window dk ![0, 0] S2048x128.size inb_S2048x256_S2048x128_0_0) dv

/-- The block of the rotary keys' gradient. -/
def bwdDkr (dk : Vec F S2048x256 .f32) : Vec F S2048x128 .f32 := VecWindow.window dk ![0, 128] S2048x128.size inb_S2048x256_S2048x128_0_128

end Cert.Attn

end
-- ==== Proof.Bwd.Run.lean ====
/- The backward kernel's body, run at each kind of point of its grid: a head's first point, the first query tile of a later key tile, a later
   query tile, the last one. -/
module

public import proofs.«01_k».proof.Proof.Bwd.Step

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- At a head's first point all three gradients start afresh. -/
theorem bwdRunA (c : Dev nD) (i : grid1.Coords) (arg3 : Memref sig .tc .vmem S1024x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x128 .f32) (harg14 : arg14.IsWhole)
    (hc0 : bwdFirst i) (hc1 : bwdHead i) (hc2 : ¬bwdLast i) (x0 : Vec F S1024x256 .bf16) (x1 x2 x3 : Vec F S2048x128 .bf16) (x4 : Vec F S1024x128 .f32) (x5 : Vec F S1x1024x128 .f32) (x6 : Vec F S1024x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (bwdDq i x0 x1 x2 x3 x4 x5 x6 k1_pay7) ∗ owns (c : Thread nD τ) arg13 fullShare (bwdDk x0 x1 x2 x3 x4 x5 x6 k1_pay5) ∗ owns (c : Thread nD τ) arg14 fullShare (bwdDv x0 x1 x3 x5 x6 k1_pay6)) -∗ K ⟨⟩))
      ⊢ wp frame (wpE (defs₀ (F := F)) Variants.none c none) E (cc1_l0_d_attn i arg3 harg3 arg4 harg4 arg5 harg5 arg6 harg6 arg7 harg7 arg8 harg8 arg9 harg9 arg10 harg10 arg11 harg11 arg12 harg12 arg13 harg13 arg14 harg14) K := by
  simp only [cc1_l0_d_attn_eq_skeleton]; unfold cc1_l0_d_attn_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d10, %f10, -, H10⟩, ⟨%d13, %f13, -, H13⟩, ⟨%d14, %f14, -, H14⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H10]
  · iexists _; isplitr; swap; iexact H10
    ipureintro
    sl_open_run
    simp (discharger := decide) only [load_window, load_stored, stored_put, View.writes_nil, window_put_rows, put_whole, window_whole, put_put_stack, window_stack_upper, window_stack_lower, Memref.IsWhole.read_unread, window_put_apart]
    rw [dqRows1_put]
    rfl
  isplitl [H13]
  · iexists _; isplitr; swap; iexact H13
    ipureintro
    sl_open_run
    simp (discharger := decide) only [load_window, load_stored, stored_put, View.writes_nil, window_put_rows, put_whole, window_whole, put_put_stack, window_stack_upper, window_stack_lower, Memref.IsWhole.read_unread, window_put_apart]
    rfl
  iexists _; isplitr; swap; iexact H14
  ipureintro
  sl_open_run
  simp (discharger := decide) only [load_window, load_stored, stored_put, View.writes_nil, window_put_rows, put_whole, window_whole, put_put_stack, window_stack_upper, window_stack_lower, Memref.IsWhole.read_unread, window_put_apart]
  rfl

set_option maxHeartbeats 4000000 in
/-- At the first query tile of a later key tile the keys' and the values' gradients start afresh. -/
theorem bwdRunB (c : Dev nD) (i : grid1.Coords) (arg3 : Memref sig .tc .vmem S1024x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x128 .f32) (harg14 : arg14.IsWhole)
    (hc0 : bwdFirst i) (hc1 : ¬bwdHead i) (hc2 : ¬bwdLast i) (x0 : Vec F S1024x256 .bf16) (x1 x2 x3 : Vec F S2048x128 .bf16) (x4 : Vec F S1024x128 .f32) (x5 : Vec F S1x1024x128 .f32) (x6 : Vec F S1024x128 .f32) (x7 : Vec F S8192x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (bwdDq i x0 x1 x2 x3 x4 x5 x6 x7) ∗ owns (c : Thread nD τ) arg13 fullShare (bwdDk x0 x1 x2 x3 x4 x5 x6 k1_pay5) ∗ owns (c : Thread nD τ) arg14 fullShare (bwdDv x0 x1 x3 x5 x6 k1_pay6)) -∗ K ⟨⟩))
      ⊢ wp frame (wpE (defs₀ (F := F)) Variants.none c none) E (cc1_l0_d_attn i arg3 harg3 arg4 harg4 arg5 harg5 arg6 harg6 arg7 harg7 arg8 harg8 arg9 harg9 arg10 harg10 arg11 harg11 arg12 harg12 arg13 harg13 arg14 harg14) K := by
  simp only [cc1_l0_d_attn_eq_skeleton]; unfold cc1_l0_d_attn_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f10, %hf10, H10⟩, ⟨%d13, %f13, -, H13⟩, ⟨%d14, %f14, -, H14⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf10
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H10]
  · iexists _; isplitr; swap; iexact H10
    ipureintro
    sl_open_run
    simp (discharger := decide) only [load_window, load_stored, stored_put, View.writes_nil, window_put_rows, put_whole, window_whole, put_put_stack, window_stack_upper, window_stack_lower, Memref.IsWhole.read_unread, window_put_apart]
    rfl
  isplitl [H13]
  · iexists _; isplitr; swap; iexact H13
    ipureintro
    sl_open_run
    simp (discharger := decide) only [load_window, load_stored, stored_put, View.writes_nil, window_put_rows, put_whole, window_whole, put_put_stack, window_stack_upper, window_stack_lower, Memref.IsWhole.read_unread, window_put_apart]
    rfl
  iexists _; isplitr; swap; iexact H14
  ipureintro
  sl_open_run
  simp (discharger := decide) only [load_window, load_stored, stored_put, View.writes_nil, window_put_rows, put_whole, window_whole, put_put_stack, window_stack_upper, window_stack_lower, Memref.IsWhole.read_unread, window_put_apart]
  rfl

set_option maxHeartbeats 4000000 in
/-- At a later query tile all three go on. -/
theorem bwdRunC (c : Dev nD) (i : grid1.Coords) (arg3 : Memref sig .tc .vmem S1024x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x128 .f32) (harg14 : arg14.IsWhole)
    (hc0 : ¬bwdFirst i) (hc1 : ¬bwdHead i) (hc2 : ¬bwdLast i) (x0 : Vec F S1024x256 .bf16) (x1 x2 x3 : Vec F S2048x128 .bf16) (x4 : Vec F S1024x128 .f32) (x5 : Vec F S1x1024x128 .f32) (x6 : Vec F S1024x128 .f32) (x7 : Vec F S8192x256 .f32) (xs0 : Vec F S2048x256 .f32) (xs1 : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg13 fullShare xs0 ∗ owns (c : Thread nD τ) arg14 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (bwdDq i x0 x1 x2 x3 x4 x5 x6 x7) ∗ owns (c : Thread nD τ) arg13 fullShare (bwdDk x0 x1 x2 x3 x4 x5 x6 xs0) ∗ owns (c : Thread nD τ) arg14 fullShare (bwdDv x0 x1 x3 x5 x6 xs1)) -∗ K ⟨⟩))
      ⊢ wp frame (wpE (defs₀ (F := F)) Variants.none c none) E (cc1_l0_d_attn i arg3 harg3 arg4 harg4 arg5 harg5 arg6 harg6 arg7 harg7 arg8 harg8 arg9 harg9 arg10 harg10 arg11 harg11 arg12 harg12 arg13 harg13 arg14 harg14) K := by
  simp only [cc1_l0_d_attn_eq_skeleton]; unfold cc1_l0_d_attn_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f10, %hf10, H10⟩, ⟨%f13, %hf13, H13⟩, ⟨%f14, %hf14, H14⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf10; obtain rfl := harg13.eq_unread hf13; obtain rfl := harg14.eq_unread hf14
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H10]
  · iexists _; isplitr; swap; iexact H10
    ipureintro
    sl_open_run
    simp (discharger := decide) only [load_window, load_stored, stored_put, View.writes_nil, window_put_rows, put_whole, window_whole, put_put_stack, window_stack_upper, window_stack_lower, Memref.IsWhole.read_unread, window_put_apart]
    rfl
  isplitl [H13]
  · iexists _; isplitr; swap; iexact H13
    ipureintro
    sl_open_run
    simp (discharger := decide) only [load_window, load_stored, stored_put, View.writes_nil, window_put_rows, put_whole, window_whole, put_put_stack, window_stack_upper, window_stack_lower, Memref.IsWhole.read_unread, window_put_apart]
    rfl
  iexists _; isplitr; swap; iexact H14
  ipureintro
  sl_open_run
  simp (discharger := decide) only [load_window, load_stored, stored_put, View.writes_nil, window_put_rows, put_whole, window_whole, put_put_stack, window_stack_upper, window_stack_lower, Memref.IsWhole.read_unread, window_put_apart]
  rfl

set_option maxHeartbeats 4000000 in
/-- At the last query tile the keys' and the values' gradients are stored as well. -/
theorem bwdRunD (c : Dev nD) (i : grid1.Coords) (arg3 : Memref sig .tc .vmem S1024x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x128 .f32) (harg7 : arg7.IsWhole) (arg8 : Memref sig .tc .vmem S1x1024x128 .f32) (harg8 : arg8.IsWhole) (arg9 : Memref sig .tc .vmem S1024x128 .f32) (harg9 : arg9.IsWhole) (arg10 : Memref sig .tc .vmem S8192x256 .f32) (harg10 : arg10.IsWhole) (arg11 : Memref sig .tc .vmem S2048x256 .bf16) (harg11 : arg11.IsWhole) (arg12 : Memref sig .tc .vmem S2048x128 .f32) (harg12 : arg12.IsWhole) (arg13 : Memref sig .tc .vmem S2048x256 .f32) (harg13 : arg13.IsWhole) (arg14 : Memref sig .tc .vmem S2048x128 .f32) (harg14 : arg14.IsWhole)
    (hc0 : ¬bwdFirst i) (hc1 : ¬bwdHead i) (hc2 : bwdLast i) (x0 : Vec F S1024x256 .bf16) (x1 x2 x3 : Vec F S2048x128 .bf16) (x4 : Vec F S1024x128 .f32) (x5 : Vec F S1x1024x128 .f32) (x6 : Vec F S1024x128 .f32) (x7 : Vec F S8192x256 .f32) (xs0 : Vec F S2048x256 .f32) (xs1 : Vec F S2048x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xs0 ∗ owns (c : Thread nD τ) arg14 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (bwdDq i x0 x1 x2 x3 x4 x5 x6 x7) ∗ owns (c : Thread nD τ) arg11 fullShare (bwdDkv (bwdDk x0 x1 x2 x3 x4 x5 x6 xs0) (bwdDv x0 x1 x3 x5 x6 xs1)) ∗ owns (c : Thread nD τ) arg12 fullShare (bwdDkr (bwdDk x0 x1 x2 x3 x4 x5 x6 xs0)) ∗ owns (c : Thread nD τ) arg13 fullShare (bwdDk x0 x1 x2 x3 x4 x5 x6 xs0) ∗ owns (c : Thread nD τ) arg14 fullShare (bwdDv x0 x1 x3 x5 x6 xs1)) -∗ K ⟨⟩))
      ⊢ wp frame (wpE (defs₀ (F := F)) Variants.none c none) E (cc1_l0_d_attn i arg3 harg3 arg4 harg4 arg5 harg5 arg6 harg6 arg7 harg7 arg8 harg8 arg9 harg9 arg10 harg10 arg11 harg11 arg12 harg12 arg13 harg13 arg14 harg14) K := by
  simp only [cc1_l0_d_attn_eq_skeleton]; unfold cc1_l0_d_attn_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f10, %hf10, H10⟩, ⟨%d11, %f11, -, H11⟩, ⟨%d12, %f12, -, H12⟩, ⟨%f13, %hf13, H13⟩, ⟨%f14, %hf14, H14⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf10; obtain rfl := harg13.eq_unread hf13; obtain rfl := harg14.eq_unread hf14
  sl_exec (disch := first | sl_exact hc0 | sl_exact hc1 | sl_exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H10]
  · iexists _; isplitr; swap; iexact H10
    ipureintro
    sl_open_run
    simp (discharger := decide) only [load_window, load_stored, stored_put, View.writes_nil, window_put_rows, put_whole, window_whole, put_put_stack, window_stack_upper, window_stack_lower, Memref.IsWhole.read_unread, window_put_apart]
    rfl
  isplitl [H11]
  · iexists _; isplitr; swap; iexact H11
    ipureintro
    sl_open_run
    simp (discharger := decide) only [load_window, load_stored, stored_put, View.writes_nil, window_put_rows, put_whole, window_whole, put_put_stack, window_stack_upper, window_stack_lower, Memref.IsWhole.read_unread, window_put_apart]
    rfl
  isplitl [H12]
  · iexists _; isplitr; swap; iexact H12
    ipureintro
    sl_open_run
    simp (discharger := decide) only [load_window, load_stored, stored_put, View.writes_nil, window_put_rows, put_whole, window_whole, put_put_stack, window_stack_upper, window_stack_lower, Memref.IsWhole.read_unread, window_put_apart]
    rfl
  isplitl [H13]
  · iexists _; isplitr; swap; iexact H13
    ipureintro
    sl_open_run
    simp (discharger := decide) only [load_window, load_stored, stored_put, View.writes_nil, window_put_rows, put_whole, window_whole, put_put_stack, window_stack_upper, window_stack_lower, Memref.IsWhole.read_unread, window_put_apart]
    rfl
  iexists _; isplitr; swap; iexact H14
  ipureintro
  sl_open_run
  simp (discharger := decide) only [load_window, load_stored, stored_put, View.writes_nil, window_put_rows, put_whole, window_whole, put_put_stack, window_stack_upper, window_stack_lower, Memref.IsWhole.read_unread, window_put_apart]
  rfl

end Cert.Attn

end
-- ==== Proof.Fwd.Run.lean ====
/- The forward kernel's body, run at each kind of point of its grid: the first key tile of a query tile, a later one, the last one. -/
module

public import proofs.«01_k».proof.Proof.Fwd.Step

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- At the first key tile the maxima and the sums start afresh. -/
theorem fwdRunA (c : Dev nD) (i : grid0.Coords) (arg3 : Memref sig .tc .vmem S512x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x128 .f32) (harg7 : arg7.IsWhole) (arg8 : Memref sig .tc .vmem S1x512x128 .f32) (harg8 : arg8.IsWhole) (arg9 : Memref sig .tc .vmem S512x1 .f32) (harg9 : arg9.IsWhole) (arg10 : Memref sig .tc .vmem S512x256 .f32) (harg10 : arg10.IsWhole)
    (hc0 : fwdFirst i) (hc1 : ¬fwdLast i) (x0 : Vec F S512x256 .bf16) (x1 x2 x3 : Vec F S2048x128 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg9 fullShare (fwdMax x0 x1 x3 k0_pay4) ∗ owns (c : Thread nD τ) arg10 fullShare (fwdAcc x0 x1 x2 x3 k0_pay4 k0_pay5)) -∗ K ⟨⟩))
      ⊢ wp frame (wpE (defs₀ (F := F)) Variants.none c none) E (cc0_l0_attn i arg3 harg3 arg4 harg4 arg5 harg5 arg6 harg6 arg7 harg7 arg8 harg8 arg9 harg9 arg10 harg10) K := by
  simp only [cc0_l0_attn_eq_skeleton]; unfold cc0_l0_attn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d9, %f9, -, H9⟩, ⟨%d10, %f10, -, H10⟩, Hk⟩
  obtain rfl := harg3.eq_unread hf0; obtain rfl := harg4.eq_unread hf1; obtain rfl := harg5.eq_unread hf2; obtain rfl := harg6.eq_unread hf3
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr; swap; iexact H9
    ipureintro
    sl_open_run
    simp (discharger := decide) only [load_window, load_stored, stored_put, View.writes_nil, window_put_rows, put_whole, put_whole3, window_whole, put_put_stack, window_stack_upper, window_stack_lower, Memref.IsWhole.read_unread, window_put_apart]
    rfl
  iexists _; isplitr; swap; iexact H10
  ipureintro
  sl_open_run
  simp (discharger := decide) only [load_window, load_stored, stored_put, View.writes_nil, window_put_rows, put_whole, put_whole3, window_whole, put_put_stack, window_stack_upper, window_stack_lower, Memref.IsWhole.read_unread, window_put_apart]
  rfl

set_option maxHeartbeats 4000000 in
/-- At a later key tile the maxima and the sums go on. -/
theorem fwdRunB (c : Dev nD) (i : grid0.Coords) (arg3 : Memref sig .tc .vmem S512x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x128 .f32) (harg7 : arg7.IsWhole) (arg8 : Memref sig .tc .vmem S1x512x128 .f32) (harg8 : arg8.IsWhole) (arg9 : Memref sig .tc .vmem S512x1 .f32) (harg9 : arg9.IsWhole) (arg10 : Memref sig .tc .vmem S512x256 .f32) (harg10 : arg10.IsWhole)
    (hc0 : ¬fwdFirst i) (hc1 : ¬fwdLast i) (x0 : Vec F S512x256 .bf16) (x1 x2 x3 : Vec F S2048x128 .bf16) (xs0 : Vec F S512x1 .f32) (xs1 : Vec F S512x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg9 fullShare (fwdMax x0 x1 x3 xs0) ∗ owns (c : Thread nD τ) arg10 fullShare (fwdAcc x0 x1 x2 x3 xs0 xs1)) -∗ K ⟨⟩))
      ⊢ wp frame (wpE (defs₀ (F := F)) Variants.none c none) E (cc0_l0_attn i arg3 harg3 arg4 harg4 arg5 harg5 arg6 harg6 arg7 harg7 arg8 harg8 arg9 harg9 arg10 harg10) K := by
  simp only [cc0_l0_attn_eq_skeleton]; unfold cc0_l0_attn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f9, %hf9, H9⟩, ⟨%f10, %hf10, H10⟩, Hk⟩
  obtain rfl := harg3.eq_unread hf0; obtain rfl := harg4.eq_unread hf1; obtain rfl := harg5.eq_unread hf2; obtain rfl := harg6.eq_unread hf3; obtain rfl := harg9.eq_unread hf9; obtain rfl := harg10.eq_unread hf10
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H9]
  · iexists _; isplitr; swap; iexact H9
    ipureintro
    sl_open_run
    simp (discharger := decide) only [load_window, load_stored, stored_put, View.writes_nil, window_put_rows, put_whole, put_whole3, window_whole, put_put_stack, window_stack_upper, window_stack_lower, Memref.IsWhole.read_unread, window_put_apart]
    rfl
  iexists _; isplitr; swap; iexact H10
  ipureintro
  sl_open_run
  simp (discharger := decide) only [load_window, load_stored, stored_put, View.writes_nil, window_put_rows, put_whole, put_whole3, window_whole, put_put_stack, window_stack_upper, window_stack_lower, Memref.IsWhole.read_unread, window_put_apart]
  rfl

set_option maxHeartbeats 4000000 in
/-- At the last key tile the output and the log-sums are stored as well. -/
theorem fwdRunC (c : Dev nD) (i : grid0.Coords) (arg3 : Memref sig .tc .vmem S512x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S512x128 .f32) (harg7 : arg7.IsWhole) (arg8 : Memref sig .tc .vmem S1x512x128 .f32) (harg8 : arg8.IsWhole) (arg9 : Memref sig .tc .vmem S512x1 .f32) (harg9 : arg9.IsWhole) (arg10 : Memref sig .tc .vmem S512x256 .f32) (harg10 : arg10.IsWhole)
    (hc0 : ¬fwdFirst i) (hc1 : fwdLast i) (x0 : Vec F S512x256 .bf16) (x1 x2 x3 : Vec F S2048x128 .bf16) (xs0 : Vec F S512x1 .f32) (xs1 : Vec F S512x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (fwdOut (fwdAcc x0 x1 x2 x3 xs0 xs1)) ∗ owns (c : Thread nD τ) arg8 fullShare (fwdLse (fwdMax x0 x1 x3 xs0) (fwdAcc x0 x1 x2 x3 xs0 xs1)) ∗ owns (c : Thread nD τ) arg9 fullShare (fwdMax x0 x1 x3 xs0) ∗ owns (c : Thread nD τ) arg10 fullShare (fwdAcc x0 x1 x2 x3 xs0 xs1)) -∗ K ⟨⟩))
      ⊢ wp frame (wpE (defs₀ (F := F)) Variants.none c none) E (cc0_l0_attn i arg3 harg3 arg4 harg4 arg5 harg5 arg6 harg6 arg7 harg7 arg8 harg8 arg9 harg9 arg10 harg10) K := by
  simp only [cc0_l0_attn_eq_skeleton]; unfold cc0_l0_attn_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%f9, %hf9, H9⟩, ⟨%f10, %hf10, H10⟩, Hk⟩
  obtain rfl := harg3.eq_unread hf0; obtain rfl := harg4.eq_unread hf1; obtain rfl := harg5.eq_unread hf2; obtain rfl := harg6.eq_unread hf3; obtain rfl := harg9.eq_unread hf9; obtain rfl := harg10.eq_unread hf10
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; swap; iexact H7
    ipureintro
    sl_open_run
    simp (discharger := decide) only [load_window, load_stored, stored_put, View.writes_nil, window_put_rows, put_whole, put_whole3, window_whole, put_put_stack, window_stack_upper, window_stack_lower, Memref.IsWhole.read_unread, window_put_apart]
    rfl
  isplitl [H8]
  · iexists _; isplitr; swap; iexact H8
    ipureintro
    sl_open_run
    simp (discharger := decide) only [load_window, load_stored, stored_put, View.writes_nil, window_put_rows, put_whole, put_whole3, window_whole, put_put_stack, window_stack_upper, window_stack_lower, Memref.IsWhole.read_unread, window_put_apart]
    rfl
  isplitl [H9]
  · iexists _; isplitr; swap; iexact H9
    ipureintro
    sl_open_run
    simp (discharger := decide) only [load_window, load_stored, stored_put, View.writes_nil, window_put_rows, put_whole, put_whole3, window_whole, put_put_stack, window_stack_upper, window_stack_lower, Memref.IsWhole.read_unread, window_put_apart]
    rfl
  iexists _; isplitr; swap; iexact H10
  ipureintro
  sl_open_run
  simp (discharger := decide) only [load_window, load_stored, stored_put, View.writes_nil, window_put_rows, put_whole, put_whole3, window_whole, put_put_stack, window_stack_upper, window_stack_lower, Memref.IsWhole.read_unread, window_put_apart]
  rfl

end Cert.Attn

end
-- ==== Proof.Fwd.Data.lean ====
/- The forward call's proof data: what every window, the row maxima and the row sums hold after each point of its grid. -/
module

public import proofs.«01_k».proof.Proof.Fwd.Run

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The contents of the buffers when a call is entered. -/
abbrev Contents (F : FTy → Type) [FloatOps F] : Type := (c : Dev nD) → (b : Ref sig .tc) → Buf (Elt F) ((c : Thread nD τ).loc b)

variable (V : Contents F)

/-- The block of window `w` at point `t`. -/
def fwdBlock (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks of the queries, the keys' own lanes, the values and the shared key lanes. -/
abbrev fwdQ (c : Dev nD) (t : Fin cfg0.N) : Vec F S512x256 .bf16 := fwdBlock V c 0 t
abbrev fwdKn (c : Dev nD) (t : Fin cfg0.N) : Vec F S2048x128 .bf16 := fwdBlock V c 1 t
abbrev fwdV (c : Dev nD) (t : Fin cfg0.N) : Vec F S2048x128 .bf16 := fwdBlock V c 2 t
abbrev fwdKr (c : Dev nD) (t : Fin cfg0.N) : Vec F S2048x128 .bf16 := fwdBlock V c 3 t

/-- One point: the row maxima and sums it leaves, from those it finds. -/
def fwdStep (c : Dev nD) (t : Fin cfg0.N) (s : Vec F S512x1 .f32 × Vec F S512x256 .f32) : Vec F S512x1 .f32 × Vec F S512x256 .f32 :=
  (fwdMax (fwdQ V c t) (fwdKn V c t) (fwdKr V c t) s.1, fwdAcc (fwdQ V c t) (fwdKn V c t) (fwdV V c t) (fwdKr V c t) s.1 s.2)

/-- The row maxima and sums after point `n`: they start afresh at every fourth point. -/
def fwdAt (c : Dev nD) : (n : ℕ) → n < cfg0.N → Vec F S512x1 .f32 × Vec F S512x256 .f32
  | 0, h => fwdStep V c ⟨0, h⟩ (k0_pay4, k0_pay5)
  | n + 1, h => fwdStep V c ⟨n + 1, h⟩ (if (n + 1) % 4 = 0 then (k0_pay4, k0_pay5) else fwdAt c n (Nat.lt_of_succ_lt h))

theorem fwdAt_first (c : Dev nD) (t : Fin cfg0.N) (h : t.val % 4 = 0) : fwdAt V c t.val t.isLt = fwdStep V c t (k0_pay4, k0_pay5) := by
  obtain ⟨n, hn⟩ := t
  cases n with
  | zero => rfl
  | succ n => simp only [fwdAt, if_pos h]

theorem fwdAt_later (c : Dev nD) (t : Fin cfg0.N) (h : ¬t.val % 4 = 0) :
    fwdAt V c t.val t.isLt = fwdStep V c t (fwdAt V c (t.val - 1) (Nat.lt_of_le_of_lt (Nat.sub_le _ _) t.isLt)) := by
  obtain ⟨n, hn⟩ := t
  cases n with
  | zero => exact absurd (Nat.zero_mod _) h
  | succ n => simp only [fwdAt, if_neg h]; rfl

/-- The two scratch operands: the row maxima and the row sums. -/
abbrev fwdM : Memref sig .tc .vmem S512x1 .f32 := Memref.whole cc0_scratch0
abbrev fwdA : Memref sig .tc .vmem S512x256 .f32 := Memref.whole cc0_scratch1

theorem fwdOthers_ex (c : Dev nD) : ∃ R : sProp 𝕄, (Pipeline.scopedRest spec0 c : sProp 𝕄)
    = iprop((∃ d, owns (c : Thread nD τ) fwdM fullShare d) ∗ (∃ d, owns (c : Thread nD τ) fwdA fullShare d) ∗ R) := by
  simp only [fwdM, fwdA, owns_whole]
  exact ⟨_, scopedRest0_eq c⟩

/-- The scoped buffers the forward call does not use. -/
def fwdOthers (c : Dev nD) : sProp 𝕄 := (fwdOthers_ex c).choose

theorem fwdRest_eq (c : Dev nD) : (Pipeline.scopedRest spec0 c : sProp 𝕄)
    = iprop((∃ d, owns (c : Thread nD τ) fwdM fullShare d) ∗ (∃ d, owns (c : Thread nD τ) fwdA fullShare d) ∗ fwdOthers c) :=
  (fwdOthers_ex c).choose_spec

/-- Between points: the scratch operands hold what the point before left. -/
def fwdPhi (c : Dev nD) : (n : ℕ) → n ≤ cfg0.N → sProp 𝕄
  | 0, _ => Pipeline.scopedRest spec0 c
  | n + 1, hn => iprop(owns (c : Thread nD τ) fwdM fullShare (fwdAt V c n hn).1 ∗ owns (c : Thread nD τ) fwdA fullShare (fwdAt V c n hn).2 ∗ fwdOthers c)

theorem fwdPhi_pos (c : Dev nD) (n : ℕ) (h : n ≤ cfg0.N) (hz : n ≠ 0) :
    fwdPhi V c n h = iprop(owns (c : Thread nD τ) fwdM fullShare (fwdAt V c (n - 1) (by omega)).1
      ∗ owns (c : Thread nD τ) fwdA fullShare (fwdAt V c (n - 1) (by omega)).2 ∗ fwdOthers c) := by
  cases n with
  | zero => exact absurd rfl hz
  | succ n => rfl

/-- Forgetting what the scratch operands hold. -/
theorem fwdPhi_any (c : Dev nD) (n : ℕ) (h : n ≤ cfg0.N) : fwdPhi V c n h ⊢ Pipeline.scopedRest spec0 c := by
  by_cases hz : n = 0
  · subst hz; exact .rfl
  · rw [fwdPhi_pos V c n h hz, fwdRest_eq]
    iintro ⟨H0, H1, H2⟩
    isplitl [H0]; · iexists _; iexact H0
    isplitl [H1]; · iexists _; iexact H1
    iexact H2

/-- The proof data of the forward call. -/
def fwdDat (c : Dev nD) : Dat τ (Elt F) Unit ℕ (UR sig nD τ) ℕ cfg0 c where
  A w := V c (Pipeline.arrRef spec0 w)
  after w t := match w with
    | ⟨0, _⟩ => fwdBlock V c 0 t
    | ⟨1, _⟩ => fwdBlock V c 1 t
    | ⟨2, _⟩ => fwdBlock V c 2 t
    | ⟨3, _⟩ => fwdBlock V c 3 t
    | ⟨4, _⟩ => fwdOut (fwdAt V c t.val t.isLt).2
    | ⟨5, _⟩ => fwdLse (fwdAt V c t.val t.isLt).1 (fwdAt V c t.val t.isLt).2
  Φ t := fwdPhi V c t.val (Nat.le_of_lt_succ t.isLt)
  q w := Pipeline.shareOf spec0 w
  owed _ := 0

theorem fwdDat_A (c : Dev nD) (w : Fin cfg0.W) : (fwdDat V c).A w = V c (Pipeline.arrRef spec0 w) := by dsimp only [fwdDat]
theorem fwdDat_after0 (c : Dev nD) (t : Fin cfg0.N) : (fwdDat V c).after 0 t = fwdBlock V c 0 t := by dsimp only [fwdDat]
theorem fwdDat_after1 (c : Dev nD) (t : Fin cfg0.N) : (fwdDat V c).after 1 t = fwdBlock V c 1 t := by dsimp only [fwdDat]
theorem fwdDat_after2 (c : Dev nD) (t : Fin cfg0.N) : (fwdDat V c).after 2 t = fwdBlock V c 2 t := by dsimp only [fwdDat]
theorem fwdDat_after3 (c : Dev nD) (t : Fin cfg0.N) : (fwdDat V c).after 3 t = fwdBlock V c 3 t := by dsimp only [fwdDat]
theorem fwdDat_after4 (c : Dev nD) (t : Fin cfg0.N) : (fwdDat V c).after 4 t = fwdOut (fwdAt V c t.val t.isLt).2 := by dsimp only [fwdDat]
theorem fwdDat_after5 (c : Dev nD) (t : Fin cfg0.N) : (fwdDat V c).after 5 t = fwdLse (fwdAt V c t.val t.isLt).1 (fwdAt V c t.val t.isLt).2 := by dsimp only [fwdDat]

/-! An input window holds its block at every point. -/

theorem fwdDat_before0 (c : Dev nD) (t : Fin cfg0.N) (d) : (fwdDat V c).before 0 t d = fwdBlock V c 0 t :=
  ((fwdDat V c).before_in_eq_fetched 0 rfl (fun _ => rfl) (fun _ _ _ => rfl) (fun t => by rw [fwdDat_after0]; unfold Dat.blockOf fwdBlock; rw [fwdDat_A]) t d).trans
    (by unfold Dat.fetched Dat.blockOf fwdBlock; rw [fwdDat_A]; rfl)
theorem fwdDat_before1 (c : Dev nD) (t : Fin cfg0.N) (d) : (fwdDat V c).before 1 t d = fwdBlock V c 1 t :=
  ((fwdDat V c).before_in_eq_fetched 1 rfl (fun _ => rfl) (fun _ _ _ => rfl) (fun t => by rw [fwdDat_after1]; unfold Dat.blockOf fwdBlock; rw [fwdDat_A]) t d).trans
    (by unfold Dat.fetched Dat.blockOf fwdBlock; rw [fwdDat_A]; rfl)
theorem fwdDat_before2 (c : Dev nD) (t : Fin cfg0.N) (d) : (fwdDat V c).before 2 t d = fwdBlock V c 2 t :=
  ((fwdDat V c).before_in_eq_fetched 2 rfl (fun _ => rfl) (fun _ _ _ => rfl) (fun t => by rw [fwdDat_after2]; unfold Dat.blockOf fwdBlock; rw [fwdDat_A]) t d).trans
    (by unfold Dat.fetched Dat.blockOf fwdBlock; rw [fwdDat_A]; rfl)
theorem fwdDat_before3 (c : Dev nD) (t : Fin cfg0.N) (d) : (fwdDat V c).before 3 t d = fwdBlock V c 3 t :=
  ((fwdDat V c).before_in_eq_fetched 3 rfl (fun _ => rfl) (fun _ _ _ => rfl) (fun t => by rw [fwdDat_after3]; unfold Dat.blockOf fwdBlock; rw [fwdDat_A]) t d).trans
    (by unfold Dat.fetched Dat.blockOf fwdBlock; rw [fwdDat_A]; rfl)

/-! ## The branches over the grid -/

theorem fwdFirst_iff (t : Fin cfg0.N) : fwdFirst (grid0.coords t) ↔ t.val % 4 = 0 := by
  have ht : t.val < 512 := Nat.lt_of_lt_of_eq t.isLt N_0
  have e2 : (grid0.coords t 2).val = t.val / 1 % 4 := Pipeline.Grid.coords_val t 2 (by decide) rfl
  simp only [fwdFirst, e2]
  word_cmp

theorem fwdLast_iff (t : Fin cfg0.N) : fwdLast (grid0.coords t) ↔ t.val % 4 = 3 := by
  have ht : t.val < 512 := Nat.lt_of_lt_of_eq t.isLt N_0
  have e2 : (grid0.coords t 2).val = t.val / 1 % 4 := Pipeline.Grid.coords_val t 2 (by decide) rfl
  simp only [fwdLast, k0_cond2, e2]
  word_cmp

theorem fwdIdle4 (t : Fin cfg0.N) (h : ¬t.val % 4 = 3) : cfg0.idle 4 (grid0.coords t) = true := by
  have h' : ¬k0_cond2 (grid0.coords t) = 1#1 := fun e => h ((fwdLast_iff t).mp e)
  show (!(k0_cond2 (grid0.coords t) == 1#1)) = true
  simp [h']
theorem fwdIdle5 (t : Fin cfg0.N) (h : ¬t.val % 4 = 3) : cfg0.idle 5 (grid0.coords t) = true := fwdIdle4 t h
theorem fwdLive4 (t : Fin cfg0.N) (h : t.val % 4 = 3) : cfg0.idle 4 (grid0.coords t) = false := by
  have h' : k0_cond2 (grid0.coords t) = 1#1 := (fwdLast_iff t).mpr h
  show (!(k0_cond2 (grid0.coords t) == 1#1)) = false
  simp [h']
theorem fwdLive5 (t : Fin cfg0.N) (h : t.val % 4 = 3) : cfg0.idle 5 (grid0.coords t) = false := fwdLive4 t h
theorem fwdNoFlush4 (t : Fin cfg0.N) (h : ¬t.val % 4 = 3) : (cfg0.win 4).flush t = false :=
  Bool.eq_false_iff.mpr fun e => h ((flush0_4 t).mp e)
theorem fwdNoFlush5 (t : Fin cfg0.N) (h : ¬t.val % 4 = 3) : (cfg0.win 5).flush t = false :=
  Bool.eq_false_iff.mpr fun e => h ((flush0_5 t).mp e)

/-! ## The body at a point -/

/-- Before the body: the windows' buffers and the scratch. -/
def fwdPre (c : Dev nD) (t : Fin cfg0.N) : sProp 𝕄 :=
  iprop((fwdDat V c).Φ t.castSucc ∗ (fwdDat V c).owesAt () t.castSucc
    ∗ (∃ d, owns (c : Thread nD τ) (st0_0 t) fullShare ((fwdDat V c).before 0 t d))
    ∗ (∃ d, owns (c : Thread nD τ) (st0_1 t) fullShare ((fwdDat V c).before 1 t d))
    ∗ (∃ d, owns (c : Thread nD τ) (st0_2 t) fullShare ((fwdDat V c).before 2 t d))
    ∗ (∃ d, owns (c : Thread nD τ) (st0_3 t) fullShare ((fwdDat V c).before 3 t d))
    ∗ (∃ d, owns (c : Thread nD τ) (st0_4 t) fullShare ((fwdDat V c).before 4 t d))
    ∗ (∃ d, owns (c : Thread nD τ) (st0_5 t) fullShare ((fwdDat V c).before 5 t d)))

/-- After the body. -/
def fwdPost (c : Dev nD) (t : Fin cfg0.N) : sProp 𝕄 :=
  iprop((fwdDat V c).Φ t.succ ∗ (fwdDat V c).owesAt () t.succ
    ∗ (fwdDat V c).leavesExact 0 t ∗ (fwdDat V c).leavesExact 1 t ∗ (fwdDat V c).leavesExact 2 t
    ∗ (fwdDat V c).leavesExact 3 t ∗ (fwdDat V c).leavesExact 4 t ∗ (fwdDat V c).leavesExact 5 t)

theorem fwdLeaves (c : Dev nD) (w : Fin cfg0.W) (t : Fin cfg0.N) (h : cfg0.idle w (grid0.coords t) = false) :
    (fwdDat V c).leavesExact w t = owns (c : Thread nD τ) ((cfg0.win w).stage (cfg0.slots t w)) fullShare ((fwdDat V c).after w t) := by
  unfold Dat.leavesExact; rw [h]

set_option maxHeartbeats 4000000 in
theorem fwdBody (c : Dev nD) (t : Fin cfg0.N) :
    fwdPre V c t ⊢ wp frame (wpE (defs₀ (F := F)) Variants.none c none) Set.univ (bodyAt0 t) (fun _ => fwdPost V c t) := by
  unfold fwdPre fwdPost bodyAt0
  simp only [fwdDat_before0, fwdDat_before1, fwdDat_before2, fwdDat_before3]
  rw [show (fwdDat V c).owesAt () t.succ = (fwdDat V c).owesAt () t.castSucc from rfl]
  rw [show (fwdDat V c).Φ t.succ = iprop(owns (c : Thread nD τ) fwdM fullShare (fwdAt V c t.val t.isLt).1 ∗ owns (c : Thread nD τ) fwdA fullShare (fwdAt V c t.val t.isLt).2 ∗ fwdOthers c) from rfl]
  rw [show (fwdDat V c).Φ t.castSucc = fwdPhi V c t.val (Nat.le_of_lt t.isLt) from by dsimp only [fwdDat]; exact Pipeline.Dat.Φ_castSucc (fwdPhi V c) t]
  rw [fwdLeaves V c 0 t rfl, fwdLeaves V c 1 t rfl, fwdLeaves V c 2 t rfl, fwdLeaves V c 3 t rfl, fwdDat_after0, fwdDat_after1, fwdDat_after2, fwdDat_after3]
  by_cases h0 : t.val % 4 = 0
  · have h1 : ¬t.val % 4 = 3 := by omega
    rw [Dat.leavesExact_idle (fwdDat V c) 4 t (fwdIdle4 t h1) (fwdNoFlush4 t h1), Dat.leavesExact_idle (fwdDat V c) 5 t (fwdIdle5 t h1) (fwdNoFlush5 t h1)]
    rw [fwdAt_first V c t h0]
    refine (sep_mono (fwdPhi_any V c _ _) .rfl).trans ?_
    rw [fwdRest_eq]
    iintro ⟨⟨HS0, HS1, HR⟩, Ho, ⟨%d0, H0⟩, ⟨%d1, H1⟩, ⟨%d2, H2⟩, ⟨%d3, H3⟩, ⟨%d4, H4⟩, ⟨%d5, H5⟩⟩
    iapply (fwdRunA c (grid0.coords t) _ _ _ _ _ _ _ _ _ _ _ _ _ _ _ _ ((fwdFirst_iff t).mpr h0) (fun h => h1 ((fwdLast_iff t).mp h)) (fwdBlock V c 0 t) (fwdBlock V c 1 t) (fwdBlock V c 2 t) (fwdBlock V c 3 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun e => h0 (by omega)
    rw [fwdAt_later V c t h0, fwdPhi_pos V c _ _ hz]
    by_cases h1 : t.val % 4 = 3
    · rw [fwdLeaves V c 4 t (fwdLive4 t h1), fwdLeaves V c 5 t (fwdLive5 t h1), fwdDat_after4, fwdDat_after5, fwdAt_later V c t h0]
      iintro ⟨⟨HS0, HS1, HR⟩, Ho, ⟨%d0, H0⟩, ⟨%d1, H1⟩, ⟨%d2, H2⟩, ⟨%d3, H3⟩, ⟨%d4, H4⟩, ⟨%d5, H5⟩⟩
      iapply (fwdRunC c (grid0.coords t) _ _ _ _ _ _ _ _ _ _ _ _ _ _ _ _ (fun h => h0 ((fwdFirst_iff t).mp h)) ((fwdLast_iff t).mpr h1) (fwdBlock V c 0 t) (fwdBlock V c 1 t) (fwdBlock V c 2 t) (fwdBlock V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (fwdDat V c) 4 t (fwdIdle4 t h1) (fwdNoFlush4 t h1), Dat.leavesExact_idle (fwdDat V c) 5 t (fwdIdle5 t h1) (fwdNoFlush5 t h1)]
      iintro ⟨⟨HS0, HS1, HR⟩, Ho, ⟨%d0, H0⟩, ⟨%d1, H1⟩, ⟨%d2, H2⟩, ⟨%d3, H3⟩, ⟨%d4, H4⟩, ⟨%d5, H5⟩⟩
      iapply (fwdRunB c (grid0.coords t) _ _ _ _ _ _ _ _ _ _ _ _ _ _ _ _ (fun h => h0 ((fwdFirst_iff t).mp h)) (fun h => h1 ((fwdLast_iff t).mp h)) (fwdBlock V c 0 t) (fwdBlock V c 1 t) (fwdBlock V c 2 t) (fwdBlock V c 3 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem fwdRow (t : Fin cfg0.N) : defs₀ (F := F) .tc cfg0.body (cfg0.bodyArgs t (cfg0.slots t)) = bodyAt0 t := by
  unfold defs₀; rw [Defs.onTc_tc]

/-- The forward body meets its obligation at every point. -/
theorem fwdObligation (c : Dev nD) : BodyObligation (fwdDat (F := F) V c) (defs₀ (F := F)) Variants.none () Set.univ := fun t => by
  rw [bigSep_W0, bigSep_W0, fwdRow]
  exact triple_restated (fwdBody V c t) rfl .rfl fun _ => .rfl

end Cert.Attn

end
-- ==== Proof.Bwd.Data.lean ====
/- The backward call's proof data: what every window and the two accumulators hold after each point of its grid. -/
module

public import proofs.«01_k».proof.Proof.Bwd.Run
public import proofs.«01_k».proof.Proof.Fwd.Data

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : Contents F)

/-- The block of window `w` at point `t`. -/
def bwdBlock (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks of the queries, the keys' own lanes, the values, the shared key lanes, the output, its log-sums and its gradient. -/
abbrev bwdQ (c : Dev nD) (t : Fin cfg1.N) : Vec F S1024x256 .bf16 := bwdBlock V c 0 t
abbrev bwdKn (c : Dev nD) (t : Fin cfg1.N) : Vec F S2048x128 .bf16 := bwdBlock V c 1 t
abbrev bwdV (c : Dev nD) (t : Fin cfg1.N) : Vec F S2048x128 .bf16 := bwdBlock V c 2 t
abbrev bwdKr (c : Dev nD) (t : Fin cfg1.N) : Vec F S2048x128 .bf16 := bwdBlock V c 3 t
abbrev bwdO (c : Dev nD) (t : Fin cfg1.N) : Vec F S1024x128 .f32 := bwdBlock V c 4 t
abbrev bwdL (c : Dev nD) (t : Fin cfg1.N) : Vec F S1x1024x128 .f32 := bwdBlock V c 5 t
abbrev bwdG (c : Dev nD) (t : Fin cfg1.N) : Vec F S1024x128 .f32 := bwdBlock V c 6 t

/-- What a point leaves in the queries' gradient, the keys' and the values', from what it finds. -/
def bwdStepDq (c : Dev nD) (t : Fin cfg1.N) (x : Vec F S8192x256 .f32) : Vec F S8192x256 .f32 :=
  bwdDq (grid1.coords t) (bwdQ V c t) (bwdKn V c t) (bwdV V c t) (bwdKr V c t) (bwdO V c t) (bwdL V c t) (bwdG V c t) x
def bwdStepDk (c : Dev nD) (t : Fin cfg1.N) (a : Vec F S2048x256 .f32) : Vec F S2048x256 .f32 :=
  bwdDk (bwdQ V c t) (bwdKn V c t) (bwdV V c t) (bwdKr V c t) (bwdO V c t) (bwdL V c t) (bwdG V c t) a
def bwdStepDv (c : Dev nD) (t : Fin cfg1.N) (a : Vec F S2048x128 .f32) : Vec F S2048x128 .f32 :=
  bwdDv (bwdQ V c t) (bwdKn V c t) (bwdKr V c t) (bwdL V c t) (bwdG V c t) a

/-- The queries' gradient of a head after point `n`: it starts afresh at every point that is a multiple of 32. -/
def bwdDqAt (c : Dev nD) : (n : ℕ) → n < cfg1.N → Vec F S8192x256 .f32
  | 0, h => bwdStepDq V c ⟨0, h⟩ k1_pay7
  | n + 1, h => bwdStepDq V c ⟨n + 1, h⟩ (if (n + 1) % 32 = 0 then k1_pay7 else bwdDqAt c n (Nat.lt_of_succ_lt h))

theorem bwdDqAt_first (c : Dev nD) (t : Fin cfg1.N) (h : t.val % 32 = 0) : bwdDqAt V c t.val t.isLt = bwdStepDq V c t k1_pay7 := by
  obtain ⟨n, hn⟩ := t
  cases n with
  | zero => rfl
  | succ n => simp only [bwdDqAt, if_pos h]

theorem bwdDqAt_later (c : Dev nD) (t : Fin cfg1.N) (h : ¬t.val % 32 = 0) :
    bwdDqAt V c t.val t.isLt = bwdStepDq V c t (bwdDqAt V c (t.val - 1) (Nat.lt_of_le_of_lt (Nat.sub_le _ _) t.isLt)) := by
  obtain ⟨n, hn⟩ := t
  cases n with
  | zero => exact absurd (Nat.zero_mod _) h
  | succ n => simp only [bwdDqAt, if_neg h]; rfl

/-- The keys' gradient of a tile after point `n`: it starts afresh at every point that is a multiple of 8. -/
def bwdDkAt (c : Dev nD) : (n : ℕ) → n < cfg1.N → Vec F S2048x256 .f32
  | 0, h => bwdStepDk V c ⟨0, h⟩ k1_pay5
  | n + 1, h => bwdStepDk V c ⟨n + 1, h⟩ (if (n + 1) % 8 = 0 then k1_pay5 else bwdDkAt c n (Nat.lt_of_succ_lt h))

theorem bwdDkAt_first (c : Dev nD) (t : Fin cfg1.N) (h : t.val % 8 = 0) : bwdDkAt V c t.val t.isLt = bwdStepDk V c t k1_pay5 := by
  obtain ⟨n, hn⟩ := t
  cases n with
  | zero => rfl
  | succ n => simp only [bwdDkAt, if_pos h]

theorem bwdDkAt_later (c : Dev nD) (t : Fin cfg1.N) (h : ¬t.val % 8 = 0) :
    bwdDkAt V c t.val t.isLt = bwdStepDk V c t (bwdDkAt V c (t.val - 1) (Nat.lt_of_le_of_lt (Nat.sub_le _ _) t.isLt)) := by
  obtain ⟨n, hn⟩ := t
  cases n with
  | zero => exact absurd (Nat.zero_mod _) h
  | succ n => simp only [bwdDkAt, if_neg h]; rfl

/-- The values' gradient of a tile after point `n`: it starts afresh at every point that is a multiple of 8. -/
def bwdDvAt (c : Dev nD) : (n : ℕ) → n < cfg1.N → Vec F S2048x128 .f32
  | 0, h => bwdStepDv V c ⟨0, h⟩ k1_pay6
  | n + 1, h => bwdStepDv V c ⟨n + 1, h⟩ (if (n + 1) % 8 = 0 then k1_pay6 else bwdDvAt c n (Nat.lt_of_succ_lt h))

theorem bwdDvAt_first (c : Dev nD) (t : Fin cfg1.N) (h : t.val % 8 = 0) : bwdDvAt V c t.val t.isLt = bwdStepDv V c t k1_pay6 := by
  obtain ⟨n, hn⟩ := t
  cases n with
  | zero => rfl
  | succ n => simp only [bwdDvAt, if_pos h]

theorem bwdDvAt_later (c : Dev nD) (t : Fin cfg1.N) (h : ¬t.val % 8 = 0) :
    bwdDvAt V c t.val t.isLt = bwdStepDv V c t (bwdDvAt V c (t.val - 1) (Nat.lt_of_le_of_lt (Nat.sub_le _ _) t.isLt)) := by
  obtain ⟨n, hn⟩ := t
  cases n with
  | zero => exact absurd (Nat.zero_mod _) h
  | succ n => simp only [bwdDvAt, if_neg h]; rfl

/-- The two scratch operands: the keys' and the values' gradient. -/
abbrev bwdMk : Memref sig .tc .vmem S2048x256 .f32 := Memref.whole cc1_scratch0
abbrev bwdMv : Memref sig .tc .vmem S2048x128 .f32 := Memref.whole cc1_scratch1

theorem bwdOthers_ex (c : Dev nD) : ∃ R : sProp 𝕄, (Pipeline.scopedRest spec1 c : sProp 𝕄)
    = iprop((∃ d, owns (c : Thread nD τ) bwdMk fullShare d) ∗ (∃ d, owns (c : Thread nD τ) bwdMv fullShare d) ∗ R) := by
  simp only [bwdMk, bwdMv, owns_whole]
  exact ⟨_, Pipeline.scopedRest_eq_of_list spec1 c [cc1_scratch0, cc1_scratch1, cc0_stg0_0, cc0_stg0_1, cc0_stg1_0, cc0_stg1_1, cc0_stg2_0, cc0_stg2_1, cc0_stg3_0, cc0_stg3_1, cc0_stg4_0, cc0_stg4_1, cc0_stg5_0, cc0_stg5_1, cc0_scratch0, cc0_scratch1] (by decide) (by decide)⟩

/-- The scoped buffers the backward call does not use. -/
def bwdOthers (c : Dev nD) : sProp 𝕄 := (bwdOthers_ex c).choose

theorem bwdRest_eq (c : Dev nD) : (Pipeline.scopedRest spec1 c : sProp 𝕄)
    = iprop((∃ d, owns (c : Thread nD τ) bwdMk fullShare d) ∗ (∃ d, owns (c : Thread nD τ) bwdMv fullShare d) ∗ bwdOthers c) :=
  (bwdOthers_ex c).choose_spec

/-- Between points: the scratch operands hold what the point before left. -/
def bwdPhi (c : Dev nD) : (n : ℕ) → n ≤ cfg1.N → sProp 𝕄
  | 0, _ => Pipeline.scopedRest spec1 c
  | n + 1, hn => iprop(owns (c : Thread nD τ) bwdMk fullShare (bwdDkAt V c n hn) ∗ owns (c : Thread nD τ) bwdMv fullShare (bwdDvAt V c n hn) ∗ bwdOthers c)

theorem bwdPhi_pos (c : Dev nD) (n : ℕ) (h : n ≤ cfg1.N) (hz : n ≠ 0) :
    bwdPhi V c n h = iprop(owns (c : Thread nD τ) bwdMk fullShare (bwdDkAt V c (n - 1) (by omega))
      ∗ owns (c : Thread nD τ) bwdMv fullShare (bwdDvAt V c (n - 1) (by omega)) ∗ bwdOthers c) := by
  cases n with
  | zero => exact absurd rfl hz
  | succ n => rfl

/-- Forgetting what the scratch operands hold. -/
theorem bwdPhi_any (c : Dev nD) (n : ℕ) (h : n ≤ cfg1.N) : bwdPhi V c n h ⊢ Pipeline.scopedRest spec1 c := by
  by_cases hz : n = 0
  · subst hz; exact .rfl
  · rw [bwdPhi_pos V c n h hz, bwdRest_eq]
    iintro ⟨H0, H1, H2⟩
    isplitl [H0]; · iexists _; iexact H0
    isplitl [H1]; · iexists _; iexact H1
    iexact H2

/-- The proof data of the backward call. -/
def bwdDat (c : Dev nD) : Dat τ (Elt F) Unit ℕ (UR sig nD τ) ℕ cfg1 c where
  A w := V c (Pipeline.arrRef spec1 w)
  after w t := match w with
    | ⟨0, _⟩ => bwdBlock V c 0 t
    | ⟨1, _⟩ => bwdBlock V c 1 t
    | ⟨2, _⟩ => bwdBlock V c 2 t
    | ⟨3, _⟩ => bwdBlock V c 3 t
    | ⟨4, _⟩ => bwdBlock V c 4 t
    | ⟨5, _⟩ => bwdBlock V c 5 t
    | ⟨6, _⟩ => bwdBlock V c 6 t
    | ⟨7, _⟩ => bwdDqAt V c t.val t.isLt
    | ⟨8, _⟩ => bwdDkv (bwdDkAt V c t.val t.isLt) (bwdDvAt V c t.val t.isLt)
    | ⟨9, _⟩ => bwdDkr (bwdDkAt V c t.val t.isLt)
  Φ t := bwdPhi V c t.val (Nat.le_of_lt_succ t.isLt)
  q w := Pipeline.shareOf spec1 w
  owed _ := 0

theorem bwdDat_A (c : Dev nD) (w : Fin cfg1.W) : (bwdDat V c).A w = V c (Pipeline.arrRef spec1 w) := by dsimp only [bwdDat]
theorem bwdDat_after0 (c : Dev nD) (t : Fin cfg1.N) : (bwdDat V c).after 0 t = bwdBlock V c 0 t := by dsimp only [bwdDat]
theorem bwdDat_after1 (c : Dev nD) (t : Fin cfg1.N) : (bwdDat V c).after 1 t = bwdBlock V c 1 t := by dsimp only [bwdDat]
theorem bwdDat_after2 (c : Dev nD) (t : Fin cfg1.N) : (bwdDat V c).after 2 t = bwdBlock V c 2 t := by dsimp only [bwdDat]
theorem bwdDat_after3 (c : Dev nD) (t : Fin cfg1.N) : (bwdDat V c).after 3 t = bwdBlock V c 3 t := by dsimp only [bwdDat]
theorem bwdDat_after4 (c : Dev nD) (t : Fin cfg1.N) : (bwdDat V c).after 4 t = bwdBlock V c 4 t := by dsimp only [bwdDat]
theorem bwdDat_after5 (c : Dev nD) (t : Fin cfg1.N) : (bwdDat V c).after 5 t = bwdBlock V c 5 t := by dsimp only [bwdDat]
theorem bwdDat_after6 (c : Dev nD) (t : Fin cfg1.N) : (bwdDat V c).after 6 t = bwdBlock V c 6 t := by dsimp only [bwdDat]
theorem bwdDat_after7 (c : Dev nD) (t : Fin cfg1.N) : (bwdDat V c).after 7 t = bwdDqAt V c t.val t.isLt := by dsimp only [bwdDat]
theorem bwdDat_after8 (c : Dev nD) (t : Fin cfg1.N) : (bwdDat V c).after 8 t = bwdDkv (bwdDkAt V c t.val t.isLt) (bwdDvAt V c t.val t.isLt) := by dsimp only [bwdDat]
theorem bwdDat_after9 (c : Dev nD) (t : Fin cfg1.N) : (bwdDat V c).after 9 t = bwdDkr (bwdDkAt V c t.val t.isLt) := by dsimp only [bwdDat]

/-! An input window holds its block at every point. -/

theorem bwdDat_before0 (c : Dev nD) (t : Fin cfg1.N) (d) : (bwdDat V c).before 0 t d = bwdBlock V c 0 t :=
  ((bwdDat V c).before_in_eq_fetched 0 rfl (fun _ => rfl) (fun _ _ _ => rfl) (fun t => by rw [bwdDat_after0]; unfold Dat.blockOf bwdBlock; rw [bwdDat_A]) t d).trans
    (by unfold Dat.fetched Dat.blockOf bwdBlock; rw [bwdDat_A]; rfl)
theorem bwdDat_before1 (c : Dev nD) (t : Fin cfg1.N) (d) : (bwdDat V c).before 1 t d = bwdBlock V c 1 t :=
  ((bwdDat V c).before_in_eq_fetched 1 rfl (fun _ => rfl) (fun _ _ _ => rfl) (fun t => by rw [bwdDat_after1]; unfold Dat.blockOf bwdBlock; rw [bwdDat_A]) t d).trans
    (by unfold Dat.fetched Dat.blockOf bwdBlock; rw [bwdDat_A]; rfl)
theorem bwdDat_before2 (c : Dev nD) (t : Fin cfg1.N) (d) : (bwdDat V c).before 2 t d = bwdBlock V c 2 t :=
  ((bwdDat V c).before_in_eq_fetched 2 rfl (fun _ => rfl) (fun _ _ _ => rfl) (fun t => by rw [bwdDat_after2]; unfold Dat.blockOf bwdBlock; rw [bwdDat_A]) t d).trans
    (by unfold Dat.fetched Dat.blockOf bwdBlock; rw [bwdDat_A]; rfl)
theorem bwdDat_before3 (c : Dev nD) (t : Fin cfg1.N) (d) : (bwdDat V c).before 3 t d = bwdBlock V c 3 t :=
  ((bwdDat V c).before_in_eq_fetched 3 rfl (fun _ => rfl) (fun _ _ _ => rfl) (fun t => by rw [bwdDat_after3]; unfold Dat.blockOf bwdBlock; rw [bwdDat_A]) t d).trans
    (by unfold Dat.fetched Dat.blockOf bwdBlock; rw [bwdDat_A]; rfl)
theorem bwdDat_before4 (c : Dev nD) (t : Fin cfg1.N) (d) : (bwdDat V c).before 4 t d = bwdBlock V c 4 t :=
  ((bwdDat V c).before_in_eq_fetched 4 rfl (fun _ => rfl) (fun _ _ _ => rfl) (fun t => by rw [bwdDat_after4]; unfold Dat.blockOf bwdBlock; rw [bwdDat_A]) t d).trans
    (by unfold Dat.fetched Dat.blockOf bwdBlock; rw [bwdDat_A]; rfl)
theorem bwdDat_before5 (c : Dev nD) (t : Fin cfg1.N) (d) : (bwdDat V c).before 5 t d = bwdBlock V c 5 t :=
  ((bwdDat V c).before_in_eq_fetched 5 rfl (fun _ => rfl) (fun _ _ _ => rfl) (fun t => by rw [bwdDat_after5]; unfold Dat.blockOf bwdBlock; rw [bwdDat_A]) t d).trans
    (by unfold Dat.fetched Dat.blockOf bwdBlock; rw [bwdDat_A]; rfl)
theorem bwdDat_before6 (c : Dev nD) (t : Fin cfg1.N) (d) : (bwdDat V c).before 6 t d = bwdBlock V c 6 t :=
  ((bwdDat V c).before_in_eq_fetched 6 rfl (fun _ => rfl) (fun _ _ _ => rfl) (fun t => by rw [bwdDat_after6]; unfold Dat.blockOf bwdBlock; rw [bwdDat_A]) t d).trans
    (by unfold Dat.fetched Dat.blockOf bwdBlock; rw [bwdDat_A]; rfl)

/-- The queries' gradient stays in its window from one point of a head to the next. -/
theorem bwdDat_before7 (c : Dev nD) (t : Fin cfg1.N) (h : ¬t.val % 32 = 0) (d) :
    (bwdDat V c).before 7 t d = bwdDqAt V c (t.val - 1) (Nat.lt_of_le_of_lt (Nat.sub_le _ _) t.isLt) := by
  have hz : t.val ≠ 0 := fun e => h (by omega)
  rw [(bwdDat V c).before_out_kept 7 rfl t hz (Bool.eq_false_iff.mpr fun e => absurd ((flush1_7 _).mp e) (by dsimp only; omega)) (fun _ => rfl) (fun _ _ => rfl) d, bwdDat_after7]

/-! ## The branches over the grid -/

theorem bwdFirst_iff (t : Fin cfg1.N) : bwdFirst (grid1.coords t) ↔ t.val % 8 = 0 := by
  have ht : t.val < 256 := Nat.lt_of_lt_of_eq t.isLt N_1
  have e2 : (grid1.coords t 2).val = t.val / 1 % 8 := Pipeline.Grid.coords_val t 2 (by decide) rfl
  simp only [bwdFirst, e2]
  word_cmp

theorem bwdHead_iff : ∀ t : Fin cfg1.N, bwdHead (grid1.coords t) ↔ t.val % 32 = 0 :=
  (by decide +kernel : ∀ t : Fin grid1.N, bwdHead (grid1.coords t) ↔ t.val % 32 = 0)

theorem bwdLast_iff (t : Fin cfg1.N) : bwdLast (grid1.coords t) ↔ t.val % 8 = 7 := by
  have ht : t.val < 256 := Nat.lt_of_lt_of_eq t.isLt N_1
  have e2 : (grid1.coords t 2).val = t.val / 1 % 8 := Pipeline.Grid.coords_val t 2 (by decide) rfl
  simp only [bwdLast, k1_cond3, e2]
  word_cmp

theorem bwdIdle8 (t : Fin cfg1.N) (h : ¬t.val % 8 = 7) : cfg1.idle 8 (grid1.coords t) = true := by
  have h' : ¬k1_cond3 (grid1.coords t) = 1#1 := fun e => h ((bwdLast_iff t).mp e)
  show (!(k1_cond3 (grid1.coords t) == 1#1)) = true
  simp [h']
theorem bwdIdle9 (t : Fin cfg1.N) (h : ¬t.val % 8 = 7) : cfg1.idle 9 (grid1.coords t) = true := bwdIdle8 t h
theorem bwdLive8 (t : Fin cfg1.N) (h : t.val % 8 = 7) : cfg1.idle 8 (grid1.coords t) = false := by
  have h' : k1_cond3 (grid1.coords t) = 1#1 := (bwdLast_iff t).mpr h
  show (!(k1_cond3 (grid1.coords t) == 1#1)) = false
  simp [h']
theorem bwdLive9 (t : Fin cfg1.N) (h : t.val % 8 = 7) : cfg1.idle 9 (grid1.coords t) = false := bwdLive8 t h
theorem bwdNoFlush8 (t : Fin cfg1.N) (h : ¬t.val % 8 = 7) : (cfg1.win 8).flush t = false :=
  Bool.eq_false_iff.mpr fun e => h ((flush1_8 t).mp e)
theorem bwdNoFlush9 (t : Fin cfg1.N) (h : ¬t.val % 8 = 7) : (cfg1.win 9).flush t = false :=
  Bool.eq_false_iff.mpr fun e => h ((flush1_9 t).mp e)

/-! ## The body at a point -/

/-- Before the body: the windows' buffers and the scratch. -/
def bwdPre (c : Dev nD) (t : Fin cfg1.N) : sProp 𝕄 :=
  iprop((bwdDat V c).Φ t.castSucc ∗ (bwdDat V c).owesAt () t.castSucc
    ∗ (∃ d, owns (c : Thread nD τ) (st1_0 t) fullShare ((bwdDat V c).before 0 t d))
    ∗ (∃ d, owns (c : Thread nD τ) (st1_1 t) fullShare ((bwdDat V c).before 1 t d))
    ∗ (∃ d, owns (c : Thread nD τ) (st1_2 t) fullShare ((bwdDat V c).before 2 t d))
    ∗ (∃ d, owns (c : Thread nD τ) (st1_3 t) fullShare ((bwdDat V c).before 3 t d))
    ∗ (∃ d, owns (c : Thread nD τ) (st1_4 t) fullShare ((bwdDat V c).before 4 t d))
    ∗ (∃ d, owns (c : Thread nD τ) (st1_5 t) fullShare ((bwdDat V c).before 5 t d))
    ∗ (∃ d, owns (c : Thread nD τ) (st1_6 t) fullShare ((bwdDat V c).before 6 t d))
    ∗ (∃ d, owns (c : Thread nD τ) (st1_7 t) fullShare ((bwdDat V c).before 7 t d))
    ∗ (∃ d, owns (c : Thread nD τ) (st1_8 t) fullShare ((bwdDat V c).before 8 t d))
    ∗ (∃ d, owns (c : Thread nD τ) (st1_9 t) fullShare ((bwdDat V c).before 9 t d)))

/-- After the body. -/
def bwdPost (c : Dev nD) (t : Fin cfg1.N) : sProp 𝕄 :=
  iprop((bwdDat V c).Φ t.succ ∗ (bwdDat V c).owesAt () t.succ
    ∗ (bwdDat V c).leavesExact 0 t ∗ (bwdDat V c).leavesExact 1 t ∗ (bwdDat V c).leavesExact 2 t ∗ (bwdDat V c).leavesExact 3 t ∗ (bwdDat V c).leavesExact 4 t ∗ (bwdDat V c).leavesExact 5 t ∗ (bwdDat V c).leavesExact 6 t ∗ (bwdDat V c).leavesExact 7 t ∗ (bwdDat V c).leavesExact 8 t ∗ (bwdDat V c).leavesExact 9 t)

theorem bwdLeaves (c : Dev nD) (w : Fin cfg1.W) (t : Fin cfg1.N) (h : cfg1.idle w (grid1.coords t) = false) :
    (bwdDat V c).leavesExact w t = owns (c : Thread nD τ) ((cfg1.win w).stage (cfg1.slots t w)) fullShare ((bwdDat V c).after w t) := by
  unfold Dat.leavesExact; rw [h]

set_option maxHeartbeats 8000000 in
theorem bwdBody (c : Dev nD) (t : Fin cfg1.N) :
    bwdPre V c t ⊢ wp frame (wpE (defs₀ (F := F)) Variants.none c none) Set.univ (bodyAt1 t) (fun _ => bwdPost V c t) := by
  unfold bwdPre bwdPost bodyAt1
  simp only [bwdDat_before0, bwdDat_before1, bwdDat_before2, bwdDat_before3, bwdDat_before4, bwdDat_before5, bwdDat_before6]
  rw [show (bwdDat V c).owesAt () t.succ = (bwdDat V c).owesAt () t.castSucc from rfl]
  rw [show (bwdDat V c).Φ t.succ = iprop(owns (c : Thread nD τ) bwdMk fullShare (bwdDkAt V c t.val t.isLt) ∗ owns (c : Thread nD τ) bwdMv fullShare (bwdDvAt V c t.val t.isLt) ∗ bwdOthers c) from rfl]
  rw [show (bwdDat V c).Φ t.castSucc = bwdPhi V c t.val (Nat.le_of_lt t.isLt) from by dsimp only [bwdDat]; exact Pipeline.Dat.Φ_castSucc (bwdPhi V c) t]
  rw [bwdLeaves V c 0 t rfl, bwdLeaves V c 1 t rfl, bwdLeaves V c 2 t rfl, bwdLeaves V c 3 t rfl, bwdLeaves V c 4 t rfl, bwdLeaves V c 5 t rfl, bwdLeaves V c 6 t rfl, bwdLeaves V c 7 t rfl, bwdDat_after0, bwdDat_after1, bwdDat_after2, bwdDat_after3, bwdDat_after4, bwdDat_after5, bwdDat_after6, bwdDat_after7]
  by_cases h0 : t.val % 8 = 0
  · have h2 : ¬t.val % 8 = 7 := by omega
    rw [Dat.leavesExact_idle (bwdDat V c) 8 t (bwdIdle8 t h2) (bwdNoFlush8 t h2), Dat.leavesExact_idle (bwdDat V c) 9 t (bwdIdle9 t h2) (bwdNoFlush9 t h2)]
    rw [bwdDkAt_first V c t h0, bwdDvAt_first V c t h0]
    refine (sep_mono (bwdPhi_any V c _ _) .rfl).trans ?_
    rw [bwdRest_eq]
    by_cases h1 : t.val % 32 = 0
    · rw [bwdDqAt_first V c t h1]
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (bwdRunA c (grid1.coords t) _ _ _ _ _ _ _ _ _ _ _ _ _ _ _ _ _ _ _ _ _ _ _ _ ((bwdFirst_iff t).mpr h0) ((bwdHead_iff t).mpr h1) (fun h => h2 ((bwdLast_iff t).mp h)) (bwdBlock V c 0 t) (bwdBlock V c 1 t) (bwdBlock V c 2 t) (bwdBlock V c 3 t) (bwdBlock V c 4 t) (bwdBlock V c 5 t) (bwdBlock V c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [bwdDqAt_later V c t h1]
      simp only [bwdDat_before7 V c t h1]
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (bwdRunB c (grid1.coords t) _ _ _ _ _ _ _ _ _ _ _ _ _ _ _ _ _ _ _ _ _ _ _ _ ((bwdFirst_iff t).mpr h0) (fun h => h1 ((bwdHead_iff t).mp h)) (fun h => h2 ((bwdLast_iff t).mp h)) (bwdBlock V c 0 t) (bwdBlock V c 1 t) (bwdBlock V c 2 t) (bwdBlock V c 3 t) (bwdBlock V c 4 t) (bwdBlock V c 5 t) (bwdBlock V c 6 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hz : t.val ≠ 0 := fun e => h0 (by omega)
    have h1 : ¬t.val % 32 = 0 := by omega
    rw [bwdDqAt_later V c t h1, bwdPhi_pos V c _ _ hz]
    simp only [bwdDat_before7 V c t h1]
    by_cases h2 : t.val % 8 = 7
    · rw [bwdLeaves V c 8 t (bwdLive8 t h2), bwdLeaves V c 9 t (bwdLive9 t h2), bwdDat_after8, bwdDat_after9, bwdDkAt_later V c t h0, bwdDvAt_later V c t h0]
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (bwdRunD c (grid1.coords t) _ _ _ _ _ _ _ _ _ _ _ _ _ _ _ _ _ _ _ _ _ _ _ _ (fun h => h0 ((bwdFirst_iff t).mp h)) (fun h => h1 ((bwdHead_iff t).mp h)) ((bwdLast_iff t).mpr h2) (bwdBlock V c 0 t) (bwdBlock V c 1 t) (bwdBlock V c 2 t) (bwdBlock V c 3 t) (bwdBlock V c 4 t) (bwdBlock V c 5 t) (bwdBlock V c 6 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (bwdDat V c) 8 t (bwdIdle8 t h2) (bwdNoFlush8 t h2), Dat.leavesExact_idle (bwdDat V c) 9 t (bwdIdle9 t h2) (bwdNoFlush9 t h2)]
      rw [bwdDkAt_later V c t h0, bwdDvAt_later V c t h0]
      iintro ⟨⟨HS0, HS1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (bwdRunC c (grid1.coords t) _ _ _ _ _ _ _ _ _ _ _ _ _ _ _ _ _ _ _ _ _ _ _ _ (fun h => h0 ((bwdFirst_iff t).mp h)) (fun h => h1 ((bwdHead_iff t).mp h)) (fun h => h2 ((bwdLast_iff t).mp h)) (bwdBlock V c 0 t) (bwdBlock V c 1 t) (bwdBlock V c 2 t) (bwdBlock V c 3 t) (bwdBlock V c 4 t) (bwdBlock V c 5 t) (bwdBlock V c 6 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

theorem bwdRow (t : Fin cfg1.N) : defs₀ (F := F) .tc cfg1.body (cfg1.bodyArgs t (cfg1.slots t)) = bodyAt1 t := by
  unfold defs₀; rw [Defs.onTc_tc]

/-- The backward body meets its obligation at every point. -/
theorem bwdObligation (c : Dev nD) : BodyObligation (bwdDat (F := F) V c) (defs₀ (F := F)) Variants.none () Set.univ := fun t => by
  rw [bigSep_W1, bigSep_W1, bwdRow]
  exact triple_restated (bwdBody V c t) rfl .rfl fun _ => .rfl

end Cert.Attn

end
-- ==== Proof.Launched.lean ====
/- The program run: the two calls one after the other, each result buffer at what its call leaves there. -/
module

public import proofs.«01_k».proof.Proof.Bwd.Data
public import Idealize.ShloMosaic.Lib.Pipeline.Regions
public import Idealize.ShloMosaic.Lib.Pipeline.RegionArrays
public import Idealize.ShloMosaic.Adequacy

@[expose] public section

set_option maxRecDepth 16384

noncomputable section

namespace Cert.Attn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents, call by call -/

/-- At launch. -/
def before (c : Dev nD) : Valuation τ sig (Elt F) := fun b => m (c, b)
/-- What the forward call is entered with. -/
def fwdIn : Contents F := fun c b => before m c b
/-- What the forward call leaves in the output and in the log-sums. -/
def fwdO (c : Dev nD) : Buf (Elt F) ((c : Thread nD τ).loc main_v0_0) := (fwdDat (fwdIn m) c).arrAt 4 cfg0.N
def fwdL (c : Dev nD) : Buf (Elt F) ((c : Thread nD τ).loc main_v0_1) := (fwdDat (fwdIn m) c).arrAt 5 cfg0.N
/-- Between the calls. -/
def between (c : Dev nD) : Valuation τ sig (Elt F) :=
  Function.update (Function.update (before m c) main_v0_0 (fwdO m c)) main_v0_1 (fwdL m c)
/-- What the backward call is entered with. -/
def bwdIn : Contents F := fun c b => between m c b
/-- What the backward call leaves in the three gradients. -/
def bwdOutQ (c : Dev nD) : Buf (Elt F) ((c : Thread nD τ).loc main_v1_0) := (bwdDat (bwdIn m) c).arrAt 7 cfg1.N
def bwdOutKv (c : Dev nD) : Buf (Elt F) ((c : Thread nD τ).loc main_v1_1) := (bwdDat (bwdIn m) c).arrAt 8 cfg1.N
def bwdOutKr (c : Dev nD) : Buf (Elt F) ((c : Thread nD τ).loc main_v1_2) := (bwdDat (bwdIn m) c).arrAt 9 cfg1.N
/-- At the end. -/
def after (c : Dev nD) : Valuation τ sig (Elt F) :=
  Function.update (Function.update (Function.update (between m c) main_v1_0 (bwdOutQ m c)) main_v1_1 (bwdOutKv m c)) main_v1_2 (bwdOutKr m c)

theorem between_of (c : Dev nD) (r : Ref sig .tc) (h0 : r ≠ main_v0_0) (h1 : r ≠ main_v0_1) : between m c r = before m c r := by
  unfold between
  rw [Function.update_of_ne (StableHlo.devRef_ne_of_ne h1), Function.update_of_ne (StableHlo.devRef_ne_of_ne h0)]

theorem between_o (c : Dev nD) : between m c main_v0_0 = fwdO m c := by
  unfold between
  rw [Function.update_of_ne (StableHlo.devRef_ne_of_ne (by decide)), Function.update_self]

theorem between_l (c : Dev nD) : between m c main_v0_1 = fwdL m c := by
  unfold between
  rw [Function.update_self]

theorem after_of (c : Dev nD) (r : Ref sig .tc) (h0 : r ≠ main_v1_0) (h1 : r ≠ main_v1_1) (h2 : r ≠ main_v1_2) : after m c r = between m c r := by
  unfold after
  rw [Function.update_of_ne (StableHlo.devRef_ne_of_ne h2), Function.update_of_ne (StableHlo.devRef_ne_of_ne h1), Function.update_of_ne (StableHlo.devRef_ne_of_ne h0)]

theorem after_q (c : Dev nD) : after m c main_v1_0 = bwdOutQ m c := by
  unfold after
  rw [Function.update_of_ne (StableHlo.devRef_ne_of_ne (by decide)), Function.update_of_ne (StableHlo.devRef_ne_of_ne (by decide)), Function.update_self]

theorem after_kv (c : Dev nD) : after m c main_v1_1 = bwdOutKv m c := by
  unfold after
  rw [Function.update_of_ne (StableHlo.devRef_ne_of_ne (by decide)), Function.update_self]

theorem after_kr (c : Dev nD) : after m c main_v1_2 = bwdOutKr m c := by
  unfold after
  rw [Function.update_self]

/-! ## The two calls as regions -/

/-- The proof data of the two calls. -/
def dats : (p : Fin 2) → (c : Dev nD) → Dat τ (Elt F) Unit ℕ (UR sig nD τ) ℕ (cfgs p) c
  | ⟨0, _⟩ => fun c => fwdDat (fwdIn m) c
  | ⟨1, _⟩ => fun c => bwdDat (bwdIn m) c
  | ⟨_ + 2, h⟩ => absurd h (Nat.not_lt.2 (Nat.le_add_left _ _))

/-- No core owes another anything. -/
abbrev noCells : GSem nD τ sig → Finset Unit := fun _ => ∅
abbrev noLevel : GSem nD τ sig → Unit → ℕ := fun _ _ => 0

/-- What rides beside the buffers: the core owes nothing. -/
abbrev nothingOwed (c : Dev nD) : sProp 𝕄 := iprop(∃ W, owes (c : Thread nD τ) (0 : CellTallies nD τ sig Unit) W)

/-- The thread state at a valuation of the buffers. -/
abbrev heldAt (W : Dev nD → Valuation τ sig (Elt F)) (c : Dev nD) : sProp 𝕄 :=
  iprop(StableHlo.held (c : Thread nD τ) (Pipeline.ucRefs τ sig) (W c) ∗ nothingOwed c)

set_option backward.isDefEq.respectTransparency.types false in
/-- A call whose invariant is its scoped rest at both ends carries the buffers from one valuation to another. -/
def region {p : Fin 2} (kit : Pipeline.LaunchFacts₀ (nD := nD) (τ := τ) cfgs p)
    (hbody : ∀ c, Pipeline.BodyObligationLoose (dats m p c) (defs₀ (F := F)) Variants.none () Set.univ)
    (howed : ∀ c t, (dats m p c).owed t = 0) (hrec : ∀ c, (dats m p c).recorded 0 = Set.univ)
    (hq : ∀ c w, ((cfgs p).spec w).isOut = false → (dats m p c).q w = Pipeline.shareOf (cfgs p).spec w)
    (hin : ∀ c, Pipeline.scopedRest (cfgs p).spec c ⊢ (dats m p c).Φ 0)
    (hout : ∀ c, (dats m p c).Φ (Fin.last (cfgs p).N) ⊢ Pipeline.scopedRest (cfgs p).spec c)
    (W W' : Dev nD → Valuation τ sig (Elt F))
    (hA : ∀ c w, (dats m p c).A w = W c (Pipeline.arrRef (cfgs p).spec w))
    (hF : ∀ c w, (dats m p c).arrAt w (cfgs p).N = W' c (Pipeline.arrRef (cfgs p).spec w))
    (hrest : ∀ c (b : Ref sig .tc), b ∉ Finset.univ.image (Pipeline.arrRef (cfgs p).spec) → W' c b = W c b) :
    RegionSeg (pcfgs (F := F)) adm (dats m) () defs₀ Variants.none noCells noLevel p where
  win := kit.win
  block_pos := kit.block_pos
  stage_whole := kit.stage_whole
  K := PEmpty
  osem k := k.elim
  ho := Pipeline.OwnSemFacts.none _
  hbody := hbody
  hwaits := Pipeline.hwaits_of_owed_zero _ _ _ _ noCells noLevel p howed
  pre := heldAt W
  post := heldAt W'
  X _ := iprop(emp)
  Y _ := iprop(emp)
  Z c := Pipeline.unscopedRest (cfgs p).spec c (fun b => W c b)
  hentry c := by
    have hsplit := Pipeline.arrays_of_unscopedBufs_shared (pcfgs (F := F)) adm (dats m) kit.win kit.sharedIn kit.arr_whole c (hq c)
      (fun b => W c b) (hA c)
    rw [Pipeline.ownSems0_none, Pipeline.prefHeld_of_none _ rfl]
    unfold heldAt
    rw [← Pipeline.unscopedBufs_held]
    iintro ⟨⟨Hub, HO⟩, -, -⟩
    ihave H := hsplit $$ Hub
    icases H with ⟨Ha, Hr⟩
    imodintro
    isplitl [Ha]; · iexact Ha
    isplitr; · iempintro
    isplitl [HO]
    · unfold Dat.owesAt Pipeline.owesWithin Dat.bound
      rw [howed c 0, hrec c]
      icases HO with ⟨%W, HO⟩; iexists W; isplitr; · ipureintro; exact fun _ _ => Or.inl trivial
      iexact HO
    isplitr; · iempintro
    iexact Hr
  hin c := (show _ ⊢ (Pipeline.scopedRest (cfgs p).spec c : sProp 𝕄) from by
    iintro ⟨-, -, Hr⟩
    iexact Hr).trans (hin c)
  hout c := (hout c).trans (by
    rw [Pipeline.ownSems0_none]
    iintro Hr
    isplitr; · iempintro
    isplitr; · iempintro
    iexact Hr)
  hexit c := by
    have hjoin := Pipeline.unscopedBufs_of_arrays_shared (pcfgs (F := F)) adm kit.win kit.sharedIn kit.arr_whole c (dats m) (hq c)
      (fun b => W c b) (fun b => W' c b) ((dats m p c).arrAt · (cfgs p).N) (hF c) (hrest c)
    unfold heldAt
    rw [← Pipeline.unscopedBufs_held]
    iintro ⟨Ha, HO, -, Hr⟩
    imodintro
    isplitl [Ha Hr]
    · iapply hjoin
      isplitl [Ha]; · iexact Ha
      iexact Hr
    unfold Dat.owesAt Pipeline.owesWithin
    rw [howed c (Fin.last _)]
    icases HO with ⟨%W, -, HO⟩; iexists W; iexact HO

theorem fwd_arrAt_in (c : Dev nD) (w : Fin cfg0.W) (h : (cfg0.win w).isOut = false) (n : ℕ) :
    (fwdDat (fwdIn m) c).arrAt w n = before m c (Pipeline.arrRef spec0 w) := by
  rw [(fwdDat (fwdIn m) c).arrAt_in w h, fwdDat_A]; rfl

theorem bwd_arrAt_in (c : Dev nD) (w : Fin cfg1.W) (h : (cfg1.win w).isOut = false) (n : ℕ) :
    (bwdDat (bwdIn m) c).arrAt w n = between m c (Pipeline.arrRef spec1 w) := by
  rw [(bwdDat (bwdIn m) c).arrAt_in w h, bwdDat_A]; rfl

/-- The forward call. -/
def region0 : RegionSeg (pcfgs (F := F)) adm (dats m) () defs₀ Variants.none noCells noLevel 0 :=
  region m launch₀0 (fun c => (fwdObligation (fwdIn m) c).loose) (fun _ _ => rfl) (fun _ => rfl) (fun _ _ _ => rfl)
    (fun c => .rfl) (fun c => fwdPhi_any (fwdIn m) c cfg0.N le_rfl) (before m) (between m) (fun c w => fwdDat_A (fwdIn m) c w)
    (fun c w => by
      match w with
      | ⟨0, _⟩ => exact (fwd_arrAt_in m c 0 rfl _).trans (between_of m c _ (by decide) (by decide)).symm
      | ⟨1, _⟩ => exact (fwd_arrAt_in m c 1 rfl _).trans (between_of m c _ (by decide) (by decide)).symm
      | ⟨2, _⟩ => exact (fwd_arrAt_in m c 2 rfl _).trans (between_of m c _ (by decide) (by decide)).symm
      | ⟨3, _⟩ => exact (fwd_arrAt_in m c 3 rfl _).trans (between_of m c _ (by decide) (by decide)).symm
      | ⟨4, _⟩ => exact (between_o m c).symm
      | ⟨5, _⟩ => exact (between_l m c).symm
      | ⟨_ + 6, h⟩ => exact absurd h (Nat.not_lt.2 (Nat.le_add_left _ _)))
    (fun c b hb => between_of m c b (fun e => hb (e ▸ (by decide : main_v0_0 ∈ Finset.univ.image (Pipeline.arrRef spec0))))
      (fun e => hb (e ▸ (by decide : main_v0_1 ∈ Finset.univ.image (Pipeline.arrRef spec0)))))

/-- The backward call. -/
def region1 : RegionSeg (pcfgs (F := F)) adm (dats m) () defs₀ Variants.none noCells noLevel 1 :=
  region m launch₀1 (fun c => (bwdObligation (bwdIn m) c).loose) (fun _ _ => rfl) (fun _ => rfl) (fun _ _ _ => rfl)
    (fun c => .rfl) (fun c => bwdPhi_any (bwdIn m) c cfg1.N le_rfl) (between m) (after m) (fun c w => bwdDat_A (bwdIn m) c w)
    (fun c w => by
      match w with
      | ⟨0, _⟩ => exact (bwd_arrAt_in m c 0 rfl _).trans (after_of m c _ (by decide) (by decide) (by decide)).symm
      | ⟨1, _⟩ => exact (bwd_arrAt_in m c 1 rfl _).trans (after_of m c _ (by decide) (by decide) (by decide)).symm
      | ⟨2, _⟩ => exact (bwd_arrAt_in m c 2 rfl _).trans (after_of m c _ (by decide) (by decide) (by decide)).symm
      | ⟨3, _⟩ => exact (bwd_arrAt_in m c 3 rfl _).trans (after_of m c _ (by decide) (by decide) (by decide)).symm
      | ⟨4, _⟩ => exact (bwd_arrAt_in m c 4 rfl _).trans (after_of m c _ (by decide) (by decide) (by decide)).symm
      | ⟨5, _⟩ => exact (bwd_arrAt_in m c 5 rfl _).trans (after_of m c _ (by decide) (by decide) (by decide)).symm
      | ⟨6, _⟩ => exact (bwd_arrAt_in m c 6 rfl _).trans (after_of m c _ (by decide) (by decide) (by decide)).symm
      | ⟨7, _⟩ => exact (after_q m c).symm
      | ⟨8, _⟩ => exact (after_kv m c).symm
      | ⟨9, _⟩ => exact (after_kr m c).symm
      | ⟨_ + 10, h⟩ => exact absurd h (Nat.not_lt.2 (Nat.le_add_left _ _)))
    (fun c b hb => after_of m c b (fun e => hb (e ▸ (by decide : main_v1_0 ∈ Finset.univ.image (Pipeline.arrRef spec1))))
      (fun e => hb (e ▸ (by decide : main_v1_1 ∈ Finset.univ.image (Pipeline.arrRef spec1))))
      (fun e => hb (e ▸ (by decide : main_v1_2 ∈ Finset.univ.image (Pipeline.arrRef spec1)))))

/-! ## The run -/

set_option backward.isDefEq.respectTransparency.types false in
/-- Every weakly fair execution from any memory with zero counters ends, with every buffer the calls share at `after`
    and every semaphore counter at zero. -/
theorem run_all : θ_run defs (onTc (τ := τ) (main (F := F))) ⟨m, fun _ => 0, ρ⟩ (fun r =>
    (∀ c : Dev nD, ∀ b ∈ Pipeline.ucRefs τ sig, r.2.mem (c, b) = after m c b) ∧ r.2.sem = fun _ => 0) :=
  Pipeline.θ_run_regions_kit_dev_sems (pcfgs (F := F)) adm (dats m) () cellOf_inj emb₁ defs₀ Variants.none noCells noLevel m ρ main
    (fun _ => [.region (region0 m), .region (region1 m)])
    (fun c Q => by rw [main_segs adm (dats m) () Variants.none noCells noLevel (region0 m) (region1 m) c])
    (fun c => by simp only [Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := heldAt (before m)) (Tₙ := fun c => StableHlo.held (c : Thread nD τ) (Pipeline.ucRefs τ sig) (after m c))
    (hch := fun c => ⟨.rfl, .rfl, .rfl⟩)
    (hinit := by
      refine Pipeline.initEach noCells noLevel fun c => ?_
      rw [show unscopedBufs c (fun b => m ((c : Thread nD τ).loc b)) = StableHlo.held (c : Thread nD τ) (Pipeline.ucRefs τ sig) (before m c) from Pipeline.unscopedBufs_held c (before m c)]
      iintro ⟨⟨Hh, -, HO, -, -, -⟩, -⟩
      imodintro
      isplitl [Hh]; · iexact Hh
      iexists ∅; iexact HO)
    (QY := fun c s => ∀ b ∈ Pipeline.ucRefs τ sig, s.mem (c, b) = after m c b)
    (hfin := fun c s' => by
      unfold StableHlo.held
      iintro ⟨Hh, HSI⟩
      ihave Hr := (pointsTo_read_all (Pipeline.ucRefs τ sig) (fun b => ((c : Thread nD τ).1, b)) (after m c) s') $$ [Hh HSI]
      · isplitl [Hh] <;> iassumption
      icases Hr with ⟨%h, HSI⟩
      imodintro
      isplitr
      · ipureintro; exact h
      · iexact HSI)
    (hQ := fun _ h hz => ⟨h, funext fun g => hz g (.inr (regions_no_unscoped g.2))⟩)

/-- The final memory at the buffers the claims name. -/
theorem run_main : θ_run defs (onTc (τ := τ) (main (F := F))) ⟨m, fun _ => 0, ρ⟩ (fun r => (∀ c : Dev nD,
      r.2.mem ((c.tc : Thread nD τ).loc main_v0_0) = fwdO m c
      ∧ r.2.mem ((c.tc : Thread nD τ).loc main_v1_0) = bwdOutQ m c
      ∧ r.2.mem ((c.tc : Thread nD τ).loc main_v1_1) = bwdOutKv m c
      ∧ r.2.mem ((c.tc : Thread nD τ).loc main_v1_2) = bwdOutKr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => by
    have key : ∀ (c : Dev nD) (b : Ref sig .tc), b.isScoped = false → r.2.mem ((c.tc : Thread nD τ).loc b) = after m c b := fun c b hb =>
      h.1 c (Proc.devRef .tc b) (Finset.mem_filter.mpr ⟨StableHlo.devRef_mem_tcRefs b, by simpa using hb⟩)
    refine ⟨fun c => ⟨?_, ?_, ?_, ?_, ?_, ?_, ?_, ?_⟩, h.2⟩
    · exact (key c main_v0_0 rfl).trans ((after_of m c _ (by decide) (by decide) (by decide)).trans (between_o m c))
    · exact (key c main_v1_0 rfl).trans (after_q m c)
    · exact (key c main_v1_1 rfl).trans (after_kv m c)
    · exact (key c main_v1_2 rfl).trans (after_kr m c)
    all_goals exact (key c _ rfl).trans ((after_of m c _ (by decide) (by decide) (by decide)).trans (between_of m c _ (by decide) (by decide)))) (run_all m ρ)

end Cert.Attn

end
-- ==== Proof.Value.Math.lean ====
/- The mathematics both sides compute: softmax attention of eight heads and its gradient, on the reals. Every array is a function of row and lane. -/
module

public import Idealize.ShloMosaic.Lib.Pointwise

@[expose] public section

noncomputable section

namespace Cert.Attn

open Finset

/-! ## One head, given by its queries `Q`, keys `K`, values `V` and the gradient `G` of its output -/

/-- The score of query `r` on key `c`. -/
def score (Q K : ℕ → ℕ → ℝ) (r c : ℕ) : ℝ := ∑ d ∈ range 256, Q r d * K c d

/-- The sum of a query's weights. -/
def total (Q K : ℕ → ℕ → ℝ) (r : ℕ) : ℝ := ∑ c ∈ range 8192, Real.exp (score Q K r c)

/-- The logarithm of that sum. -/
def logTotal (Q K : ℕ → ℕ → ℝ) (r : ℕ) : ℝ := Real.log (total Q K r)

/-- The weight of key `c` for query `r`, when the query's log-sum is `L r`. -/
def weight (Q K : ℕ → ℕ → ℝ) (L : ℕ → ℝ) (r c : ℕ) : ℝ := Real.exp (score Q K r c - L r)

/-- The head's output. -/
def output (Q K V : ℕ → ℕ → ℝ) (r d : ℕ) : ℝ := (∑ c ∈ range 8192, Real.exp (score Q K r c) * V c d) / total Q K r

/-- The gradient of the score, when the head's output is `O`. -/
def dscore (Q K V O G : ℕ → ℕ → ℝ) (L : ℕ → ℝ) (r c : ℕ) : ℝ :=
  weight Q K L r c * (∑ d ∈ range 128, G r d * V c d - ∑ d ∈ range 128, G r d * O r d)

theorem total_pos (Q K : ℕ → ℕ → ℝ) (r : ℕ) : 0 < total Q K r :=
  sum_pos (fun _ _ => Real.exp_pos _) ⟨0, by simp⟩

theorem weight_logTotal (Q K : ℕ → ℕ → ℝ) (r c : ℕ) : weight Q K (logTotal Q K) r c = Real.exp (score Q K r c) / total Q K r := by
  rw [weight, Real.exp_sub, logTotal, Real.exp_log (total_pos Q K r)]

/-! ## The heads' parts of the arrays -/

/-- The queries of head `h`: 256 lanes of the array. -/
def queries (q : ℕ → ℕ → ℝ) (h : ℕ) : ℕ → ℕ → ℝ := fun r d => q r (256 * h + d)

/-- The keys of head `h`: 128 lanes of its own, then the 128 lanes all heads share. -/
def keys (kv kr : ℕ → ℕ → ℝ) (h : ℕ) : ℕ → ℕ → ℝ := fun c d => if d < 128 then kv c (256 * h + d) else kr c (d - 128)

/-- The values of head `h`. -/
def values (kv : ℕ → ℕ → ℝ) (h : ℕ) : ℕ → ℕ → ℝ := fun c d => kv c (256 * h + 128 + d)

/-- The gradient of head `h`'s output. -/
def grads (g : ℕ → ℕ → ℝ) (h : ℕ) : ℕ → ℕ → ℝ := fun r d => g r (128 * h + d)

variable (q kv kr g : ℕ → ℕ → ℝ) (h : ℕ)

def headOut : ℕ → ℕ → ℝ := output (queries q h) (keys kv kr h) (values kv h)
def headLog : ℕ → ℝ := logTotal (queries q h) (keys kv kr h)
def headP : ℕ → ℕ → ℝ := weight (queries q h) (keys kv kr h) (headLog q kv kr h)
def headDs : ℕ → ℕ → ℝ := dscore (queries q h) (keys kv kr h) (values kv h) (headOut q kv kr h) (grads g h) (headLog q kv kr h)

/-- The gradients of a head's values, keys and queries. -/
def headDv (c d : ℕ) : ℝ := ∑ r ∈ range 8192, headP q kv kr h r c * grads g h r d
def headDk (c d : ℕ) : ℝ := ∑ r ∈ range 8192, headDs q kv kr g h r c * queries q h r d
def headDq (r d : ℕ) : ℝ := ∑ c ∈ range 8192, headDs q kv kr g h r c * keys kv kr h c d

/-! ## Sums -/

theorem coe_sum_finset {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [sum_insert ha, sum_insert ha, ih, EReal.coe_add]

theorem coe_sum_fin (n : ℕ) (f : ℕ → ℝ) : (∑ x : Fin n, ((f x.val : ℝ) : EReal)) = ((∑ x ∈ range n, f x : ℝ) : EReal) := by
  rw [coe_sum_finset, Fin.sum_univ_eq_sum_range]

theorem coe_div (x y : ℝ) (hy : y ≠ 0) : Idealize.ShloMosaic.Ideal.div (x : EReal) (y : EReal) = ((x / y : ℝ) : EReal) := by
  rw [Idealize.ShloMosaic.Ideal.div_coe hy, ← EReal.coe_mul, mul_one_div]

/-- The greatest of finitely many reals, over a floor that is not `⊤`, is not `⊤`; over at least one real it is not `⊥`. -/
theorem fold_max_ne_top {n : ℕ} (b : EReal) (hb : b ≠ ⊤) (f : Fin n → ℝ) (s : Finset (Fin n)) : s.fold max b (fun x => ((f x : ℝ) : EReal)) ≠ ⊤ := by
  classical
  induction s using Finset.induction_on with
  | empty => simpa using hb
  | insert a s ha ih =>
    rw [fold_insert ha]
    rcases max_choice ((f a : ℝ) : EReal) (s.fold max b fun x => ((f x : ℝ) : EReal)) with e | e <;> rw [e]
    · exact EReal.coe_ne_top _
    · exact ih

theorem fold_max_ne_bot {n : ℕ} (b : EReal) (f : Fin n → ℝ) (x : Fin n) : Finset.univ.fold max b (fun x => ((f x : ℝ) : EReal)) ≠ ⊥ := by
  intro e
  have hx : ((f x : ℝ) : EReal) ≤ Finset.univ.fold max b (fun x => ((f x : ℝ) : EReal)) := (le_fold_max _).mpr (Or.inr ⟨x, mem_univ _, le_rfl⟩)
  rw [e] at hx
  exact EReal.coe_ne_bot _ (le_bot_iff.mp hx)

/-- The greatest of finitely many, but at least one, reals and of something that is not `⊤` is a real. -/
theorem max_fold_real {n : ℕ} (m b : EReal) (hm : m ≠ ⊤) (hb : b ≠ ⊤) (f : Fin n → ℝ) (x : Fin n) :
    ∃ M : ℝ, max m (Finset.univ.fold max b (fun x => ((f x : ℝ) : EReal))) = (M : EReal) := by
  set w := Finset.univ.fold max b (fun x => ((f x : ℝ) : EReal)) with hw
  have h1 : w ≠ ⊤ := fold_max_ne_top b hb f _
  have h2 : w ≠ ⊥ := fold_max_ne_bot b f x
  have h3 : max m w ≠ ⊤ := by rcases max_choice m w with e | e <;> rw [e] <;> assumption
  have h4 : max m w ≠ ⊥ := fun e => h2 (le_bot_iff.mp (e ▸ le_max_right m w))
  exact ⟨(max m w).toReal, (EReal.coe_toReal h3 h4).symm⟩

end Cert.Attn

end
-- ==== Proof.Value.Online.lean ====
/- The forward call's running softmax on real arrays: after `n` keys the sums of a row are those of the weights relative to some real number, whichever. -/
module

public import proofs.«01_k».proof.Proof.Value.Math
public import proofs.«01_k».proof.Proof.Fwd.Step

@[expose] public section

set_option maxRecDepth 16384

noncomputable section

namespace Cert.Attn

open Cert.KernelIdeal Cert.KernelIdeal.Gen
open Idealize.ShloMosaic Finset

/-! ## Blocks that hold reals -/

/-- The block `x` holds the reals `f`. -/
def Reads {m n : ℕ} (x : (⟨2, ![m, n]⟩ : Shape).Idx → EReal) (f : ℕ → ℕ → ℝ) : Prop :=
  ∀ (a : Fin m) (b : Fin n), x (ix2 a b) = ((f a.val b.val : ℝ) : EReal)

theorem Reads.congr {m n : ℕ} {x : (⟨2, ![m, n]⟩ : Shape).Idx → EReal} {f f' : ℕ → ℕ → ℝ} (hx : Reads x f)
    (e : ∀ a b, a < m → b < n → f a b = f' a b) : Reads x f' := fun a b => (hx a b).trans (by rw [e _ _ a.isLt b.isLt])

theorem emb_unit2 {M N m n o0 o1 : ℕ} (inb : ∀ d, (![o0, o1] : Fin 2 → ℕ) d + (![m, n] : Fin 2 → ℕ) d ≤ (⟨2, ![M, N]⟩ : Shape).size d) (a : Fin m) (b : Fin n)
    (h0 : o0 + a.val < M) (h1 : o1 + b.val < N) :
    (Rect.unit (s := ⟨2, ![M, N]⟩) ![o0, o1] ![m, n] inb).emb (ix2 a b) = ix2 ⟨o0 + a.val, h0⟩ ⟨o1 + b.val, h1⟩ := by
  funext d
  fin_cases d <;> exact Fin.ext (by simp [Rect.emb, Rect.unit, ix2])

theorem window_apply {M N m n o0 o1 : ℕ} {α : Type} (x : (⟨2, ![M, N]⟩ : Shape).Idx → α)
    (inb : ∀ d, (![o0, o1] : Fin 2 → ℕ) d + (![m, n] : Fin 2 → ℕ) d ≤ (⟨2, ![M, N]⟩ : Shape).size d) (a : Fin m) (b : Fin n)
    (h0 : o0 + a.val < M) (h1 : o1 + b.val < N) :
    VecWindow.window x ![o0, o1] ![m, n] inb (ix2 a b) = x (ix2 ⟨o0 + a.val, h0⟩ ⟨o1 + b.val, h1⟩) :=
  congrArg x (emb_unit2 inb a b h0 h1)

theorem Reads.window {M N m n o0 o1 : ℕ} {x : (⟨2, ![M, N]⟩ : Shape).Idx → EReal} {f : ℕ → ℕ → ℝ} (hx : Reads x f)
    (inb : ∀ d, (![o0, o1] : Fin 2 → ℕ) d + (![m, n] : Fin 2 → ℕ) d ≤ (⟨2, ![M, N]⟩ : Shape).size d) :
    Reads (VecWindow.window x ![o0, o1] ![m, n] inb) (fun r d => f (o0 + r) (o1 + d)) := fun a b =>
  (window_apply x inb a b (Nat.lt_of_lt_of_le (Nat.add_lt_add_left a.isLt _) (inb 0)) (Nat.lt_of_lt_of_le (Nat.add_lt_add_left b.isLt _) (inb 1))).trans (hx _ _)

theorem stack_apply_upper {r R C : ℕ} {α : Type} (e : R = r + r) (x y : (⟨2, ![r, C]⟩ : Shape).Idx → α) (a : Fin R) (b : Fin C) (ha : a.val < r) :
    stack R e x y (ix2 a b) = x (ix2 ⟨a.val, ha⟩ b) :=
  (dif_pos (c := ((ix2 a b : (⟨2, ![R, C]⟩ : Shape).Idx) 0).val < r) ha).trans rfl

theorem stack_apply_lower {r R C : ℕ} {α : Type} (e : R = r + r) (x y : (⟨2, ![r, C]⟩ : Shape).Idx → α) (a : Fin R) (b : Fin C) (ha : ¬a.val < r) :
    stack R e x y (ix2 a b) = y (ix2 ⟨a.val - r, by omega⟩ b) :=
  (dif_neg (c := ((ix2 a b : (⟨2, ![R, C]⟩ : Shape).Idx) 0).val < r) ha).trans rfl

theorem Reads.stack {r R C : ℕ} (e : R = r + r) {x y : (⟨2, ![r, C]⟩ : Shape).Idx → EReal} {f : ℕ → ℕ → ℝ} (hx : Reads x f)
    (hy : Reads y (fun a b => f (r + a) b)) : Reads (stack R e x y) f := fun a b => by
  by_cases ha : a.val < r
  · rw [stack_apply_upper e x y a b ha]; exact hx _ _
  · rw [stack_apply_lower e x y a b ha, hy]
    show ((f (r + (a.val - r)) b.val : ℝ) : EReal) = _
    rw [Nat.add_sub_cancel' (Nat.le_of_not_lt ha)]

/-! ## The running softmax -/

/-- After `n` keys, with scores `S` and weighted lanes `W`: nothing yet, or the sums relative to a real `M`. -/
def Online {R : ℕ} (S W : ℕ → ℕ → ℝ) (n : ℕ) (m : (⟨2, ![R, 1]⟩ : Shape).Idx → EReal) (a : (⟨2, ![R, 256]⟩ : Shape).Idx → EReal) : Prop :=
  ∀ r : Fin R, (n = 0 ∧ m (ix2 r 0) = ⊥ ∧ ∀ l : Fin 256, a (ix2 r l) = 0)
    ∨ ∃ M : ℝ, m (ix2 r 0) = (M : EReal) ∧ ∀ l : Fin 256, a (ix2 r l) = ((∑ k ∈ range n, Real.exp (S r.val k - M) * W k l.val : ℝ) : EReal)

/-- The word the row maxima start from. -/
theorem neg_inf : Ideal.ofBits FTy.f32 4286578688#32 = ⊥ := by simp [Ideal.ofBits, Ideal.ieee]

theorem chunk_online {S W : ℕ → ℕ → ℝ} {n : ℕ} {m : Vec Ideal S256x1 .f32} {a : Vec Ideal S256x256 .f32} (H : Online (R := 256) S W n m a)
    {k v : Vec Ideal S1024x256 .bf16} {q : Vec Ideal S256x256 .bf16} {K V Q : ℕ → ℕ → ℝ} (hk : Reads (m := 1024) (n := 256) k K)
    (hv : Reads (m := 1024) (n := 256) v V) (hq : Reads (m := 256) (n := 256) q Q)
    (hS : ∀ r c, c < 1024 → score Q K r c = S r (n + c)) (hW : ∀ c l, c < 1024 → V c l = W (n + c) l) :
    Online (R := 256) S W (n + 1024) (chunkMax k q m) (chunkAcc k v q m a) := by
  intro r
  have hs : ∀ c : Fin 1024, (∑ x : Fin 256, q (ix2 r x) * k (ix2 c x)) = ((S r.val (n + c.val) : ℝ) : EReal) := fun c => by
    rw [← hS r.val c.val c.isLt, score, ← coe_sum_fin]
    exact sum_congr rfl fun x _ => by rw [hq, hk, EReal.coe_mul]
  have eM : chunkMax (F := Ideal) k q m (ix2 r 0)
      = max (m (ix2 r 0)) (Finset.univ.fold max (Ideal.ofBits FTy.f32 4286578688#32) (fun c : Fin 1024 => ((S r.val (n + c.val) : ℝ) : EReal))) := by
    simp only [← hs]
    pointwise [chunkMax, k0_pay15, k0_pay13, k0_pay12]
  have eA : ∀ l : Fin 256, chunkAcc (F := Ideal) k v q m a (ix2 r l)
      = Ideal.exp (m (ix2 r 0) - chunkMax (F := Ideal) k q m (ix2 r 0)) * a (ix2 r l)
        + ∑ c : Fin 1024, Ideal.exp (((S r.val (n + c.val) : ℝ) : EReal) - chunkMax (F := Ideal) k q m (ix2 r 0)) * ((W (n + c.val) l.val : ℝ) : EReal) := fun l => by
    rw [eM]
    simp only [← hs, ← hW _ _ (Fin.isLt _), ← hv _ _]
    pointwise [chunkAcc, k0_pay14, k0_pay13, k0_pay12]
  have hm : m (ix2 r 0) ≠ ⊤ := by
    rcases H r with ⟨_, e, _⟩ | ⟨M, e, _⟩ <;> rw [e]
    · exact bot_ne_top
    · exact EReal.coe_ne_top _
  obtain ⟨M', hM'⟩ := max_fold_real (m (ix2 r 0)) (Ideal.ofBits FTy.f32 4286578688#32) hm (by rw [neg_inf]; exact bot_ne_top) (fun c : Fin 1024 => S r.val (n + c.val)) 0
  refine Or.inr ⟨M', eM.trans hM', fun l => ?_⟩
  rw [eA, eM, hM']
  have e2 : (∑ c : Fin 1024, Ideal.exp (((S r.val (n + c.val) : ℝ) : EReal) - (M' : EReal)) * ((W (n + c.val) l.val : ℝ) : EReal))
      = ((∑ c ∈ range 1024, Real.exp (S r.val (n + c) - M') * W (n + c) l.val : ℝ) : EReal) := by
    rw [← coe_sum_fin]
    exact sum_congr rfl fun c _ => by rw [← EReal.coe_sub, Ideal.exp_coe, EReal.coe_mul]
  rw [e2]
  rcases H r with ⟨e0, eb, ea⟩ | ⟨M, e, ea⟩
  · rw [ea, mul_zero, zero_add, e0]
    simp only [Nat.zero_add]
  · rw [e, ea, ← EReal.coe_sub, Ideal.exp_coe, ← EReal.coe_mul, ← EReal.coe_add, Finset.sum_range_add, mul_sum]
    congr 2
    exact sum_congr rfl fun c _ => by rw [← mul_assoc, ← Real.exp_add]; congr 2; ring

/-- The keys' lanes side by side: a head's own lanes, then the shared ones. -/
theorem reads_pay6 {x y : Vec Ideal S1024x128 .bf16} {f : ℕ → ℕ → ℝ} (hx : Reads (m := 1024) (n := 128) x f)
    (hy : Reads (m := 1024) (n := 128) y (fun c d => f c (128 + d))) : Reads (m := 1024) (n := 256) (k0_pay6 (F := Ideal) x y) f := fun a b => by
  pointwise [k0_pay6]
  split
  · exact hx _ _
  · rename_i hb
    rw [hy]
    show ((f a.val (128 + (b.val - 128)) : ℝ) : EReal) = _
    rw [Nat.add_sub_cancel' (Nat.le_of_not_lt hb)]

/-- The values, then ones. -/
theorem reads_pay7 {x : Vec Ideal S1024x128 .bf16} {f : ℕ → ℕ → ℝ} (hx : Reads (m := 1024) (n := 128) x f) :
    Reads (m := 1024) (n := 256) (k0_pay7 (F := Ideal) x) (fun c d => if d < 128 then f c d else 1) := fun a b => by
  pointwise [k0_pay7]
  split
  · rename_i hb
    refine (hx _ _).trans ?_
    simp [show b.val < 128 from hb]
  · rename_i hb
    refine EReal.coe_one.symm.trans ?_
    simp [show ¬b.val < 128 from hb]

/-- The lanes the weights multiply: the values, then ones. -/
def lanes (V : ℕ → ℕ → ℝ) : ℕ → ℕ → ℝ := fun c d => if d < 128 then V c d else 1

section Tiles
variable {Q K V : ℕ → ℕ → ℝ} {n i0 : ℕ} {kn v kr : Vec Ideal S2048x128 .bf16}
  (hkn : Reads (m := 2048) (n := 128) kn (fun c d => K (n + c) d)) (hv : Reads (m := 2048) (n := 128) v (fun c d => V (n + c) d))
  (hkr : Reads (m := 2048) (n := 128) kr (fun c d => K (n + c) (128 + d)))
include hkn hv hkr

theorem tile_online {m : Vec Ideal S256x1 .f32} {a : Vec Ideal S256x256 .f32} (H : Online (R := 256) (fun r => score Q K (i0 + r)) (lanes V) n m a)
    {q : Vec Ideal S256x256 .bf16} (hq : Reads (m := 256) (n := 256) q (fun r d => Q (i0 + r) d)) :
    Online (R := 256) (fun r => score Q K (i0 + r)) (lanes V) (n + 2048) (tileMax kn kr q m) (tileAcc kn v kr q m a) := by
  have H0 := chunk_online H (K := fun c d => K (n + c) d) (V := fun c d => lanes V (n + c) d)
    (reads_pay6 ((hkn.window inb_S2048x128_S1024x128_0_0).congr fun c d _ _ => by simp) ((hkr.window inb_S2048x128_S1024x128_0_0).congr fun c d _ _ => by simp))
    ((reads_pay7 (hv.window inb_S2048x128_S1024x128_0_0)).congr fun c d _ _ => by simp [lanes]) hq (fun _ _ _ => rfl) (fun _ _ _ => rfl)
  exact chunk_online H0 (K := fun c d => K (n + 1024 + c) d) (V := fun c d => lanes V (n + 1024 + c) d)
    (reads_pay6 ((hkn.window inb_S2048x128_S1024x128_1024_0).congr fun c d _ _ => by simp [Nat.add_assoc])
      ((hkr.window inb_S2048x128_S1024x128_1024_0).congr fun c d _ _ => by simp [Nat.add_assoc]))
    ((reads_pay7 (hv.window inb_S2048x128_S1024x128_1024_0)).congr fun c d _ _ => by simp [lanes, Nat.add_assoc]) hq (fun _ _ _ => rfl) (fun _ _ _ => rfl)

theorem fwd_online {m : Vec Ideal S512x1 .f32} {a : Vec Ideal S512x256 .f32} (H : Online (R := 512) (fun r => score Q K (i0 + r)) (lanes V) n m a)
    {q : Vec Ideal S512x256 .bf16} (hq : Reads (m := 512) (n := 256) q (fun r d => Q (i0 + r) d)) :
    Online (R := 512) (fun r => score Q K (i0 + r)) (lanes V) (n + 2048) (fwdMax q kn kr m) (fwdAcc q kn v kr m a) := by
  have H0 : Online (R := 256) (fun r => score Q K (i0 + r)) (lanes V) n (mhalf0 m) (half0 a) := fun r => by
    have e := H ⟨r.val, by omega⟩
    have em : mhalf0 m (ix2 r 0) = m (ix2 ⟨r.val, by omega⟩ 0) := (window_apply m _ r 0 (by omega) (by simp)).trans (congrArg m (by congr 2; simp))
    have ea : ∀ l, half0 a (ix2 r l) = a (ix2 ⟨r.val, by omega⟩ l) := fun l => (window_apply a _ r l (by omega) (by omega)).trans (congrArg a (by congr 2 <;> simp))
    simp only [em, ea]
    exact e
  have H1 : Online (R := 256) (fun r => score Q K (i0 + 256 + r)) (lanes V) n (mhalf1 m) (half1 a) := fun r => by
    have e := H ⟨256 + r.val, by omega⟩
    have em : mhalf1 m (ix2 r 0) = m (ix2 ⟨256 + r.val, by omega⟩ 0) := (window_apply m _ r 0 (by omega) (by simp)).trans rfl
    have ea : ∀ l, half1 a (ix2 r l) = a (ix2 ⟨256 + r.val, by omega⟩ l) := fun l => (window_apply a _ r l (by omega) (by omega)).trans (congrArg a (by congr 2; simp))
    simp only [em, ea, Nat.add_assoc]
    exact e
  have T0 := tile_online hkn hv hkr H0 ((hq.window inb_S512x256_S256x256_0_0).congr fun c d _ _ => by simp)
  have T1 := tile_online hkn hv hkr H1 ((hq.window inb_S512x256_S256x256_256_0).congr fun c d _ _ => by simp [Nat.add_assoc])
  intro r
  by_cases hr : r.val < 256
  · have e := T0 ⟨r.val, hr⟩
    simp only [fwdMax, fwdAcc, stack_apply_upper (r := 256) (R := 512) rfl _ _ r _ hr]
    exact e
  · have e := T1 ⟨r.val - 256, by omega⟩
    simp only [fwdMax, fwdAcc, stack_apply_lower (r := 256) (R := 512) rfl _ _ r _ hr]
    have er : i0 + 256 + (r.val - 256) = i0 + r.val := by omega
    simp only [er] at e
    exact e
end Tiles

/-- Before the first key. -/
theorem start_online (S W : ℕ → ℕ → ℝ) : Online (R := 512) S W 0 (k0_pay4 (F := Ideal)) (k0_pay5 (F := Ideal)) := fun r =>
  Or.inl ⟨rfl, by pointwise [k0_pay4]; exact neg_inf, fun l => by pointwise [k0_pay5]⟩

section Last
variable {Q K V : ℕ → ℕ → ℝ} {i0 : ℕ} {m : Vec Ideal S512x1 .f32} {a : Vec Ideal S512x256 .f32}
  (H : Online (R := 512) (fun r => score Q K (i0 + r)) (lanes V) 8192 m a)
include H

/-- After all keys: a row's sums relative to a real `M`, lane by lane and summed over the ones. -/
theorem online_all (r : Fin 512) : ∃ M : ℝ, m (ix2 r 0) = (M : EReal)
    ∧ (∀ l : Fin 256, (hl : l.val < 128) → a (ix2 r l)
        = ((Real.exp (-M) * ∑ c ∈ range 8192, Real.exp (score Q K (i0 + r.val) c) * V c l.val : ℝ) : EReal))
    ∧ ∀ l : Fin 256, (hl : ¬l.val < 128) → a (ix2 r l) = ((Real.exp (-M) * total Q K (i0 + r.val) : ℝ) : EReal) := by
  rcases H r with ⟨e, _⟩ | ⟨M, e, ea⟩
  · exact absurd e (by decide)
  · refine ⟨M, e, fun l hl => ?_, fun l hl => ?_⟩
    · rw [ea, mul_sum]
      congr 1
      exact sum_congr rfl fun c _ => by rw [lanes, if_pos hl, sub_eq_neg_add, Real.exp_add, mul_assoc]
    · rw [ea, total, mul_sum]
      congr 1
      exact sum_congr rfl fun c _ => by rw [lanes, if_neg hl, mul_one, sub_eq_neg_add, Real.exp_add]

/-- The output's block. -/
theorem reads_fwdOut : Reads (m := 512) (n := 128) (fwdOut (F := Ideal) a) (fun r d => output Q K V (i0 + r) d) := fun r d => by
  obtain ⟨M, _, h0, h1⟩ := online_all H r
  have e0 := h0 ⟨d.val, by omega⟩ d.isLt
  have e1 := h1 ⟨128 + d.val, by omega⟩ (by simp)
  have w0 := (window_apply a inb_S512x256_S512x128_0_0 r d (by omega) (by omega)).trans (congrArg a (show _ = ix2 r ⟨d.val, by omega⟩ by congr 2 <;> simp))
  have w1 := (window_apply a inb_S512x256_S512x128_0_128 r d (by omega) (by omega)).trans (congrArg a (show _ = ix2 r ⟨128 + d.val, by omega⟩ by congr 2; simp))
  have hne : Real.exp (-M) * total Q K (i0 + r.val) ≠ 0 := (mul_pos (Real.exp_pos _) (total_pos _ _ _)).ne'
  have key : fwdOut (F := Ideal) a (ix2 r d) = Ideal.div (VecWindow.window a ![0, 0] S512x128.size inb_S512x256_S512x128_0_0 (ix2 r d))
      (VecWindow.window a ![0, 128] S512x128.size inb_S512x256_S512x128_0_128 (ix2 r d)) := by pointwise [fwdOut, k0_pay2]
  refine key.trans ?_
  refine (congrArg₂ Ideal.div (w0.trans e0) (w1.trans e1)).trans ?_
  show _ = ((output Q K V (i0 + r.val) d.val : ℝ) : EReal)
  rw [coe_div _ _ hne]
  unfold output
  rw [mul_div_mul_left _ _ (Real.exp_pos _).ne']

/-- The log-sums' block: every lane of a row holds the row's. -/
theorem reads_fwdLse (r : Fin 512) (l : Fin 128) : fwdLse (F := Ideal) m a (ix3 0 r l) = ((logTotal Q K (i0 + r.val) : ℝ) : EReal) := by
  obtain ⟨M, hm, _, h1⟩ := online_all H r
  have e1 := h1 ⟨128 + l.val, by omega⟩ (by simp)
  have w1 := (window_apply a inb_S512x256_S512x128_0_128 r l (by omega) (by omega)).trans (congrArg a (show _ = ix2 r ⟨128 + l.val, by omega⟩ by congr 2; simp))
  have key : fwdLse (F := Ideal) m a (ix3 0 r l) = m (ix2 r 0) + Ideal.log (VecWindow.window a ![0, 128] S512x128.size inb_S512x256_S512x128_0_128 (ix2 r l)) := by
    pointwise [fwdLse, k0_pay3]
  refine key.trans ?_
  refine (congrArg₂ (· + ·) hm (congrArg Ideal.log (w1.trans e1))).trans ?_
  have hp : 0 < Real.exp (-M) * total Q K (i0 + r.val) := mul_pos (Real.exp_pos _) (total_pos _ _ _)
  show (M : EReal) + Ideal.log _ = _
  rw [Ideal.log_coe, if_neg (not_le.mpr hp), Real.log_mul (Real.exp_pos _).ne' (total_pos _ _ _).ne', Real.log_exp, ← EReal.coe_add, logTotal]
  congr 1; ring

end Last

end Cert.Attn

end
-- ==== Proof.Value.Grad.lean ====
/- The backward call's steps on real arrays: every accumulator gains the sum over the point's rows or keys. -/
module

public import proofs.«01_k».proof.Proof.Value.Online
public import proofs.«01_k».proof.Proof.Bwd.Step

@[expose] public section

set_option maxRecDepth 16384

noncomputable section

namespace Cert.Attn

open Cert.KernelIdeal Cert.KernelIdeal.Gen
open Idealize.ShloMosaic Finset

/-- The log-sums' block `l` holds `f r` in its row `r`. -/
def ReadsRow {m : ℕ} (l : (⟨3, ![1, m, 128]⟩ : Shape).Idx → EReal) (f : ℕ → ℝ) : Prop :=
  ∀ a : Fin m, l (ix3 0 a 0) = ((f a.val : ℝ) : EReal)

theorem ReadsRow.window {M m o : ℕ} {l : (⟨3, ![1, M, 128]⟩ : Shape).Idx → EReal} {f : ℕ → ℝ} (hl : ReadsRow l f)
    (inb : ∀ d, (![0, o, 0] : Fin 3 → ℕ) d + (![1, m, 128] : Fin 3 → ℕ) d ≤ (⟨3, ![1, M, 128]⟩ : Shape).size d) :
    ReadsRow (VecWindow.window l ![0, o, 0] ![1, m, 128] inb) (fun r => f (o + r)) := fun a => by
  refine Eq.trans (congrArg l ?_) (hl ⟨o + a.val, Nat.lt_of_lt_of_le (Nat.add_lt_add_left a.isLt _) (inb 1)⟩)
  funext d
  fin_cases d <;> exact Fin.ext (by simp [Rect.emb, Rect.unit, ix3])

section Chunks
variable {Q K V O G : ℕ → ℕ → ℝ} {L : ℕ → ℝ} {r0 c0 : ℕ}
  {kn v kr : Vec Ideal S1024x128 .bf16} {q : Vec Ideal S512x256 .bf16} {o g : Vec Ideal S512x128 .f32} {l : Vec Ideal S1x512x128 .f32}
  (hkn : Reads (m := 1024) (n := 128) kn (fun c d => K (c0 + c) d)) (hkr : Reads (m := 1024) (n := 128) kr (fun c d => K (c0 + c) (128 + d)))
  (hv : Reads (m := 1024) (n := 128) v (fun c d => V (c0 + c) d)) (hq : Reads (m := 512) (n := 256) q (fun r d => Q (r0 + r) d))
  (ho : Reads (m := 512) (n := 128) o (fun r d => O (r0 + r) d)) (hl : ReadsRow (m := 512) l (fun r => L (r0 + r)))
  (hg : Reads (m := 512) (n := 128) g (fun r d => G (r0 + r) d))

include hkn hkr hq in
theorem split_score (r : Fin 512) (c : Fin 1024) :
    (∑ x : Fin 128, q (ix2 r ⟨x.val, by omega⟩) * kn (ix2 c x)) + (∑ x : Fin 128, q (ix2 r ⟨128 + x.val, by omega⟩) * kr (ix2 c x))
      = ((score Q K (r0 + r.val) (c0 + c.val) : ℝ) : EReal) := by
  have e : score Q K (r0 + r.val) (c0 + c.val) = (∑ x ∈ range 128, Q (r0 + r.val) x * K (c0 + c.val) x)
      + ∑ x ∈ range 128, Q (r0 + r.val) (128 + x) * K (c0 + c.val) (128 + x) := sum_range_add _ 128 128
  rw [e, EReal.coe_add, ← coe_sum_fin, ← coe_sum_fin]
  exact congrArg₂ (· + ·) (sum_congr rfl fun x _ => by rw [hq, hkn, EReal.coe_mul]) (sum_congr rfl fun x _ => by rw [hq, hkr, EReal.coe_mul])

include hkn hkr hq hl in
theorem reads_weights : Reads (m := 512) (n := 1024) (weights (F := Ideal) kn kr q l) (fun r c => weight Q K L (r0 + r) (c0 + c)) := fun r c => by
  have key : weights (F := Ideal) kn kr q l (ix2 r c) = Ideal.exp ((∑ x : Fin 128, q (ix2 r ⟨x.val, by omega⟩) * kn (ix2 c x))
      + (∑ x : Fin 128, q (ix2 r ⟨128 + x.val, by omega⟩) * kr (ix2 c x)) - l (ix3 0 r 0)) := by
    unfold weights; unfold_payloads
    pointwise []
  rw [key, split_score hkn hkr hq, hl, ← EReal.coe_sub, Ideal.exp_coe]
  rfl

include hkn hkr hv hq ho hl hg in
theorem reads_dscores : Reads (m := 512) (n := 1024) (dscores (F := Ideal) kn v kr q o l g) (fun r c => dscore Q K V O G L (r0 + r) (c0 + c)) := fun r c => by
  have key : dscores (F := Ideal) kn v kr q o l g (ix2 r c) = Ideal.exp ((∑ x : Fin 128, q (ix2 r ⟨x.val, by omega⟩) * kn (ix2 c x))
      + (∑ x : Fin 128, q (ix2 r ⟨128 + x.val, by omega⟩) * kr (ix2 c x)) - l (ix3 0 r 0))
        * ((∑ x : Fin 128, g (ix2 r x) * v (ix2 c x)) - ∑ x : Fin 128, g (ix2 r x) * o (ix2 r x)) := by
    unfold dscores; unfold_payloads
    pointwise []
  have e1 : (∑ x : Fin 128, g (ix2 r x) * v (ix2 c x)) = ((∑ d ∈ range 128, G (r0 + r.val) d * V (c0 + c.val) d : ℝ) : EReal) := by
    rw [← coe_sum_fin]; exact sum_congr rfl fun x _ => by rw [hg, hv, EReal.coe_mul]
  have e2 : (∑ x : Fin 128, g (ix2 r x) * o (ix2 r x)) = ((∑ d ∈ range 128, G (r0 + r.val) d * O (r0 + r.val) d : ℝ) : EReal) := by
    rw [← coe_sum_fin]; exact sum_congr rfl fun x _ => by rw [hg, ho, EReal.coe_mul]
  rw [key, split_score hkn hkr hq, hl, e1, e2, ← EReal.coe_sub, ← EReal.coe_sub, Ideal.exp_coe, ← EReal.coe_mul]
  rfl

include hkn hkr hq hl hg in
theorem reads_chunkDv {a : Vec Ideal S1024x128 .f32} {A : ℕ → ℕ → ℝ} (ha : Reads (m := 1024) (n := 128) a A) :
    Reads (m := 1024) (n := 128) (chunkDv (F := Ideal) kn kr q l g a)
      (fun c d => A c d + ∑ x ∈ range 512, weight Q K L (r0 + x) (c0 + c) * G (r0 + x) d) := fun c d => by
  have key : chunkDv (F := Ideal) kn kr q l g a (ix2 c d) = a (ix2 c d) + ∑ x : Fin 512, weights (F := Ideal) kn kr q l (ix2 x c) * g (ix2 x d) := by
    pointwise [chunkDv, k1_pay1, k1_pay23]
  rw [key, ha, EReal.coe_add, ← coe_sum_fin]
  exact congrArg _ (sum_congr rfl fun x _ => by rw [reads_weights hkn hkr hq hl, hg, EReal.coe_mul])

include hkn hkr hv hq ho hl hg in
theorem reads_chunkDk {a : Vec Ideal S1024x256 .f32} {A : ℕ → ℕ → ℝ} (ha : Reads (m := 1024) (n := 256) a A) :
    Reads (m := 1024) (n := 256) (chunkDk (F := Ideal) kn v kr q o l g a)
      (fun c d => A c d + ∑ x ∈ range 512, dscore Q K V O G L (r0 + x) (c0 + c) * Q (r0 + x) d) := fun c d => by
  have key : chunkDk (F := Ideal) kn v kr q o l g a (ix2 c d)
      = a (ix2 c d) + ∑ x : Fin 512, dscores (F := Ideal) kn v kr q o l g (ix2 x c) * q (ix2 x d) := by
    pointwise [chunkDk, k1_pay2]
  rw [key, ha, EReal.coe_add, ← coe_sum_fin]
  exact congrArg _ (sum_congr rfl fun x _ => by rw [reads_dscores hkn hkr hv hq ho hl hg, hq, EReal.coe_mul])

include hkn hkr in
/-- The keys' lanes side by side, in the backward call's two spellings. -/
theorem reads_pay11 : Reads (m := 1024) (n := 256) (k1_pay11 (F := Ideal) kn kr) (fun c d => K (c0 + c) d) := fun a b => by
  pointwise [k1_pay11]
  split
  · exact hkn _ _
  · rename_i hb
    rw [hkr]
    show ((K (c0 + a.val) (128 + (b.val - 128)) : ℝ) : EReal) = _
    rw [Nat.add_sub_cancel' (Nat.le_of_not_lt hb)]

end Chunks

theorem pay33_eq (x y : Vec Ideal S1024x128 .bf16) : k1_pay33 (F := Ideal) x y = k1_pay11 (F := Ideal) x y := rfl

section Tiles
variable {Q K V O G : ℕ → ℕ → ℝ} {L : ℕ → ℝ} {c0 : ℕ} {kn v kr : Vec Ideal S2048x128 .bf16}
  (hkn : Reads (m := 2048) (n := 128) kn (fun c d => K (c0 + c) d)) (hkr : Reads (m := 2048) (n := 128) kr (fun c d => K (c0 + c) (128 + d)))
  (hv : Reads (m := 2048) (n := 128) v (fun c d => V (c0 + c) d))

section Chunked
variable {f : ℕ → ℕ → ℝ} {x : Vec Ideal S2048x128 .bf16} (hx : Reads (m := 2048) (n := 128) x (fun c d => f (c0 + c) d))
include hx
theorem reads_chunk0 : Reads (m := 1024) (n := 128) (chunk0 x) (fun c d => f (c0 + c) d) :=
  (hx.window inb_S2048x128_S1024x128_0_0).congr fun c d _ _ => by simp
theorem reads_chunk1 : Reads (m := 1024) (n := 128) (chunk1 x) (fun c d => f (c0 + 1024 + c) d) :=
  (hx.window inb_S2048x128_S1024x128_1024_0).congr fun c d _ _ => by simp [Nat.add_assoc]
end Chunked

include hkn hkr hv in
theorem reads_halfDq {r0 : ℕ} {q : Vec Ideal S512x256 .bf16} {o g : Vec Ideal S512x128 .f32} {l : Vec Ideal S1x512x128 .f32}
    (hq : Reads (m := 512) (n := 256) q (fun r d => Q (r0 + r) d))
    (ho : Reads (m := 512) (n := 128) o (fun r d => O (r0 + r) d)) (hl : ReadsRow (m := 512) l (fun r => L (r0 + r)))
    (hg : Reads (m := 512) (n := 128) g (fun r d => G (r0 + r) d))
    {a : Vec Ideal S512x256 .f32} {A : ℕ → ℕ → ℝ} (ha : Reads (m := 512) (n := 256) a A) :
    Reads (m := 512) (n := 256) (halfDq (F := Ideal) kn v kr q o l g a)
      (fun r d => A r d + ∑ x ∈ range 2048, dscore Q K V O G L (r0 + r) (c0 + x) * K (c0 + x) d) := fun r d => by
  have kn0 := reads_chunk0 hkn; have kr0 := reads_chunk0 (f := fun c d => K c (128 + d)) hkr; have v0 := reads_chunk0 hv
  have kn1 := reads_chunk1 hkn; have kr1 := reads_chunk1 (f := fun c d => K c (128 + d)) hkr; have v1 := reads_chunk1 hv
  have key : halfDq (F := Ideal) kn v kr q o l g a (ix2 r d) = a (ix2 r d)
      + ((∑ x : Fin 1024, dscores (F := Ideal) (chunk0 kn) (chunk0 v) (chunk0 kr) q o l g (ix2 r x) * k1_pay11 (F := Ideal) (chunk0 kn) (chunk0 kr) (ix2 x d))
        + ∑ x : Fin 1024, dscores (F := Ideal) (chunk1 kn) (chunk1 v) (chunk1 kr) q o l g (ix2 r x) * k1_pay11 (F := Ideal) (chunk1 kn) (chunk1 kr) (ix2 x d)) := by
    unfold halfDq
    rw [pay33_eq]
    pointwise [k1_pay3, k1_pay16]
  have e : ∀ f : ℕ → ℝ, (∑ x ∈ range 2048, f x) = (∑ x ∈ range 1024, f x) + ∑ x ∈ range 1024, f (1024 + x) := fun f => sum_range_add f 1024 1024
  beta_reduce
  rw [key, ha, e, EReal.coe_add, EReal.coe_add, ← coe_sum_fin, ← coe_sum_fin]
  refine congrArg _ (congrArg₂ (· + ·) (sum_congr rfl fun x _ => ?_) (sum_congr rfl fun x _ => ?_))
  · rw [reads_dscores kn0 kr0 v0 hq ho hl hg, reads_pay11 kn0 kr0, EReal.coe_mul]
  · rw [reads_dscores kn1 kr1 v1 hq ho hl hg, reads_pay11 kn1 kr1, EReal.coe_mul]
    simp only [Nat.add_assoc]

section Queries
variable {i0 : ℕ} {q : Vec Ideal S1024x256 .bf16} {o g : Vec Ideal S1024x128 .f32} {l : Vec Ideal S1x1024x128 .f32}
  (hq : Reads (m := 1024) (n := 256) q (fun r d => Q (i0 + r) d))
  (ho : Reads (m := 1024) (n := 128) o (fun r d => O (i0 + r) d)) (hl : ReadsRow (m := 1024) l (fun r => L (i0 + r)))
  (hg : Reads (m := 1024) (n := 128) g (fun r d => G (i0 + r) d))

include hq in
theorem reads_qhalf0 : Reads (m := 512) (n := 256) (qhalf0 q) (fun r d => Q (i0 + r) d) :=
  (hq.window inb_S1024x256_S512x256_0_0).congr fun c d _ _ => by simp
include hq in
theorem reads_qhalf1 : Reads (m := 512) (n := 256) (qhalf1 q) (fun r d => Q (i0 + 512 + r) d) :=
  (hq.window inb_S1024x256_S512x256_512_0).congr fun c d _ _ => by simp [Nat.add_assoc]
include hg in
theorem reads_ohalf0 : Reads (m := 512) (n := 128) (ohalf0 g) (fun r d => G (i0 + r) d) :=
  (hg.window inb_S1024x128_S512x128_0_0).congr fun c d _ _ => by simp
include hg in
theorem reads_ohalf1 : Reads (m := 512) (n := 128) (ohalf1 g) (fun r d => G (i0 + 512 + r) d) :=
  (hg.window inb_S1024x128_S512x128_512_0).congr fun c d _ _ => by simp [Nat.add_assoc]
include hl in
theorem reads_lhalf0 : ReadsRow (m := 512) (lhalf0 l) (fun r => L (i0 + r)) := fun a =>
  (hl.window inb_S1x1024x128_S1x512x128_0_0_0 a).trans (by simp)
include hl in
theorem reads_lhalf1 : ReadsRow (m := 512) (lhalf1 l) (fun r => L (i0 + 512 + r)) := fun a =>
  (hl.window inb_S1x1024x128_S1x512x128_0_512_0 a).trans (by simp [Nat.add_assoc])

/-- Two halves of 512 rows make a tile of 1024. -/
theorem sum_halves (A : ℝ) (f : ℕ → ℝ) : A + (∑ x ∈ range 512, f (i0 + x)) + (∑ x ∈ range 512, f (i0 + 512 + x)) = A + ∑ x ∈ range 1024, f (i0 + x) := by
  rw [show (1024 : ℕ) = 512 + 512 from rfl, sum_range_add, add_assoc]
  simp only [Nat.add_assoc]

include hkn hkr hq hl hg in
theorem reads_bwdDv {a : Vec Ideal S2048x128 .f32} {A : ℕ → ℕ → ℝ} (ha : Reads (m := 2048) (n := 128) a A) :
    Reads (m := 2048) (n := 128) (bwdDv (F := Ideal) q kn kr l g a)
      (fun c d => A c d + ∑ x ∈ range 1024, weight Q K L (i0 + x) (c0 + c) * G (i0 + x) d) := by
  refine Reads.stack (r := 1024) (R := 2048) rfl ?_ ?_
  · exact (reads_chunkDv (reads_chunk0 hkn) (reads_chunk0 (f := fun c d => K c (128 + d)) hkr) (reads_qhalf1 hq) (reads_lhalf1 hl) (reads_ohalf1 hg)
      (reads_chunkDv (reads_chunk0 hkn) (reads_chunk0 (f := fun c d => K c (128 + d)) hkr) (reads_qhalf0 hq) (reads_lhalf0 hl) (reads_ohalf0 hg)
        (ha.window inb_S2048x128_S1024x128_0_0))).congr fun c d _ _ => by
          rw [sum_halves (i0 := i0) _ (fun x => weight Q K L x (c0 + c) * G x d)]; simp
  · exact (reads_chunkDv (reads_chunk1 hkn) (reads_chunk1 (f := fun c d => K c (128 + d)) hkr) (reads_qhalf1 hq) (reads_lhalf1 hl) (reads_ohalf1 hg)
      (reads_chunkDv (reads_chunk1 hkn) (reads_chunk1 (f := fun c d => K c (128 + d)) hkr) (reads_qhalf0 hq) (reads_lhalf0 hl) (reads_ohalf0 hg)
        (ha.window inb_S2048x128_S1024x128_1024_0))).congr fun c d _ _ => by
          rw [sum_halves (i0 := i0) _ (fun x => weight Q K L x (c0 + 1024 + c) * G x d)]; simp [Nat.add_assoc]

include hkn hkr hv hq ho hl hg in
theorem reads_bwdDk {a : Vec Ideal S2048x256 .f32} {A : ℕ → ℕ → ℝ} (ha : Reads (m := 2048) (n := 256) a A) :
    Reads (m := 2048) (n := 256) (bwdDk (F := Ideal) q kn v kr o l g a)
      (fun c d => A c d + ∑ x ∈ range 1024, dscore Q K V O G L (i0 + x) (c0 + c) * Q (i0 + x) d) := by
  refine Reads.stack (r := 1024) (R := 2048) rfl ?_ ?_
  · exact (reads_chunkDk (reads_chunk0 hkn) (reads_chunk0 (f := fun c d => K c (128 + d)) hkr) (reads_chunk0 hv) (reads_qhalf1 hq) (reads_ohalf1 ho) (reads_lhalf1 hl) (reads_ohalf1 hg)
      (reads_chunkDk (reads_chunk0 hkn) (reads_chunk0 (f := fun c d => K c (128 + d)) hkr) (reads_chunk0 hv) (reads_qhalf0 hq) (reads_ohalf0 ho) (reads_lhalf0 hl) (reads_ohalf0 hg)
        (ha.window inb_S2048x256_S1024x256_0_0))).congr fun c d _ _ => by
          rw [sum_halves (i0 := i0) _ (fun x => dscore Q K V O G L x (c0 + c) * Q x d)]; simp
  · exact (reads_chunkDk (reads_chunk1 hkn) (reads_chunk1 (f := fun c d => K c (128 + d)) hkr) (reads_chunk1 hv) (reads_qhalf1 hq) (reads_ohalf1 ho) (reads_lhalf1 hl) (reads_ohalf1 hg)
      (reads_chunkDk (reads_chunk1 hkn) (reads_chunk1 (f := fun c d => K c (128 + d)) hkr) (reads_chunk1 hv) (reads_qhalf0 hq) (reads_ohalf0 ho) (reads_lhalf0 hl) (reads_ohalf0 hg)
        (ha.window inb_S2048x256_S1024x256_1024_0))).congr fun c d _ _ => by
          rw [sum_halves (i0 := i0) _ (fun x => dscore Q K V O G L x (c0 + 1024 + c) * Q x d)]; simp [Nat.add_assoc]

/-- Putting a block of rows changes those rows and no other. -/
theorem Reads.put {M m o : ℕ} {C : ℕ} {x : (⟨2, ![M, C]⟩ : Shape).Idx → EReal} {X : ℕ → ℕ → ℝ} (hx : Reads x X)
    {w : (⟨2, ![m, C]⟩ : Shape).Idx → EReal} {W : ℕ → ℕ → ℝ} (hw : Reads w W) (off : Fin 2 → ℕ) (e : off = ![o, 0]) :
    Reads (VecWindow.put (s := ⟨2, ![M, C]⟩) x off ![m, C] w) (fun r d => if o ≤ r ∧ r < o + m then W (r - o) d else X r d) := fun a b => by
  subst e
  beta_reduce
  unfold VecWindow.put
  by_cases h : o ≤ a.val ∧ a.val < o + m
  · have hp : ∀ d : Fin 2, (![o, 0] : Fin 2 → ℕ) d ≤ ((ix2 a b : (⟨2, ![M, C]⟩ : Shape).Idx) d).val
        ∧ ((ix2 a b : (⟨2, ![M, C]⟩ : Shape).Idx) d).val < (![o, 0] : Fin 2 → ℕ) d + (![m, C] : Fin 2 → ℕ) d := fun d => by
      fin_cases d
      · exact h
      · exact ⟨Nat.zero_le _, by simp [ix2]⟩
    rw [dif_pos hp, if_pos h]
    refine Eq.trans (congrArg w ?_) (hw ⟨a.val - o, by omega⟩ b)
    funext d; fin_cases d <;> rfl
  · rw [dif_neg (fun hh => h (hh 0)), if_neg h]
    exact hx a b

include hkn hkr hv hq ho hl hg in
theorem reads_bwdDq (i : grid1.Coords) (hi : i0 = 1024 * (i 2).val) {x : Vec Ideal S8192x256 .f32} {X : ℕ → ℕ → ℝ} (hx : Reads (m := 8192) (n := 256) x X) :
    Reads (m := 8192) (n := 256) (bwdDq (F := Ideal) i q kn v kr o l g x)
      (fun r d => if i0 ≤ r ∧ r < i0 + 1024 then X r d + ∑ y ∈ range 2048, dscore Q K V O G L r (c0 + y) * K (c0 + y) d else X r d) := by
  have e0 : k1_off1 i 0#32 = ![i0, 0] := (k1_off1_eq i 0).trans (by rw [hi]; simp)
  have e1 : k1_off1 i 512#32 = ![i0 + 512, 0] := (k1_off1_eq i 1).trans (by rw [hi]; simp)
  have win : ∀ (o : ℕ) (off : Fin 2 → ℕ) (e : off = ![o, 0]) (inb : ∀ d, off d + (![512, 256] : Fin 2 → ℕ) d ≤ (⟨2, ![8192, 256]⟩ : Shape).size d),
      Reads (m := 512) (n := 256) (VecWindow.window (s := ⟨2, ![8192, 256]⟩) x off ![512, 256] inb) (fun r d => X (o + r) d) := by
    intro o off e inb
    subst e
    exact (hx.window inb).congr fun r d _ _ => by simp
  have w0 := win i0 _ e0 (k1_off1_inb i 0)
  have w1 := win (i0 + 512) _ e1 (k1_off1_inb i 1)
  have d0 := reads_halfDq hkn hkr hv (reads_qhalf0 hq) (reads_ohalf0 ho) (reads_lhalf0 hl) (reads_ohalf0 hg) w0
  have d1 := reads_halfDq hkn hkr hv (reads_qhalf1 hq) (reads_ohalf1 ho) (reads_lhalf1 hl) (reads_ohalf1 hg) w1
  refine ((hx.put d0 _ e0).put d1 _ e1).congr fun r d _ _ => ?_
  by_cases h1 : i0 + 512 ≤ r ∧ r < i0 + 512 + 512
  · rw [if_pos h1, if_pos (by omega), show i0 + 512 + (r - (i0 + 512)) = r by omega]
  · rw [if_neg h1]
    by_cases h0 : i0 ≤ r ∧ r < i0 + 512
    · rw [if_pos h0, if_pos (by omega), show i0 + (r - i0) = r by omega]
    · rw [if_neg h0, if_neg (by omega)]

end Queries
end Tiles

/-- The block of the keys' own gradient and the values': the first 128 lanes of the one, then the other. -/
theorem reads_bwdDkv {dk : Vec Ideal S2048x256 .f32} {dv : Vec Ideal S2048x128 .f32} {A B : ℕ → ℕ → ℝ} (hk : Reads (m := 2048) (n := 256) dk A)
    (hv : Reads (m := 2048) (n := 128) dv B) : Reads (m := 2048) (n := 256) (bwdDkv (F := Ideal) dk dv) (fun c d => if d < 128 then A c d else B c (d - 128)) := fun a b => by
  have hw := hk.window inb_S2048x256_S2048x128_0_0
  have key : bwdDkv (F := Ideal) dk dv (ix2 a b) = if h : b.val < 128
      then VecWindow.window dk ![0, 0] S2048x128.size inb_S2048x256_S2048x128_0_0 (ix2 a ⟨b.val, h⟩) else dv (ix2 a ⟨b.val - 128, by omega⟩) := by
    pointwise [bwdDkv, k1_pay4]
  rw [key]
  beta_reduce
  by_cases hb : b.val < 128
  · rw [dif_pos hb, if_pos hb]
    exact (hw a ⟨b.val, hb⟩).trans (by simp)
  · rw [dif_neg hb, if_neg hb, hv]

theorem reads_bwdDkr {dk : Vec Ideal S2048x256 .f32} {A : ℕ → ℕ → ℝ} (hk : Reads (m := 2048) (n := 256) dk A) :
    Reads (m := 2048) (n := 128) (bwdDkr (F := Ideal) dk) (fun c d => A c (128 + d)) :=
  (hk.window inb_S2048x256_S2048x128_0_128).congr fun c d _ _ => by simp

end Cert.Attn

end
-- ==== Proof.Value.FwdArrays.lean ====
/- The forward call's two arrays on real operands: the attention's output and the logarithms of its weights' sums. -/
module

public import proofs.«01_k».proof.Proof.Value.Grad
public import proofs.«01_k».proof.Proof.Fwd.Data
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Finset

/-! ## Where each window's block lies -/

theorem idx0_0 : ∀ t : Fin grid0.N, win0_0.index t 0 = t.val / 4 % 16 ∧ win0_0.index t 1 = t.val / 64 := by decide +kernel
theorem idx0_1 : ∀ t : Fin grid0.N, win0_1.index t 0 = t.val % 4 ∧ win0_1.index t 1 = 2 * (t.val / 64) := by decide +kernel
theorem idx0_2 : ∀ t : Fin grid0.N, win0_2.index t 0 = t.val % 4 ∧ win0_2.index t 1 = 2 * (t.val / 64) + 1 := by decide +kernel
theorem idx0_3 : ∀ t : Fin grid0.N, win0_3.index t 0 = t.val % 4 ∧ win0_3.index t 1 = 0 := by decide +kernel
theorem idx0_4 : ∀ t : Fin grid0.N, win0_4.index t 0 = t.val / 4 % 16 ∧ win0_4.index t 1 = t.val / 64 := by decide +kernel
theorem idx0_5 : ∀ t : Fin grid0.N, win0_5.index t 0 = t.val / 64 ∧ win0_5.index t 1 = t.val / 4 % 16 ∧ win0_5.index t 2 = 0 := by decide +kernel

/-- A block's entry, from the array's: the block's corner plus the entry's own coordinates. -/
theorem reads_at {M N m n r0 d0 : ℕ} {X : (⟨2, ![M, N]⟩ : Shape).Idx → EReal} {f : ℕ → ℕ → ℝ} (hX : Reads X f)
    (emb : (⟨2, ![m, n]⟩ : Shape).Idx → (⟨2, ![M, N]⟩ : Shape).Idx)
    (h : ∀ y, (emb y 0).val = r0 + (y 0).val ∧ (emb y 1).val = d0 + (y 1).val) : Reads (fun y => X (emb y)) (fun r d => f (r0 + r) (d0 + d)) := fun a b => by
  have e : emb (ix2 a b) = ix2 (emb (ix2 a b) 0) (emb (ix2 a b) 1) := by funext d; fin_cases d <;> rfl
  refine (congrArg X e).trans ((hX (emb (ix2 a b) 0) (emb (ix2 a b) 1)).trans ?_)
  exact congrArg (fun x : ℝ => (x : EReal)) (congrArg₂ f (h _).1 (h _).2)

/-- The contents of the arrays the calls read hold reals. -/
structure Operands (V : Contents Ideal) (c : Dev nD) (q kv kr : ℕ → ℕ → ℝ) : Prop where
  hq : Reads (m := 8192) (n := 2048) (V c main_arg0) q
  hkv : Reads (m := 8192) (n := 2048) (V c main_arg1) kv
  hkr : Reads (m := 8192) (n := 128) (V c main_arg2) kr

variable {V : Contents Ideal} {c : Dev nD} {q kv kr : ℕ → ℕ → ℝ} (H : Operands V c q kv kr)
include H

theorem reads_fwdQ (t : Fin cfg0.N) :
    Reads (m := 512) (n := 256) (fwdQ V c t) (fun r d => queries q (t.val / 64) (512 * (t.val / 4 % 16) + r) d) :=
  reads_at H.hq (((cfg0.win 0).blk t).view.emb) fun y => by
    obtain ⟨e0, e1⟩ := idx0_0 t
    exact ⟨by blk_simp [e0]; exact congrArg (· + _) (Nat.mul_comm _ _), by blk_simp [e1]; exact congrArg (· + _) (Nat.mul_comm _ _)⟩

theorem reads_fwdKn (t : Fin cfg0.N) :
    Reads (m := 2048) (n := 128) (fwdKn V c t) (fun k d => keys kv kr (t.val / 64) (2048 * (t.val % 4) + k) d) :=
  (reads_at H.hkv (((cfg0.win 1).blk t).view.emb) fun y => by
    obtain ⟨e0, e1⟩ := idx0_1 t
    exact ⟨by blk_simp [e0]; exact congrArg (· + _) (Nat.mul_comm _ _), by blk_simp [e1]; exact congrArg (· + _) (Nat.mul_comm _ _)⟩).congr
  fun k d _ hd => by rw [keys, if_pos hd, show 128 * (2 * (t.val / 64)) = 256 * (t.val / 64) by omega]

theorem reads_fwdV (t : Fin cfg0.N) :
    Reads (m := 2048) (n := 128) (fwdV V c t) (fun k d => values kv (t.val / 64) (2048 * (t.val % 4) + k) d) :=
  (reads_at H.hkv (((cfg0.win 2).blk t).view.emb) fun y => by
    obtain ⟨e0, e1⟩ := idx0_2 t
    exact ⟨by blk_simp [e0]; exact congrArg (· + _) (Nat.mul_comm _ _), by blk_simp [e1]; exact congrArg (· + _) (Nat.mul_comm _ _)⟩).congr
  fun k d _ hd => by rw [values, show 128 * (2 * (t.val / 64) + 1) = 256 * (t.val / 64) + 128 by omega]

theorem reads_fwdKr (t : Fin cfg0.N) :
    Reads (m := 2048) (n := 128) (fwdKr V c t) (fun k d => keys kv kr (t.val / 64) (2048 * (t.val % 4) + k) (128 + d)) :=
  (reads_at H.hkr (((cfg0.win 3).blk t).view.emb) fun y => by
    obtain ⟨e0, e1⟩ := idx0_3 t
    exact ⟨by blk_simp [e0]; exact congrArg (· + _) (Nat.mul_comm _ _), by blk_simp [e1]; exact (Nat.zero_add _).symm⟩).congr
  fun k d _ hd => by rw [keys, if_neg (by omega), Nat.zero_add, Nat.add_sub_cancel_left]

/-! ## The running softmax over the grid -/

theorem fwdStep_online (t : Fin cfg0.N) {s : Vec Ideal S512x1 .f32 × Vec Ideal S512x256 .f32}
    (hs : Online (R := 512) (fun r => score (queries q (t.val / 64)) (keys kv kr (t.val / 64)) (512 * (t.val / 4 % 16) + r))
      (lanes (values kv (t.val / 64))) (2048 * (t.val % 4)) s.1 s.2) :
    Online (R := 512) (fun r => score (queries q (t.val / 64)) (keys kv kr (t.val / 64)) (512 * (t.val / 4 % 16) + r))
      (lanes (values kv (t.val / 64))) (2048 * (t.val % 4 + 1)) (fwdStep V c t s).1 (fwdStep V c t s).2 :=
  fwd_online (reads_fwdKn H t) (reads_fwdV H t) (reads_fwdKr H t) hs (reads_fwdQ H t)

theorem fwdAt_online (n : ℕ) (hn : n < cfg0.N) :
    Online (R := 512) (fun r => score (queries q (n / 64)) (keys kv kr (n / 64)) (512 * (n / 4 % 16) + r)) (lanes (values kv (n / 64)))
      (2048 * (n % 4 + 1)) (fwdAt V c n hn).1 (fwdAt V c n hn).2 := by
  induction n with
  | zero =>
    rw [fwdAt_first V c ⟨0, hn⟩ rfl]
    exact fwdStep_online H ⟨0, hn⟩ (start_online _ _)
  | succ n ih =>
    by_cases h : (n + 1) % 4 = 0
    · rw [fwdAt_first V c ⟨n + 1, hn⟩ h]
      refine fwdStep_online H ⟨n + 1, hn⟩ ?_
      show Online _ _ (2048 * ((n + 1) % 4)) _ _
      rw [h]
      exact start_online _ _
    · rw [fwdAt_later V c ⟨n + 1, hn⟩ h]
      refine fwdStep_online H ⟨n + 1, hn⟩ ?_
      have i := ih (Nat.lt_of_succ_lt hn)
      rw [show n / 64 = (n + 1) / 64 by omega, show n / 4 % 16 = (n + 1) / 4 % 16 by omega, show n % 4 + 1 = (n + 1) % 4 by omega] at i
      exact i

/-! ## The arrays -/

/-- The attention's output, head after head along the lanes. -/
def attnOut (q kv kr : ℕ → ℕ → ℝ) : ℕ → ℕ → ℝ := fun r d => headOut q kv kr (d / 128) r (d % 128)

theorem fwd_out : Reads (m := 8192) (n := 1024) ((fwdDat V c).arrAt 4 cfg0.N) (attnOut q kv kr) := by
  have e : (fwdDat V c).arrAt 4 cfg0.N = fun i => ((attnOut q kv kr (i 0).val (i 1).val : ℝ) : EReal) := by
    refine (fwdDat V c).arrAt_eq_of_covers 4 _ (by decide +kernel) fun t hf y => ?_
    have h3 : t.val % 4 = 3 := (flush0_4 t).mp hf
    obtain ⟨e0, e1⟩ := idx0_4 t
    have hy : y = ix2 (y 0) (y 1) := by funext d; fin_cases d <;> rfl
    have h1 : (y 1).val < 128 := (y 1).isLt
    have hO := fwdAt_online H t.val t.isLt
    rw [h3] at hO
    have hr := reads_fwdOut hO (y 0) (y 1)
    blk_simp [e0, e1]
    rw [fwdDat_after4, hy]
    refine hr.trans ?_
    show _ = ((attnOut q kv kr (t.val / 4 % 16 * 512 + (y 0).val) (t.val / 64 * 128 + (y 1).val) : ℝ) : EReal)
    rw [attnOut, headOut, show (t.val / 64 * 128 + (y 1).val) / 128 = t.val / 64 by omega,
      show (t.val / 64 * 128 + (y 1).val) % 128 = (y 1).val by omega, Nat.mul_comm (t.val / 4 % 16)]
  rw [e]
  exact fun a b => rfl

theorem fwd_log (h : Fin 8) (r : Fin 8192) (l : Fin 128) :
    ((fwdDat V c).arrAt 5 cfg0.N : (⟨3, ![8, 8192, 128]⟩ : Shape).Idx → EReal) (ix3 h r l) = ((headLog q kv kr h.val r.val : ℝ) : EReal) := by
  have e : (fwdDat V c).arrAt 5 cfg0.N = fun i => ((headLog q kv kr (i 0).val (i 1).val : ℝ) : EReal) := by
    refine (fwdDat V c).arrAt_eq_of_covers 5 _ (by decide +kernel) fun t hf y => ?_
    have h3 : t.val % 4 = 3 := (flush0_5 t).mp hf
    obtain ⟨e0, e1, e2⟩ := idx0_5 t
    have h0 : (y 0).val = 0 := Nat.lt_one_iff.mp (y 0).isLt
    have hy : y = ix3 0 (y 1) (y 2) := by
      funext d
      fin_cases d
      · exact Fin.ext h0
      · rfl
      · rfl
    have hO := fwdAt_online H t.val t.isLt
    rw [h3] at hO
    have hr := reads_fwdLse hO (y 1) (y 2)
    blk_simp [e0, e1]
    rw [fwdDat_after5]
    refine (congrArg _ hy).trans (hr.trans ?_)
    show _ = ((headLog q kv kr (t.val / 64) (t.val / 4 % 16 * 512 + (y 1).val) : ℝ) : EReal)
    rw [headLog, Nat.mul_comm (t.val / 4 % 16)]
  rw [e]
  rfl

end Cert.Attn

end
-- ==== Proof.Value.Softmax.lean ====
/- The softmax as the reference forms it, relative to a number of the row's, against the weights by the row's log-sum. -/
module

public import proofs.«01_k».proof.Proof.Value.Math

@[expose] public section

noncomputable section

namespace Cert.Attn

open Finset

variable (Q K V G : ℕ → ℕ → ℝ) (M : ℝ) (r : ℕ)

/-- The exponential of a score relative to `M`, and a row's sum of those. -/
def shifted (c : ℕ) : ℝ := Real.exp (score Q K r c - M)
def shiftedTotal : ℝ := ∑ c ∈ range 8192, shifted Q K M r c

theorem shiftedTotal_pos : 0 < shiftedTotal Q K M r := sum_pos (fun _ _ => Real.exp_pos _) ⟨0, by simp⟩

/-- Their quotient does not depend on `M`. -/
theorem shifted_div (c : ℕ) : shifted Q K M r c / shiftedTotal Q K M r = weight Q K (logTotal Q K) r c := by
  have e : shiftedTotal Q K M r = Real.exp (-M) * total Q K r := by
    rw [shiftedTotal, total, mul_sum]
    exact sum_congr rfl fun c _ => by rw [shifted, sub_eq_add_neg, Real.exp_add, mul_comm]
  rw [weight_logTotal, e, shifted, sub_eq_add_neg, Real.exp_add, mul_comm (Real.exp (score Q K r c)), mul_div_mul_left _ _ (Real.exp_pos _).ne']

/-- The output is the sum of the values by their weights. -/
theorem weight_sum (d : ℕ) : ∑ c ∈ range 8192, weight Q K (logTotal Q K) r c * V c d = output Q K V r d := by
  rw [output, sum_div]
  exact sum_congr rfl fun c _ => by rw [weight_logTotal, div_mul_eq_mul_div]

/-- The sum over the keys of the weights' gradients by the weights is the product of the output's gradient with the output. -/
theorem weight_grads : ∑ c ∈ range 8192, (∑ d ∈ range 128, G r d * V c d) * weight Q K (logTotal Q K) r c = ∑ d ∈ range 128, G r d * output Q K V r d := by
  simp_rw [← weight_sum, sum_mul, mul_sum]
  rw [sum_comm]
  exact sum_congr rfl fun d _ => sum_congr rfl fun c _ => by ring

/-- The gradient of a score through the quotient of an exponential by the row's sum. -/
theorem quotient_grad (c : ℕ) :
    ((∑ d ∈ range 128, G r d * V c d) / shiftedTotal Q K M r
      + -∑ k ∈ range 8192, (∑ d ∈ range 128, G r d * V k d) * (1 / (shiftedTotal Q K M r * shiftedTotal Q K M r)) * shifted Q K M r k) * shifted Q K M r c
      = dscore Q K V (output Q K V) G (logTotal Q K) r c := by
  have hl := (shiftedTotal_pos Q K M r).ne'
  have e : ∑ k ∈ range 8192, (∑ d ∈ range 128, G r d * V k d) * (1 / (shiftedTotal Q K M r * shiftedTotal Q K M r)) * shifted Q K M r k
      = (∑ d ∈ range 128, G r d * output Q K V r d) / shiftedTotal Q K M r := by
    rw [← weight_grads, sum_div]
    exact sum_congr rfl fun k _ => by rw [← shifted_div Q K M]; field_simp
  rw [e, dscore, ← shifted_div Q K M]
  field_simp
  ring

end Cert.Attn

end
-- ==== Proof.Value.RefOut.lean ====
/- The reference on real operands, up to the output: scores, softmax weights, and the heads' outputs. -/
module

public import proofs.«01_k».proof.Proof.Value.FwdArrays
public import proofs.«01_k».proof.Proof.Value.Softmax
public import proofs.«01_k».proof.Proof.Gen.ReferenceIdeal.Read

@[expose] public section

set_option maxRecDepth 16384

noncomputable section

namespace Cert.Attn

open Cert.ReferenceIdeal Cert.ReferenceIdeal.Read
open Idealize.ShloMosaic Finset

/-! ## Arrays that hold reals, read at an index -/

/-- The array of three axes `x` holds the reals `f`. -/
def Reads3 {p m n : ℕ} (x : (⟨3, ![p, m, n]⟩ : Shape).Idx → EReal) (f : ℕ → ℕ → ℕ → ℝ) : Prop :=
  ∀ i, x i = ((f (i 0).val (i 1).val (i 2).val : ℝ) : EReal)

theorem Reads.at {m n : ℕ} {x : (⟨2, ![m, n]⟩ : Shape).Idx → EReal} {f : ℕ → ℕ → ℝ} (hx : Reads x f) (i : (⟨2, ![m, n]⟩ : Shape).Idx) :
    x i = ((f (i 0).val (i 1).val : ℝ) : EReal) :=
  (congrArg x (show i = ix2 (i 0) (i 1) by funext d; fin_cases d <;> rfl)).trans (hx (i 0) (i 1))

/-- The reals of an array. -/
def reals {m n : ℕ} (x : (⟨2, ![m, n]⟩ : Shape).Idx → EReal) : ℕ → ℕ → ℝ :=
  fun r d => if h : r < m ∧ d < n then (x (ix2 ⟨r, h.1⟩ ⟨d, h.2⟩)).toReal else 0

theorem reads_reals {m n : ℕ} {x : (⟨2, ![m, n]⟩ : Shape).Idx → EReal} (hx : ∀ (a : Fin m) (b : Fin n), ∃ z : ℝ, x (ix2 a b) = (z : EReal)) :
    Reads x (reals x) := fun a b => by
  obtain ⟨z, hz⟩ := hx a b
  rw [reals, dif_pos ⟨a.isLt, b.isLt⟩]
  show x (ix2 a b) = ((x (ix2 a b)).toReal : EReal)
  rw [hz, EReal.toReal_coe]

/-- A sum of products of reals. -/
theorem dot_real {n : ℕ} {x y : Fin n → EReal} (f g : ℕ → ℝ) (hx : ∀ k, x k = ((f k.val : ℝ) : EReal)) (hy : ∀ k, y k = ((g k.val : ℝ) : EReal)) :
    ∑ k, x k * y k = ((∑ k ∈ range n, f k * g k : ℝ) : EReal) := by
  rw [← coe_sum_fin n fun k => f k * g k]
  exact sum_congr rfl fun k _ => by rw [hx, hy, EReal.coe_mul]

/-- A sum of reals over an initial zero. -/
theorem sum_real {n : ℕ} {x : Fin n → EReal} {z : EReal} (f : ℕ → ℝ) (hz : z = 0) (hx : ∀ k, x k = ((f k.val : ℝ) : EReal)) :
    z + ∑ k, x k = ((∑ k ∈ range n, f k : ℝ) : EReal) := by
  rw [← coe_sum_fin n f, hz, zero_add]
  exact sum_congr rfl fun k _ => hx k

/-! ## The operands, head by head -/

variable {x0 x1 : S8192x2048.Idx → EReal} {x2 : S8192x128.Idx → EReal} {q kv kr : ℕ → ℕ → ℝ}

theorem reads_v7 (hq : Reads (m := 8192) (n := 2048) x0 q) : Reads3 (p := 8) (m := 8192) (n := 256) (val_main_v7 (F := Ideal) x0) (fun h r d => q r (256 * h + d)) := fun i => by
  have h0 : (i 0).val < 8 := (i 0).isLt
  have h1 : (i 1).val < 8192 := (i 1).isLt
  have h2 : (i 2).val < 256 := (i 2).isLt
  rw [val_main_v7_apply, val_main_v6_apply, val_main_v0_apply]
  refine (hq.at _).trans (congrArg (fun z : ℝ => (z : EReal)) (congrArg₂ q ?_ ?_))
  · show (((i 1).val * 8 + (i 0).val) * 256 + (i 2).val) / 2048 = _
    omega
  · show (((i 1).val * 8 + (i 0).val) * 256 + (i 2).val) % 2048 = _
    omega

theorem reads_v9 (hkv : Reads (m := 8192) (n := 2048) x1 kv) : Reads3 (p := 8) (m := 8192) (n := 256) (val_main_v9 (F := Ideal) x1) (fun h r d => kv r (256 * h + d)) := fun i => by
  have h0 : (i 0).val < 8 := (i 0).isLt
  have h1 : (i 1).val < 8192 := (i 1).isLt
  have h2 : (i 2).val < 256 := (i 2).isLt
  rw [val_main_v9_apply, val_main_v8_apply, val_main_v1_apply]
  refine (hkv.at _).trans (congrArg (fun z : ℝ => (z : EReal)) (congrArg₂ kv ?_ ?_))
  · show (((i 1).val * 8 + (i 0).val) * 256 + (i 2).val) / 2048 = _
    omega
  · show (((i 1).val * 8 + (i 0).val) * 256 + (i 2).val) % 2048 = _
    omega

theorem reads_v12 (hq : Reads (m := 8192) (n := 2048) x0 q) : Reads3 (p := 8) (m := 8192) (n := 128) (val_main_v12 (F := Ideal) x0) (fun h r d => queries q h r d) := fun i => by
  rw [val_main_v12_apply, reads_v7 hq]
  exact congrArg (fun z : ℝ => (z : EReal)) (congrArg₂ q (by first | exact Nat.zero_add _ | rfl) (congrArg (256 * _ + ·) (by first | exact Nat.zero_add _ | rfl)))

theorem reads_v13 (hq : Reads (m := 8192) (n := 2048) x0 q) : Reads3 (p := 8) (m := 8192) (n := 128) (val_main_v13 (F := Ideal) x0) (fun h r d => queries q h r (128 + d)) := fun i => by
  rw [val_main_v13_apply, reads_v7 hq]
  rfl

theorem reads_v14 (hkv : Reads (m := 8192) (n := 2048) x1 kv) : Reads3 (p := 8) (m := 8192) (n := 128) (val_main_v14 (F := Ideal) x1) (fun h r d => keys kv kr h r d) := fun i => by
  have h2 : (i 2).val < 128 := (i 2).isLt
  rw [val_main_v14_apply, reads_v9 hkv]
  show _ = ((keys kv kr (i 0).val (i 1).val (i 2).val : ℝ) : EReal)
  rw [keys, if_pos h2]

theorem reads_v15 (hkv : Reads (m := 8192) (n := 2048) x1 kv) : Reads3 (p := 8) (m := 8192) (n := 128) (val_main_v15 (F := Ideal) x1) (fun h r d => values kv h r d) := fun i => by
  rw [val_main_v15_apply, reads_v9 hkv]
  show _ = ((values kv (i 0).val (i 1).val (i 2).val : ℝ) : EReal)
  rw [values, Nat.add_assoc]

theorem reads_v11 (hkr : Reads (m := 8192) (n := 128) x2 kr) : Reads3 (p := 8) (m := 8192) (n := 128) (val_main_v11 (F := Ideal) x2) (fun h r d => keys kv kr h r (128 + d)) := fun i => by
  have h0 : (i 0).val < 8 := (i 0).isLt
  have h1 : (i 1).val < 8192 := (i 1).isLt
  have h2 : (i 2).val < 128 := (i 2).isLt
  rw [val_main_v11_apply, val_main_v10_apply, val_main_v5_apply, val_main_v4_apply, val_main_v3_apply, val_main_v2_apply]
  refine (hkr.at _).trans ?_
  show _ = ((keys kv kr (i 0).val (i 1).val (128 + (i 2).val) : ℝ) : EReal)
  rw [keys, if_neg (by omega), Nat.add_sub_cancel_left]
  refine congrArg (fun z : ℝ => (z : EReal)) (congrArg₂ kr ?_ ?_)
  · show _ = (i 1).val
    simp only [idx_main_v11, idx_main_v10, idx_main_v5, idx_main_v4, idx_main_v3]
    omega
  · show _ = (i 2).val
    simp only [idx_main_v11, idx_main_v10, idx_main_v5, idx_main_v4, idx_main_v3]
    omega

/-! ## The softmax -/

variable (hq : Reads (m := 8192) (n := 2048) x0 q) (hkv : Reads (m := 8192) (n := 2048) x1 kv) (hkr : Reads (m := 8192) (n := 128) x2 kr)
include hq hkv hkr

theorem reads_v18 : Reads3 (p := 8) (m := 8192) (n := 8192) (val_main_v18 (F := Ideal) x0 x1 x2) (fun h r c => score (queries q h) (keys kv kr h) r c) := fun i => by
  rw [val_main_v18_apply, val_main_v16_apply, val_main_v17_apply,
    dot_real (fun d => queries q (i 0).val (i 1).val d) (fun d => keys kv kr (i 0).val (i 2).val d) (fun k => reads_v12 hq _) (fun k => reads_v14 hkv _),
    dot_real (fun d => queries q (i 0).val (i 1).val (128 + d)) (fun d => keys kv kr (i 0).val (i 2).val (128 + d)) (fun k => reads_v13 hq _) (fun k => reads_v11 hkr _)]
  refine (EReal.coe_add _ _).symm.trans (congrArg (fun z : ℝ => (z : EReal)) ?_)
  exact (sum_range_add (fun d => queries q (i 0).val (i 1).val d * keys kv kr (i 0).val (i 2).val d) 128 128).symm

omit hq hkv hkr in
/-- The maximum of each row of an array. -/
theorem hostMax_rows (y : FVec Ideal S8x8192x8192 .f32) (z : FVec Ideal S_ .f32) (hr : S8x8192x8192.ReducesTo [2] S8x8192) (hu : 0 < S_.numel) (j : S8x8192.Idx) :
    Host.reduce FloatOps.maximumf y z hr hu j = univ.fold max (z (Shape.Idx.first hu)) fun k : Fin 8192 => y (ix3 (j 0) (j 1) k) := by
  simp only [pointwise]

/-- The row's maximum is a real. -/
theorem v26_real (a : Fin 8) (b : Fin 8192) : ∃ z : ℝ, val_main_v26 (F := Ideal) x0 x1 x2 (ix2 a b) = (z : EReal) := by
  have hs := reads_v18 hq hkv hkr
  rw [val_main_v26_apply, val_main_v25_apply, val_main_cst_1_apply, val_main_v19]
  generalize val_main_v18 (F := Ideal) x0 x1 x2 = y at hs
  rw [hostMax_rows, val_main_cst_apply]
  have e : (fun k : Fin 8192 => y (ix3 a b k)) = fun k : Fin 8192 => ((score (queries q a.val) (keys kv kr a.val) b.val k.val : ℝ) : EReal) := funext fun k => hs (ix3 a b k)
  obtain ⟨z, hz⟩ := max_fold_real (Ideal.ofBits .f32 4286578688#32) (Ideal.ofBits .f32 4286578688#32) (neg_inf ▸ bot_ne_top) (neg_inf ▸ bot_ne_top)
    (fun k : Fin 8192 => score (queries q a.val) (keys kv kr a.val) b.val k.val) 0
  exact ⟨z, (congrArg (fun f => max (Ideal.ofBits .f32 4286578688#32) (univ.fold max (Ideal.ofBits .f32 4286578688#32) f)) e).trans hz⟩

/-- The row's maximum, as a real. -/
abbrev rowMax (x0 x1 : S8192x2048.Idx → EReal) (x2 : S8192x128.Idx → EReal) : ℕ → ℕ → ℝ := reals (m := 8) (n := 8192) (val_main_v26 (F := Ideal) x0 x1 x2)

theorem reads_v39 : Reads3 (p := 8) (m := 8192) (n := 8192) (val_main_v39 (F := Ideal) x0 x1 x2)
    (fun h r c => shifted (queries q h) (keys kv kr h) (rowMax x0 x1 x2 h r) r c) := fun i => by
  rw [val_main_v39_apply, val_main_v38_apply, val_main_v37_apply, val_main_v36_apply, reads_v18 hq hkv hkr,
    (reads_reals (v26_real hq hkv hkr)).at]
  exact (congrArg Ideal.exp (EReal.coe_sub _ _).symm).trans (Ideal.exp_coe _)

/-- The row's sum. -/
theorem reads_v40 (i : S8x8192.Idx) : val_main_v40 (F := Ideal) x0 x1 x2 i
    = ((shiftedTotal (queries q (i 0).val) (keys kv kr (i 0).val) (rowMax x0 x1 x2 (i 0).val (i 1).val) (i 1).val : ℝ) : EReal) := by
  rw [val_main_v40_apply]
  exact sum_real (shifted (queries q (i 0).val) (keys kv kr (i 0).val) (rowMax x0 x1 x2 (i 0).val (i 1).val) (i 1).val) Ideal.ofBits_zero_f32
    fun k => reads_v39 hq hkv hkr _

theorem reads_v43 : Reads3 (p := 8) (m := 8192) (n := 8192) (val_main_v43 (F := Ideal) x0 x1 x2) (fun h r c => headP q kv kr h r c) := fun i => by
  rw [val_main_v43_apply, val_main_v42_apply, val_main_v41_apply, reads_v39 hq hkv hkr, reads_v40 hq hkv hkr]
  exact (coe_div _ _ (shiftedTotal_pos _ _ _ _).ne').trans (congrArg (fun z : ℝ => (z : EReal)) (shifted_div _ _ _ _ _))

/-! ## The output -/

theorem reads_v47 : Reads3 (p := 8) (m := 8192) (n := 128) (val_main_v47 (F := Ideal) x0 x1 x2) (fun h r d => headOut q kv kr h r d) := fun i => by
  rw [val_main_v47_apply, dot_real (fun c => headP q kv kr (i 0).val (i 1).val c) (fun c => values kv (i 0).val c (i 2).val)
    (fun k => reads_v43 hq hkv hkr _) (fun k => reads_v15 hkv _)]
  exact congrArg (fun z : ℝ => (z : EReal)) (weight_sum _ _ _ _ _)

theorem reads_v49 : Reads (m := 8192) (n := 1024) (val_main_v49 (F := Ideal) x0 x1 x2) (attnOut q kv kr) := fun a b => by
  have hb : b.val < 1024 := b.isLt
  rw [val_main_v49_apply, val_main_v48_apply, reads_v47 hq hkv hkr]
  show ((headOut q kv kr ((a.val * 1024 + b.val) / 128 % 8) ((a.val * 1024 + b.val) / 1024) ((a.val * 1024 + b.val) % 128) : ℝ) : EReal) = _
  rw [show (a.val * 1024 + b.val) / 128 % 8 = b.val / 128 by omega, show (a.val * 1024 + b.val) / 1024 = a.val by omega,
    show (a.val * 1024 + b.val) % 128 = b.val % 128 by omega]
  rfl

end Cert.Attn

end
-- ==== Proof.Value.BwdArrays.lean ====
/- The backward call's three arrays on real operands: the gradients of the queries, of the keys and values, and of the shared key lanes head by head. -/
module

public import proofs.«01_k».proof.Proof.Value.FwdArrays
public import proofs.«01_k».proof.Proof.Bwd.Data

@[expose] public section

set_option maxRecDepth 16384

noncomputable section

namespace Cert.Attn

open Cert.KernelIdeal Cert.KernelIdeal.Gen
open Idealize.ShloMosaic Idealize.ShloMosaic.TcCoe Finset

/-! ## Where each window's block lies -/

theorem idx1_0 : ∀ t : Fin grid1.N, win1_0.index t 0 = t.val % 8 ∧ win1_0.index t 1 = t.val / 32 := by decide +kernel
theorem idx1_1 : ∀ t : Fin grid1.N, win1_1.index t 0 = t.val / 8 % 4 ∧ win1_1.index t 1 = 2 * (t.val / 32) := by decide +kernel
theorem idx1_2 : ∀ t : Fin grid1.N, win1_2.index t 0 = t.val / 8 % 4 ∧ win1_2.index t 1 = 2 * (t.val / 32) + 1 := by decide +kernel
theorem idx1_3 : ∀ t : Fin grid1.N, win1_3.index t 0 = t.val / 8 % 4 ∧ win1_3.index t 1 = 0 := by decide +kernel
theorem idx1_4 : ∀ t : Fin grid1.N, win1_4.index t 0 = t.val % 8 ∧ win1_4.index t 1 = t.val / 32 := by decide +kernel
theorem idx1_5 : ∀ t : Fin grid1.N, win1_5.index t 0 = t.val / 32 ∧ win1_5.index t 1 = t.val % 8 ∧ win1_5.index t 2 = 0 := by decide +kernel
theorem idx1_6 : ∀ t : Fin grid1.N, win1_6.index t 0 = t.val % 8 ∧ win1_6.index t 1 = t.val / 32 := by decide +kernel
theorem idx1_7 : ∀ t : Fin grid1.N, win1_7.index t 0 = 0 ∧ win1_7.index t 1 = t.val / 32 := by decide +kernel
theorem idx1_8 : ∀ t : Fin grid1.N, win1_8.index t 0 = t.val / 8 % 4 ∧ win1_8.index t 1 = t.val / 32 := by decide +kernel
theorem idx1_9 : ∀ t : Fin grid1.N, win1_9.index t 0 = t.val / 8 % 4 ∧ win1_9.index t 1 = t.val / 32 := by decide +kernel

/-- The contents of the arrays the backward call reads: the operands, the forward call's output and log-sums, and the output's gradient. -/
structure Saved (V : Contents Ideal) (c : Dev nD) (q kv kr g : ℕ → ℕ → ℝ) : Prop extends Operands V c q kv kr where
  hg : Reads (m := 8192) (n := 1024) (V c main_arg3) g
  ho : Reads (m := 8192) (n := 1024) (V c main_v0_0) (attnOut q kv kr)
  hl : ∀ (h : Fin 8) (r : Fin 8192) (l : Fin 128), (V c main_v0_1 : (⟨3, ![8, 8192, 128]⟩ : Shape).Idx → EReal) (ix3 h r l) = ((headLog q kv kr h.val r.val : ℝ) : EReal)

/-- A row of a block of log-sums, from the array's. -/
theorem readsRow_at {m h0 r0 : ℕ} {X : (⟨3, ![8, 8192, 128]⟩ : Shape).Idx → EReal} {f : ℕ → ℕ → ℝ}
    (hX : ∀ (h : Fin 8) (r : Fin 8192) (l : Fin 128), X (ix3 h r l) = ((f h.val r.val : ℝ) : EReal))
    (emb : (⟨3, ![1, m, 128]⟩ : Shape).Idx → (⟨3, ![8, 8192, 128]⟩ : Shape).Idx)
    (he : ∀ y, (emb y 0).val = h0 ∧ (emb y 1).val = r0 + (y 1).val) : ReadsRow (fun y => X (emb y)) (fun r => f h0 (r0 + r)) := fun a => by
  have e : emb (ix3 0 a 0) = ix3 (emb (ix3 0 a 0) 0) (emb (ix3 0 a 0) 1) (emb (ix3 0 a 0) 2) := by funext d; fin_cases d <;> rfl
  refine (congrArg X e).trans ((hX (emb (ix3 0 a 0) 0) (emb (ix3 0 a 0) 1) (emb (ix3 0 a 0) 2)).trans ?_)
  exact congrArg (fun x : ℝ => (x : EReal)) (congrArg₂ f (he _).1 (he _).2)

variable {V : Contents Ideal} {c : Dev nD} {q kv kr g : ℕ → ℕ → ℝ} (H : Saved V c q kv kr g)
include H

theorem reads_bwdQ (t : Fin cfg1.N) :
    Reads (m := 1024) (n := 256) (bwdQ V c t) (fun r d => queries q (t.val / 32) (1024 * (t.val % 8) + r) d) :=
  reads_at H.hq (((cfg1.win 0).blk t).view.emb) fun y => by
    obtain ⟨e0, e1⟩ := idx1_0 t
    exact ⟨by blk_simp [e0]; exact congrArg (· + _) (Nat.mul_comm _ _), by blk_simp [e1]; exact congrArg (· + _) (Nat.mul_comm _ _)⟩

theorem reads_bwdKn (t : Fin cfg1.N) :
    Reads (m := 2048) (n := 128) (bwdKn V c t) (fun k d => keys kv kr (t.val / 32) (2048 * (t.val / 8 % 4) + k) d) :=
  (reads_at H.hkv (((cfg1.win 1).blk t).view.emb) fun y => by
    obtain ⟨e0, e1⟩ := idx1_1 t
    exact ⟨by blk_simp [e0]; exact congrArg (· + _) (Nat.mul_comm _ _), by blk_simp [e1]; exact congrArg (· + _) (Nat.mul_comm _ _)⟩).congr
  fun k d _ hd => by rw [keys, if_pos hd, show 128 * (2 * (t.val / 32)) = 256 * (t.val / 32) by omega]

theorem reads_bwdV (t : Fin cfg1.N) :
    Reads (m := 2048) (n := 128) (bwdV V c t) (fun k d => values kv (t.val / 32) (2048 * (t.val / 8 % 4) + k) d) :=
  (reads_at H.hkv (((cfg1.win 2).blk t).view.emb) fun y => by
    obtain ⟨e0, e1⟩ := idx1_2 t
    exact ⟨by blk_simp [e0]; exact congrArg (· + _) (Nat.mul_comm _ _), by blk_simp [e1]; exact congrArg (· + _) (Nat.mul_comm _ _)⟩).congr
  fun k d _ hd => by rw [values, show 128 * (2 * (t.val / 32) + 1) = 256 * (t.val / 32) + 128 by omega]

theorem reads_bwdKr (t : Fin cfg1.N) :
    Reads (m := 2048) (n := 128) (bwdKr V c t) (fun k d => keys kv kr (t.val / 32) (2048 * (t.val / 8 % 4) + k) (128 + d)) :=
  (reads_at H.hkr (((cfg1.win 3).blk t).view.emb) fun y => by
    obtain ⟨e0, e1⟩ := idx1_3 t
    exact ⟨by blk_simp [e0]; exact congrArg (· + _) (Nat.mul_comm _ _), by blk_simp [e1]; exact (Nat.zero_add _).symm⟩).congr
  fun k d _ hd => by rw [keys, if_neg (by omega), Nat.zero_add, Nat.add_sub_cancel_left]

theorem reads_bwdO (t : Fin cfg1.N) :
    Reads (m := 1024) (n := 128) (bwdO V c t) (fun r d => headOut q kv kr (t.val / 32) (1024 * (t.val % 8) + r) d) :=
  (reads_at H.ho (((cfg1.win 4).blk t).view.emb) fun y => by
    obtain ⟨e0, e1⟩ := idx1_4 t
    exact ⟨by blk_simp [e0]; exact congrArg (· + _) (Nat.mul_comm _ _), by blk_simp [e1]; exact congrArg (· + _) (Nat.mul_comm _ _)⟩).congr
  fun r d _ hd => by rw [attnOut, show (128 * (t.val / 32) + d) / 128 = t.val / 32 by omega, show (128 * (t.val / 32) + d) % 128 = d by omega]

theorem reads_bwdG (t : Fin cfg1.N) :
    Reads (m := 1024) (n := 128) (bwdG V c t) (fun r d => grads g (t.val / 32) (1024 * (t.val % 8) + r) d) :=
  reads_at H.hg (((cfg1.win 6).blk t).view.emb) fun y => by
    obtain ⟨e0, e1⟩ := idx1_6 t
    exact ⟨by blk_simp [e0]; exact congrArg (· + _) (Nat.mul_comm _ _), by blk_simp [e1]; exact congrArg (· + _) (Nat.mul_comm _ _)⟩

theorem reads_bwdL (t : Fin cfg1.N) :
    ReadsRow (m := 1024) (bwdL V c t) (fun r => headLog q kv kr (t.val / 32) (1024 * (t.val % 8) + r)) :=
  readsRow_at H.hl (((cfg1.win 5).blk t).view.emb) fun y => by
    obtain ⟨e0, e1, e2⟩ := idx1_5 t
    have h0 : (y 0).val = 0 := Nat.lt_one_iff.mp (y 0).isLt
    exact ⟨by blk_simp [e0, h0], by blk_simp [e1]; exact congrArg (· + _) (Nat.mul_comm _ _)⟩

/-! ## What the accumulators hold over the grid -/

theorem bwdStepDv_reads (t : Fin cfg1.N) {a : Vec Ideal S2048x128 .f32} {A : ℕ → ℕ → ℝ} (ha : Reads (m := 2048) (n := 128) a A) :
    Reads (m := 2048) (n := 128) (bwdStepDv V c t a) (fun k d => A k d
      + ∑ x ∈ range 1024, headP q kv kr (t.val / 32) (1024 * (t.val % 8) + x) (2048 * (t.val / 8 % 4) + k) * grads g (t.val / 32) (1024 * (t.val % 8) + x) d) :=
  reads_bwdDv (reads_bwdKn H t) (reads_bwdKr H t) (reads_bwdQ H t) (reads_bwdL H t) (reads_bwdG H t) ha

theorem bwdStepDk_reads (t : Fin cfg1.N) {a : Vec Ideal S2048x256 .f32} {A : ℕ → ℕ → ℝ} (ha : Reads (m := 2048) (n := 256) a A) :
    Reads (m := 2048) (n := 256) (bwdStepDk V c t a) (fun k d => A k d
      + ∑ x ∈ range 1024, headDs q kv kr g (t.val / 32) (1024 * (t.val % 8) + x) (2048 * (t.val / 8 % 4) + k) * queries q (t.val / 32) (1024 * (t.val % 8) + x) d) :=
  reads_bwdDk (reads_bwdKn H t) (reads_bwdKr H t) (reads_bwdV H t) (reads_bwdQ H t) (reads_bwdO H t) (reads_bwdL H t) (reads_bwdG H t) ha

theorem bwdStepDq_reads (t : Fin cfg1.N) {a : Vec Ideal S8192x256 .f32} {A : ℕ → ℕ → ℝ} (ha : Reads (m := 8192) (n := 256) a A) :
    Reads (m := 8192) (n := 256) (bwdStepDq V c t a) (fun r d =>
      if 1024 * (t.val % 8) ≤ r ∧ r < 1024 * (t.val % 8) + 1024 then A r d
        + ∑ y ∈ range 2048, headDs q kv kr g (t.val / 32) r (2048 * (t.val / 8 % 4) + y) * keys kv kr (t.val / 32) (2048 * (t.val / 8 % 4) + y) d else A r d) := by
  have ht : t.val < 256 := Nat.lt_of_lt_of_eq t.isLt N_1
  have e2 : (grid1.coords t 2).val = t.val / 1 % 8 := Pipeline.Grid.coords_val t 2 (by decide) rfl
  exact reads_bwdDq (reads_bwdKn H t) (reads_bwdKr H t) (reads_bwdV H t) (reads_bwdQ H t) (reads_bwdO H t) (reads_bwdL H t) (reads_bwdG H t)
    (grid1.coords t) (by rw [e2, Nat.div_one]) ha

omit H in
/-- One more tile of 1024 rows. -/
theorem sum_tile (f : ℕ → ℝ) (n : ℕ) : (∑ x ∈ range (1024 * n), f x) + (∑ x ∈ range 1024, f (1024 * n + x)) = ∑ x ∈ range (1024 * (n + 1)), f x :=
  (sum_range_add f (1024 * n) 1024).symm

theorem bwdDvAt_reads (n : ℕ) (hn : n < cfg1.N) :
    Reads (m := 2048) (n := 128) (bwdDvAt V c n hn)
      (fun k d => ∑ x ∈ range (1024 * (n % 8 + 1)), headP q kv kr (n / 32) x (2048 * (n / 8 % 4) + k) * grads g (n / 32) x d) := by
  have first : ∀ t : Fin cfg1.N, t.val % 8 = 0 → Reads (m := 2048) (n := 128) (bwdDvAt V c t.val t.isLt)
      (fun k d => ∑ x ∈ range (1024 * (t.val % 8 + 1)), headP q kv kr (t.val / 32) x (2048 * (t.val / 8 % 4) + k) * grads g (t.val / 32) x d) := fun t h => by
    rw [bwdDvAt_first V c t h]
    exact (bwdStepDv_reads H t (A := fun _ _ => 0) (fun a b => by pointwise [k1_pay6]; exact EReal.coe_zero.symm)).congr fun k d _ _ => by rw [h]; simp
  induction n with
  | zero => exact first ⟨0, hn⟩ rfl
  | succ n ih =>
    by_cases h : (n + 1) % 8 = 0
    · exact first ⟨n + 1, hn⟩ h
    · rw [bwdDvAt_later V c ⟨n + 1, hn⟩ h]
      refine (bwdStepDv_reads H ⟨n + 1, hn⟩ (ih (Nat.lt_of_succ_lt hn))).congr fun k d _ _ => ?_
      rw [show n / 32 = (n + 1) / 32 by omega, show n / 8 % 4 = (n + 1) / 8 % 4 by omega, show n % 8 + 1 = (n + 1) % 8 by omega]
      exact sum_tile (fun x => headP q kv kr ((n + 1) / 32) x (2048 * ((n + 1) / 8 % 4) + k) * grads g ((n + 1) / 32) x d) _

theorem bwdDkAt_reads (n : ℕ) (hn : n < cfg1.N) :
    Reads (m := 2048) (n := 256) (bwdDkAt V c n hn)
      (fun k d => ∑ x ∈ range (1024 * (n % 8 + 1)), headDs q kv kr g (n / 32) x (2048 * (n / 8 % 4) + k) * queries q (n / 32) x d) := by
  have first : ∀ t : Fin cfg1.N, t.val % 8 = 0 → Reads (m := 2048) (n := 256) (bwdDkAt V c t.val t.isLt)
      (fun k d => ∑ x ∈ range (1024 * (t.val % 8 + 1)), headDs q kv kr g (t.val / 32) x (2048 * (t.val / 8 % 4) + k) * queries q (t.val / 32) x d) := fun t h => by
    rw [bwdDkAt_first V c t h]
    exact (bwdStepDk_reads H t (A := fun _ _ => 0) (fun a b => by pointwise [k1_pay5]; exact EReal.coe_zero.symm)).congr fun k d _ _ => by rw [h]; simp
  induction n with
  | zero => exact first ⟨0, hn⟩ rfl
  | succ n ih =>
    by_cases h : (n + 1) % 8 = 0
    · exact first ⟨n + 1, hn⟩ h
    · rw [bwdDkAt_later V c ⟨n + 1, hn⟩ h]
      refine (bwdStepDk_reads H ⟨n + 1, hn⟩ (ih (Nat.lt_of_succ_lt hn))).congr fun k d _ _ => ?_
      rw [show n / 32 = (n + 1) / 32 by omega, show n / 8 % 4 = (n + 1) / 8 % 4 by omega, show n % 8 + 1 = (n + 1) % 8 by omega]
      exact sum_tile (fun x => headDs q kv kr g ((n + 1) / 32) x (2048 * ((n + 1) / 8 % 4) + k) * queries q ((n + 1) / 32) x d) _

omit H in
/-- How many key tiles row `r` has met after point `n`. -/
def tilesMet (n r : ℕ) : ℕ := if r < 1024 * (n % 8 + 1) then n / 8 % 4 + 1 else n / 8 % 4

omit H in
/-- A row meets the point's key tile when it lies among the point's rows; no other row does. -/
theorem sum_met (f : ℕ → ℝ) (n m r : ℕ) (hin : 1024 * (n % 8) ≤ r ∧ r < 1024 * (n % 8) + 1024 → m = n / 8 % 4)
    (hout : ¬(1024 * (n % 8) ≤ r ∧ r < 1024 * (n % 8) + 1024) → m = tilesMet n r) :
    (if 1024 * (n % 8) ≤ r ∧ r < 1024 * (n % 8) + 1024
      then (∑ y ∈ range (2048 * m), f y) + ∑ y ∈ range 2048, f (2048 * (n / 8 % 4) + y) else ∑ y ∈ range (2048 * m), f y)
    = ∑ y ∈ range (2048 * tilesMet n r), f y := by
  by_cases h : 1024 * (n % 8) ≤ r ∧ r < 1024 * (n % 8) + 1024
  · rw [if_pos h, hin h, tilesMet, if_pos (by omega)]
    exact (sum_range_add f _ 2048).symm
  · rw [if_neg h, hout h]

theorem bwdDqAt_reads (n : ℕ) (hn : n < cfg1.N) :
    Reads (m := 8192) (n := 256) (bwdDqAt V c n hn)
      (fun r d => ∑ y ∈ range (2048 * tilesMet n r), headDs q kv kr g (n / 32) r y * keys kv kr (n / 32) y d) := by
  have first : ∀ t : Fin cfg1.N, t.val % 32 = 0 → Reads (m := 8192) (n := 256) (bwdDqAt V c t.val t.isLt)
      (fun r d => ∑ y ∈ range (2048 * tilesMet t.val r), headDs q kv kr g (t.val / 32) r y * keys kv kr (t.val / 32) y d) := fun t h => by
    rw [bwdDqAt_first V c t h]
    refine (bwdStepDq_reads H t (A := fun _ _ => 0) (fun a b => by pointwise [k1_pay7]; exact EReal.coe_zero.symm)).congr fun r d hr _ => ?_
    refine Eq.trans ?_ (sum_met (fun y => headDs q kv kr g (t.val / 32) r y * keys kv kr (t.val / 32) y d) t.val 0 r (by omega) (fun hh => ?_))
    · simp
    · rw [tilesMet, if_neg (by omega)]; omega
  induction n with
  | zero => exact first ⟨0, hn⟩ rfl
  | succ n ih =>
    by_cases h : (n + 1) % 32 = 0
    · exact first ⟨n + 1, hn⟩ h
    · rw [bwdDqAt_later V c ⟨n + 1, hn⟩ h]
      refine (bwdStepDq_reads H ⟨n + 1, hn⟩ (ih (Nat.lt_of_succ_lt hn))).congr fun r d hr _ => ?_
      rw [show n / 32 = (n + 1) / 32 by omega]
      refine sum_met (fun y => headDs q kv kr g ((n + 1) / 32) r y * keys kv kr ((n + 1) / 32) y d) (n + 1) (tilesMet n r) r (fun hh => ?_) (fun hh => ?_)
      · unfold tilesMet; split <;> omega
      · unfold tilesMet; split <;> split <;> omega

/-! ## The arrays -/

omit H in
/-- The queries' gradient, head after head along the lanes. -/
def gradQ (q kv kr g : ℕ → ℕ → ℝ) : ℕ → ℕ → ℝ := fun r d => headDq q kv kr g (d / 256) r (d % 256)

omit H in
/-- The gradient of the keys' own lanes and of the values, head after head. -/
def gradKv (q kv kr g : ℕ → ℕ → ℝ) : ℕ → ℕ → ℝ := fun k d =>
  if d % 256 < 128 then headDk q kv kr g (d / 256) k (d % 256) else headDv q kv kr g (d / 256) k (d % 256 - 128)

omit H in
/-- The gradient of the shared key lanes, each head's part by itself. -/
def gradKr (q kv kr g : ℕ → ℕ → ℝ) : ℕ → ℕ → ℝ := fun k d => headDk q kv kr g (d / 128) k (128 + d % 128)

theorem bwd_q : Reads (m := 8192) (n := 2048) ((bwdDat V c).arrAt 7 cfg1.N) (gradQ q kv kr g) := by
  have e : (bwdDat V c).arrAt 7 cfg1.N = fun i => ((gradQ q kv kr g (i 0).val (i 1).val : ℝ) : EReal) := by
    refine (bwdDat V c).arrAt_eq_of_covers 7 _ (by decide +kernel) fun t hf y => ?_
    have h3 : t.val % 32 = 31 := (flush1_7 t).mp hf
    obtain ⟨e0, e1⟩ := idx1_7 t
    have hy : y = ix2 (y 0) (y 1) := by funext d; fin_cases d <;> rfl
    have h0 : (y 0).val < 8192 := (y 0).isLt
    have h1 : (y 1).val < 256 := (y 1).isLt
    have hm : 2048 * tilesMet t.val (y 0).val = 8192 := by rw [tilesMet, if_pos (by omega)]; omega
    have hr := bwdDqAt_reads H t.val t.isLt (y 0) (y 1)
    beta_reduce at hr
    rw [hm] at hr
    blk_simp [e0, e1]
    rw [bwdDat_after7, hy]
    refine hr.trans ?_
    show _ = ((gradQ q kv kr g (y 0).val (t.val / 32 * 256 + (y 1).val) : ℝ) : EReal)
    rw [gradQ, headDq, show (t.val / 32 * 256 + (y 1).val) / 256 = t.val / 32 by omega, show (t.val / 32 * 256 + (y 1).val) % 256 = (y 1).val by omega]
  rw [e]
  exact fun a b => rfl

theorem bwd_kv : Reads (m := 8192) (n := 2048) ((bwdDat V c).arrAt 8 cfg1.N) (gradKv q kv kr g) := by
  have e : (bwdDat V c).arrAt 8 cfg1.N = fun i => ((gradKv q kv kr g (i 0).val (i 1).val : ℝ) : EReal) := by
    refine (bwdDat V c).arrAt_eq_of_covers 8 _ (by decide +kernel) fun t hf y => ?_
    have h3 : t.val % 8 = 7 := (flush1_8 t).mp hf
    obtain ⟨e0, e1⟩ := idx1_8 t
    have hy : y = ix2 (y 0) (y 1) := by funext d; fin_cases d <;> rfl
    have h1 : (y 1).val < 256 := (y 1).isLt
    have hr := reads_bwdDkv (bwdDkAt_reads H t.val t.isLt) (bwdDvAt_reads H t.val t.isLt) (y 0) (y 1)
    rw [h3] at hr
    blk_simp [e0, e1]
    rw [bwdDat_after8, hy]
    refine hr.trans ?_
    show _ = ((gradKv q kv kr g (t.val / 8 % 4 * 2048 + (y 0).val) (t.val / 32 * 256 + (y 1).val) : ℝ) : EReal)
    rw [gradKv, show (t.val / 32 * 256 + (y 1).val) / 256 = t.val / 32 by omega, show (t.val / 32 * 256 + (y 1).val) % 256 = (y 1).val by omega,
      Nat.mul_comm (t.val / 8 % 4)]
    rfl
  rw [e]
  exact fun a b => rfl

theorem bwd_kr : Reads (m := 8192) (n := 1024) ((bwdDat V c).arrAt 9 cfg1.N) (gradKr q kv kr g) := by
  have e : (bwdDat V c).arrAt 9 cfg1.N = fun i => ((gradKr q kv kr g (i 0).val (i 1).val : ℝ) : EReal) := by
    refine (bwdDat V c).arrAt_eq_of_covers 9 _ (by decide +kernel) fun t hf y => ?_
    have h3 : t.val % 8 = 7 := (flush1_9 t).mp hf
    obtain ⟨e0, e1⟩ := idx1_9 t
    have hy : y = ix2 (y 0) (y 1) := by funext d; fin_cases d <;> rfl
    have h1 : (y 1).val < 128 := (y 1).isLt
    have hr := reads_bwdDkr (bwdDkAt_reads H t.val t.isLt) (y 0) (y 1)
    rw [h3] at hr
    blk_simp [e0, e1]
    rw [bwdDat_after9, hy]
    refine hr.trans ?_
    show _ = ((gradKr q kv kr g (t.val / 8 % 4 * 2048 + (y 0).val) (t.val / 32 * 128 + (y 1).val) : ℝ) : EReal)
    rw [gradKr, show (t.val / 32 * 128 + (y 1).val) / 128 = t.val / 32 by omega, show (t.val / 32 * 128 + (y 1).val) % 128 = (y 1).val by omega,
      Nat.mul_comm (t.val / 8 % 4)]
    rfl
  rw [e]
  exact fun a b => rfl

end Cert.Attn

end
-- ==== Proof.Value.RefGrad.lean ====
/- The reference on real operands: the gradients of the values, the keys and the queries. -/
module

public import proofs.«01_k».proof.Proof.Value.RefOut
public import proofs.«01_k».proof.Proof.Value.BwdArrays

@[expose] public section

set_option maxRecDepth 16384

noncomputable section

namespace Cert.Attn

open Cert.ReferenceIdeal Cert.ReferenceIdeal.Read
open Idealize.ShloMosaic Finset

variable {x0 x1 : S8192x2048.Idx → EReal} {x2 : S8192x128.Idx → EReal} {x3 : S8192x1024.Idx → EReal} {q kv kr g : ℕ → ℕ → ℝ}

theorem reads_v51 (hg : Reads (m := 8192) (n := 1024) x3 g) : Reads3 (p := 8) (m := 8192) (n := 128) (val_main_v51 (F := Ideal) x3) (fun h r d => grads g h r d) := fun i => by
  have h0 : (i 0).val < 8 := (i 0).isLt
  have h1 : (i 1).val < 8192 := (i 1).isLt
  have h2 : (i 2).val < 128 := (i 2).isLt
  rw [val_main_v51_apply, val_main_v50_apply]
  refine (hg.at _).trans (congrArg (fun z : ℝ => (z : EReal)) (congrArg₂ g ?_ ?_))
  · show (((i 1).val * 8 + (i 0).val) * 128 + (i 2).val) / 1024 = _
    omega
  · show (((i 1).val * 8 + (i 0).val) * 128 + (i 2).val) % 1024 = _
    omega

/-- The gradient of a softmax weight. -/
theorem reads_v54 (hkv : Reads (m := 8192) (n := 2048) x1 kv) (hg : Reads (m := 8192) (n := 1024) x3 g) :
    Reads3 (p := 8) (m := 8192) (n := 8192) (val_main_v54 (F := Ideal) x1 x3) (fun h r c => ∑ d ∈ range 128, grads g h r d * values kv h c d) := fun i => by
  rw [val_main_v54_apply]
  exact dot_real (fun d => grads g (i 0).val (i 1).val d) (fun d => values kv (i 0).val (i 2).val d) (fun k => reads_v51 hg _) (fun k => reads_v15 hkv _)

variable (hq : Reads (m := 8192) (n := 2048) x0 q) (hkv : Reads (m := 8192) (n := 2048) x1 kv) (hkr : Reads (m := 8192) (n := 128) x2 kr)
  (hg : Reads (m := 8192) (n := 1024) x3 g)
include hq hkv hkr

theorem reads_v46 (i : S8x8192x1.Idx) : val_main_v46 (F := Ideal) x0 x1 x2 i
    = ((1 / (shiftedTotal (queries q (i 0).val) (keys kv kr (i 0).val) (rowMax x0 x1 x2 (i 0).val (i 1).val) (i 1).val
      * shiftedTotal (queries q (i 0).val) (keys kv kr (i 0).val) (rowMax x0 x1 x2 (i 0).val (i 1).val) (i 1).val) : ℝ) : EReal) := by
  rw [val_main_v46_apply, val_main_v45_apply, val_main_cst_8_apply, val_main_v44_apply, val_main_v41_apply, reads_v40 hq hkv hkr]
  have hl := (shiftedTotal_pos (queries q (i 0).val) (keys kv kr (i 0).val) (rowMax x0 x1 x2 (i 0).val (i 1).val) (i 1).val).ne'
  exact (congrArg₂ Ideal.div (Ideal.ofBits_one_f32.trans EReal.coe_one.symm) (EReal.coe_mul _ _).symm).trans (coe_div _ _ (mul_ne_zero hl hl))

include hg

/-- The row's sum of the gradients by the weights, which the quotient's denominator takes back. -/
theorem reads_v58 (i : S8x8192.Idx) : val_main_v58 (F := Ideal) x0 x1 x2 x3 i
    = ((∑ c ∈ range 8192, (∑ d ∈ range 128, grads g (i 0).val (i 1).val d * values kv (i 0).val c d)
      * (1 / (shiftedTotal (queries q (i 0).val) (keys kv kr (i 0).val) (rowMax x0 x1 x2 (i 0).val (i 1).val) (i 1).val
        * shiftedTotal (queries q (i 0).val) (keys kv kr (i 0).val) (rowMax x0 x1 x2 (i 0).val (i 1).val) (i 1).val))
      * shifted (queries q (i 0).val) (keys kv kr (i 0).val) (rowMax x0 x1 x2 (i 0).val (i 1).val) (i 1).val c : ℝ) : EReal) := by
  rw [val_main_v58_apply]
  refine sum_real (fun c => (∑ d ∈ range 128, grads g (i 0).val (i 1).val d * values kv (i 0).val c d)
      * (1 / (shiftedTotal (queries q (i 0).val) (keys kv kr (i 0).val) (rowMax x0 x1 x2 (i 0).val (i 1).val) (i 1).val
        * shiftedTotal (queries q (i 0).val) (keys kv kr (i 0).val) (rowMax x0 x1 x2 (i 0).val (i 1).val) (i 1).val))
      * shifted (queries q (i 0).val) (keys kv kr (i 0).val) (rowMax x0 x1 x2 (i 0).val (i 1).val) (i 1).val c) Ideal.ofBits_zero_f32 fun k => ?_
  rw [val_main_v57_apply, val_main_v56_apply, val_main_v55_apply, reads_v54 hkv hg, reads_v46 hq hkv hkr, reads_v39 hq hkv hkr]
  exact (congrArg (· * _) (EReal.coe_mul _ _).symm).trans (EReal.coe_mul _ _).symm

theorem reads_v63 (i : S8x8192.Idx) : val_main_v63 (F := Ideal) x0 x1 x2 x3 i
    = ((-∑ c ∈ range 8192, (∑ d ∈ range 128, grads g (i 0).val (i 1).val d * values kv (i 0).val c d)
      * (1 / (shiftedTotal (queries q (i 0).val) (keys kv kr (i 0).val) (rowMax x0 x1 x2 (i 0).val (i 1).val) (i 1).val
        * shiftedTotal (queries q (i 0).val) (keys kv kr (i 0).val) (rowMax x0 x1 x2 (i 0).val (i 1).val) (i 1).val))
      * shifted (queries q (i 0).val) (keys kv kr (i 0).val) (rowMax x0 x1 x2 (i 0).val (i 1).val) (i 1).val c : ℝ) : EReal) := by
  have h0 : (i 0).val < 8 := (i 0).isLt
  have h1 : (i 1).val < 8192 := (i 1).isLt
  have ei : idx_main_v59 (idx_main_v63 i 0) = i := by
    funext d
    fin_cases d
    · refine Fin.ext ?_
      show (((i 0).val * 8192 + (i 1).val) * 1 + 0) / 8192 = (i 0).val
      omega
    · refine Fin.ext ?_
      show (((i 0).val * 8192 + (i 1).val) * 1 + 0) % 8192 = (i 1).val
      omega
  rw [val_main_v63_apply, Fin.sum_univ_one, val_main_v60_apply, val_main_v59_apply, ei, reads_v58 hq hkv hkr hg]
  refine (congrArg (· + _) (Ideal.ofBits_zero_f32)).trans ((zero_add _).trans ?_)
  exact (EReal.coe_neg _).symm

/-- The gradient of a score. -/
theorem reads_v66 : Reads3 (p := 8) (m := 8192) (n := 8192) (val_main_v66 (F := Ideal) x0 x1 x2 x3) (fun h r c => headDs q kv kr g h r c) := fun i => by
  rw [val_main_v66_apply, val_main_v65_apply, val_main_v64_apply, val_main_v62_apply, val_main_v61_apply, val_main_v41_apply,
    reads_v63 hq hkv hkr hg, reads_v54 hkv hg, reads_v40 hq hkv hkr, reads_v39 hq hkv hkr]
  have hl := (shiftedTotal_pos (queries q (i 0).val) (keys kv kr (i 0).val) (rowMax x0 x1 x2 (i 0).val (i 1).val) (i 1).val).ne'
  refine (congrArg (· * _) ((congrArg (· + _) (coe_div _ _ hl)).trans (EReal.coe_add _ _).symm)).trans ((EReal.coe_mul _ _).symm.trans (congrArg (fun z : ℝ => (z : EReal)) ?_))
  exact quotient_grad _ _ _ _ _ _ _

theorem reads_v53 : Reads3 (p := 8) (m := 8192) (n := 128) (val_main_v53 (F := Ideal) x0 x1 x2 x3) (fun h c d => headDv q kv kr g h c d) := fun i => by
  rw [val_main_v53_apply, val_main_v52_apply, dot_real (fun r => grads g (i 0).val r (i 2).val) (fun r => headP q kv kr (i 0).val r (i 1).val)
    (fun k => reads_v51 hg _) (fun k => reads_v43 hq hkv hkr _)]
  exact congrArg (fun z : ℝ => (z : EReal)) (sum_congr rfl fun r _ => mul_comm _ _)

theorem reads_v67 : Reads3 (p := 8) (m := 8192) (n := 128) (val_main_v67 (F := Ideal) x0 x1 x2 x3) (fun h c d => headDk q kv kr g h c (128 + d)) := fun i => by
  rw [val_main_v67_apply]
  exact dot_real (fun r => headDs q kv kr g (i 0).val r (i 1).val) (fun r => queries q (i 0).val r (128 + (i 2).val)) (fun k => reads_v66 hq hkv hkr hg _) (fun k => reads_v13 hq _)

theorem reads_v68 : Reads3 (p := 8) (m := 8192) (n := 128) (val_main_v68 (F := Ideal) x0 x1 x2 x3) (fun h r d => headDq q kv kr g h r (128 + d)) := fun i => by
  rw [val_main_v68_apply]
  exact dot_real (fun c => headDs q kv kr g (i 0).val (i 1).val c) (fun c => keys kv kr (i 0).val c (128 + (i 2).val)) (fun k => reads_v66 hq hkv hkr hg _) (fun k => reads_v11 hkr _)

theorem reads_v69 : Reads3 (p := 8) (m := 8192) (n := 128) (val_main_v69 (F := Ideal) x0 x1 x2 x3) (fun h c d => headDk q kv kr g h c d) := fun i => by
  rw [val_main_v69_apply]
  exact dot_real (fun r => headDs q kv kr g (i 0).val r (i 1).val) (fun r => queries q (i 0).val r (i 2).val) (fun k => reads_v66 hq hkv hkr hg _) (fun k => reads_v12 hq _)

theorem reads_v70 : Reads3 (p := 8) (m := 8192) (n := 128) (val_main_v70 (F := Ideal) x0 x1 x2 x3) (fun h r d => headDq q kv kr g h r d) := fun i => by
  rw [val_main_v70_apply]
  exact dot_real (fun c => headDs q kv kr g (i 0).val (i 1).val c) (fun c => keys kv kr (i 0).val c (i 2).val) (fun k => reads_v66 hq hkv hkr hg _) (fun k => reads_v14 hkv _)

/-! ## The two halves of a head's lanes -/

omit hq hkv hkr hg in
/-- Two arrays of 128 lanes laid side by side: each is padded with zeros to 256, and the two are added. -/
theorem pads_add {y z : FVec Ideal S8x8192x128 .f32} {f f' : ℕ → ℕ → ℕ → ℝ} (hy : Reads3 (p := 8) (m := 8192) (n := 128) y f)
    (hz : Reads3 (p := 8) (m := 8192) (n := 128) z f') (h1 : S8x8192x128.Pads ![0, 0, 128] ![0, 0, 0] ![0, 0, 0] S8x8192x256)
    (h2 : S8x8192x128.Pads ![0, 0, 0] ![0, 0, 128] ![0, 0, 0] S8x8192x256) (hu : 0 < S_.numel) (a : Fin 8) (b : Fin 8192) (d : Fin 256) :
    pad S8x8192x256 ![0, 0, 128] ![0, 0, 0] ![0, 0, 0] y (constant S_ .f32 0x00000000#32) h1 hu (ix3 a b d)
      + pad S8x8192x256 ![0, 0, 0] ![0, 0, 128] ![0, 0, 0] z (constant S_ .f32 0x00000000#32) h2 hu (ix3 a b d)
      = (((if d.val < 128 then f' a.val b.val d.val else f a.val b.val (d.val - 128)) : ℝ) : EReal) := by
  pointwise []
  by_cases hd : d.val < 128
  · rw [dif_neg (by omega), dif_pos hd, if_pos hd, zero_add]
    exact hz _
  · rw [dif_pos (by omega), dif_neg hd, if_neg hd, add_zero]
    exact hy _

omit hq hkv hkr hg in
theorem ix3_eq {p m n : ℕ} (i : (⟨3, ![p, m, n]⟩ : Shape).Idx) : i = ix3 (i 0) (i 1) (i 2) := by funext d; fin_cases d <;> rfl

theorem reads_v76 : Reads3 (p := 8) (m := 8192) (n := 256) (val_main_v76 (F := Ideal) x0 x1 x2 x3) (fun h r d => headDq q kv kr g h r d) := fun i => by
  refine (congrArg (val_main_v76 (F := Ideal) x0 x1 x2 x3) (ix3_eq i)).trans ((pads_add (reads_v68 hq hkv hkr hg) (reads_v70 hq hkv hkr hg) _ _ _ (i 0) (i 1) (i 2)).trans ?_)
  refine congrArg (fun z : ℝ => (z : EReal)) ?_
  show _ = headDq q kv kr g (i 0).val (i 1).val (i 2).val
  split
  · rfl
  · rw [show 128 + ((i 2).val - 128) = (i 2).val by omega]

theorem reads_v73 : Reads3 (p := 8) (m := 8192) (n := 256) (val_main_v73 (F := Ideal) x0 x1 x2 x3)
    (fun h c d => if d < 128 then headDk q kv kr g h c d else headDv q kv kr g h c (d - 128)) := fun i =>
  (congrArg (val_main_v73 (F := Ideal) x0 x1 x2 x3) (ix3_eq i)).trans (pads_add (reads_v53 hq hkv hkr hg) (reads_v69 hq hkv hkr hg) _ _ _ (i 0) (i 1) (i 2))

/-! ## The three gradients -/

theorem reads_v82 : Reads (m := 8192) (n := 2048) (val_main_v82 (F := Ideal) x0 x1 x2 x3) (gradQ q kv kr g) := fun a b => by
  have hb : b.val < 2048 := b.isLt
  rw [val_main_v82_apply, val_main_v81_apply, reads_v76 hq hkv hkr hg]
  show ((headDq q kv kr g ((a.val * 2048 + b.val) / 256 % 8) ((a.val * 2048 + b.val) / 2048) ((a.val * 2048 + b.val) % 256) : ℝ) : EReal) = _
  rw [show (a.val * 2048 + b.val) / 256 % 8 = b.val / 256 by omega, show (a.val * 2048 + b.val) / 2048 = a.val by omega,
    show (a.val * 2048 + b.val) % 256 = b.val % 256 by omega]
  rfl

theorem reads_v83 : Reads (m := 8192) (n := 2048) (val_main_v83 (F := Ideal) x0 x1 x2 x3) (gradKv q kv kr g) := fun a b => by
  have hb : b.val < 2048 := b.isLt
  rw [val_main_v83_apply, val_main_v80_apply, val_main_v79_apply, reads_v73 hq hkv hkr hg]
  have e0 : (a.val * 2048 + b.val) / 256 % 8 = b.val / 256 := by omega
  have e1 : (a.val * 2048 + b.val) / 2048 = a.val := by omega
  have e2 : (a.val * 2048 + b.val) % 256 = b.val % 256 := by omega
  show (((if (a.val * 2048 + b.val) % 256 < 128 then headDk q kv kr g ((a.val * 2048 + b.val) / 256 % 8) ((a.val * 2048 + b.val) / 2048) ((a.val * 2048 + b.val) % 256)
    else headDv q kv kr g ((a.val * 2048 + b.val) / 256 % 8) ((a.val * 2048 + b.val) / 2048) ((a.val * 2048 + b.val) % 256 - 128)) : ℝ) : EReal) = _
  rw [e0, e1, e2]
  rfl

theorem reads_v78 : Reads (m := 8192) (n := 1024) (val_main_v78 (F := Ideal) x0 x1 x2 x3) (gradKr q kv kr g) := fun a b => by
  have hb : b.val < 1024 := b.isLt
  rw [val_main_v78_apply, val_main_v77_apply, reads_v67 hq hkv hkr hg]
  show ((headDk q kv kr g ((a.val * 1024 + b.val) / 128 % 8) ((a.val * 1024 + b.val) / 1024) (128 + (a.val * 1024 + b.val) % 128) : ℝ) : EReal) = _
  rw [show (a.val * 1024 + b.val) / 128 % 8 = b.val / 128 by omega, show (a.val * 1024 + b.val) / 1024 = a.val by omega,
    show (a.val * 1024 + b.val) % 128 = b.val % 128 by omega]
  rfl

end Cert.Attn

end
-- ==== Proof.Value.Finite.lean ====
/- What the claim's precondition says: every element of the four operands is a real number. -/
module

public import Idealize.ShloMosaic.Lib.Pointwise
public import proofs.«01_k».proof.Pre_finite

@[expose] public section

noncomputable section

namespace Cert.Attn

open Idealize.ShloMosaic

/-- The side conditions the precondition's operations take. -/
theorem finiteFacts : Cert.Pre_finite.Facts where
  bitsLt_bf16_f32 := by decide
  bcast_S_S8192x2048 := by decide
  bcast_S_S8192x128 := by decide
  bcast_S_S8192x1024 := by decide

/-- An element below infinity in absolute value is a real. -/
theorem real_of_below {m n : ℕ} (x : FVec Ideal ⟨2, ![m, n]⟩ .f32) (hb : (⟨0, ![]⟩ : Shape).BroadcastsInDim ⟨2, ![m, n]⟩ (![] : Fin 0 → Fin 2))
    (h : cmpf .olt (Host.absf x) (broadcastInDim ⟨2, ![m, n]⟩ ![] hb (constant ⟨0, ![]⟩ .f32 0x7F800000#32)) = fun _ => 1#1) (a : Fin m) (b : Fin n) :
    ∃ z : ℝ, x (ix2 a b) = (z : EReal) := by
  have e := congrFun h (ix2 a b)
  simp only [pointwise] at e
  have ht : Ideal.ofBits .f32 2139095040#32 = ⊤ := by simp [Ideal.ofBits, Ideal.ieee]
  have hlt : FloatOps.absf (x (ix2 a b)) < (⊤ : EReal) := by
    rw [← ht]
    by_contra hn
    simp [hn] at e
  have ha : FloatOps.absf (x (ix2 a b)) = max (x (ix2 a b)) (-(x (ix2 a b))) := rfl
  rw [ha, max_lt_iff] at hlt
  refine ⟨(x (ix2 a b)).toReal, (EReal.coe_toReal hlt.1.ne fun hbot => ?_).symm⟩
  rw [hbot] at hlt
  exact absurd hlt.2 (by simp)

/-- The precondition, operand by operand. -/
theorem real_of_finite [Cert.Pre_finite.Facts] (x0 x1 : FVec Ideal Cert.Pre_finite.S8192x2048 .bf16) (x2 : FVec Ideal Cert.Pre_finite.S8192x128 .bf16)
    (x3 : FVec Ideal Cert.Pre_finite.S8192x1024 .f32)
    (h : (Cert.Pre_finite.fn (F := Ideal) x0 x1 x2 x3).1 = (fun _ => 1#1) ∧ (Cert.Pre_finite.fn (F := Ideal) x0 x1 x2 x3).2.1 = (fun _ => 1#1)
      ∧ (Cert.Pre_finite.fn (F := Ideal) x0 x1 x2 x3).2.2.1 = (fun _ => 1#1) ∧ (Cert.Pre_finite.fn (F := Ideal) x0 x1 x2 x3).2.2.2 = (fun _ => 1#1)) :
    (∀ (a : Fin 8192) (b : Fin 2048), ∃ z : ℝ, x0 (ix2 a b) = (z : EReal)) ∧ (∀ (a : Fin 8192) (b : Fin 2048), ∃ z : ℝ, x1 (ix2 a b) = (z : EReal))
      ∧ (∀ (a : Fin 8192) (b : Fin 128), ∃ z : ℝ, x2 (ix2 a b) = (z : EReal)) ∧ (∀ (a : Fin 8192) (b : Fin 1024), ∃ z : ℝ, x3 (ix2 a b) = (z : EReal)) :=
  ⟨real_of_below (m := 8192) (n := 2048) x0 Cert.Pre_finite.Facts.bcast_S_S8192x2048 h.1, real_of_below (m := 8192) (n := 2048) x1 Cert.Pre_finite.Facts.bcast_S_S8192x2048 h.2.1,
    real_of_below (m := 8192) (n := 128) x2 Cert.Pre_finite.Facts.bcast_S_S8192x128 h.2.2.1, real_of_below (m := 8192) (n := 1024) x3 Cert.Pre_finite.Facts.bcast_S_S8192x1024 h.2.2.2⟩

end Cert.Attn

end
-- ==== Proof.Value.Results.lean ====
/- The four arrays the two calls leave are the reference's: both hold the same reals. -/
module

public import proofs.«01_k».proof.Proof.Value.RefGrad
public import proofs.«01_k».proof.Proof.Value.Finite
public import proofs.«01_k».proof.Proof.Launched

@[expose] public section

set_option maxRecDepth 16384

noncomputable section

namespace Cert.Attn

open Cert.KernelIdeal Cert.KernelIdeal.Gen
open Idealize.ShloMosaic Idealize.ShloMosaic.TcCoe Finset

/-- Two arrays that hold the same reals are equal. -/
theorem Reads.eq {m n : ℕ} {x y : (⟨2, ![m, n]⟩ : Shape).Idx → EReal} {f : ℕ → ℕ → ℝ} (hx : Reads x f) (hy : Reads y f) : x = y :=
  funext fun i => (hx.at i).trans (hy.at i).symm

variable (m : (ℓ : Loc nD τ sig) → Buf (Elt Ideal) ℓ) (c : Dev nD) {q kv kr g : ℕ → ℕ → ℝ}
  (hq : Reads (m := 8192) (n := 2048) (m ((c.tc : Thread nD τ).loc main_arg0)) q)
  (hkv : Reads (m := 8192) (n := 2048) (m ((c.tc : Thread nD τ).loc main_arg1)) kv)
  (hkr : Reads (m := 8192) (n := 128) (m ((c.tc : Thread nD τ).loc main_arg2)) kr)
  (hg : Reads (m := 8192) (n := 1024) (m ((c.tc : Thread nD τ).loc main_arg3)) g)
include hq hkv hkr

theorem fwd_operands : Operands (fwdIn m) c q kv kr := ⟨hq, hkv, hkr⟩

include hg

/-- The backward call is entered with the operands, and with what the forward call saved. -/
theorem bwd_saved : Saved (bwdIn m) c q kv kr g where
  hq a b := (congrFun (between_of m c main_arg0 (by decide) (by decide)) (ix2 a b)).trans (hq a b)
  hkv a b := (congrFun (between_of m c main_arg1 (by decide) (by decide)) (ix2 a b)).trans (hkv a b)
  hkr a b := (congrFun (between_of m c main_arg2 (by decide) (by decide)) (ix2 a b)).trans (hkr a b)
  hg a b := (congrFun (between_of m c main_arg3 (by decide) (by decide)) (ix2 a b)).trans (hg a b)
  ho a b := (congrFun (between_o m c) (ix2 a b)).trans (fwd_out (fwd_operands m c hq hkv hkr) a b)
  hl h r l := (congrFun (between_l m c) (ix3 h r l)).trans (fwd_log (fwd_operands m c hq hkv hkr) h r l)

omit hq hkv hkr hg in
/-- The results, on operands that are real numbers. -/
theorem results_eq (hpre : (∀ (a : Fin 8192) (b : Fin 2048), ∃ z : ℝ, (m ((c.tc : Thread nD τ).loc main_arg0) : S8192x2048.Idx → EReal) (ix2 a b) = (z : EReal))
      ∧ (∀ (a : Fin 8192) (b : Fin 2048), ∃ z : ℝ, (m ((c.tc : Thread nD τ).loc main_arg1) : S8192x2048.Idx → EReal) (ix2 a b) = (z : EReal))
      ∧ (∀ (a : Fin 8192) (b : Fin 128), ∃ z : ℝ, (m ((c.tc : Thread nD τ).loc main_arg2) : S8192x128.Idx → EReal) (ix2 a b) = (z : EReal))
      ∧ (∀ (a : Fin 8192) (b : Fin 1024), ∃ z : ℝ, (m ((c.tc : Thread nD τ).loc main_arg3) : S8192x1024.Idx → EReal) (ix2 a b) = (z : EReal))) :
    Cert.ReferenceIdeal.Read.val_main_v49 (F := Ideal) (m ((c.tc : Thread nD τ).loc main_arg0)) (m ((c.tc : Thread nD τ).loc main_arg1)) (m ((c.tc : Thread nD τ).loc main_arg2)) = fwdO m c
    ∧ Cert.ReferenceIdeal.Read.val_main_v82 (F := Ideal) (m ((c.tc : Thread nD τ).loc main_arg0)) (m ((c.tc : Thread nD τ).loc main_arg1)) (m ((c.tc : Thread nD τ).loc main_arg2)) (m ((c.tc : Thread nD τ).loc main_arg3)) = bwdOutQ m c
    ∧ Cert.ReferenceIdeal.Read.val_main_v83 (F := Ideal) (m ((c.tc : Thread nD τ).loc main_arg0)) (m ((c.tc : Thread nD τ).loc main_arg1)) (m ((c.tc : Thread nD τ).loc main_arg2)) (m ((c.tc : Thread nD τ).loc main_arg3)) = bwdOutKv m c
    ∧ Cert.ReferenceIdeal.Read.val_main_v78 (F := Ideal) (m ((c.tc : Thread nD τ).loc main_arg0)) (m ((c.tc : Thread nD τ).loc main_arg1)) (m ((c.tc : Thread nD τ).loc main_arg2)) (m ((c.tc : Thread nD τ).loc main_arg3)) = bwdOutKr m c := by
  have hq := reads_reals (m := 8192) (n := 2048) hpre.1
  have hkv := reads_reals (m := 8192) (n := 2048) hpre.2.1
  have hkr := reads_reals (m := 8192) (n := 128) hpre.2.2.1
  have hg := reads_reals (m := 8192) (n := 1024) hpre.2.2.2
  have H := bwd_saved m c hq hkv hkr hg
  exact ⟨(reads_v49 hq hkv hkr).eq (fwd_out (fwd_operands m c hq hkv hkr)), (reads_v82 hq hkv hkr hg).eq (bwd_q H),
    (reads_v83 hq hkv hkr hg).eq (bwd_kv H), (reads_v78 hq hkv hkr hg).eq (bwd_kr H)⟩

end Cert.Attn

end
-- ==== Proof.Ffn.Same.Forward.lean ====
/- The forward calls of the feed-forward sublayer: the same body at the machine's words and at the extended reals. -/
module

public import proofs.«01_k».proof.Defs
public import proofs.«01_k».proof.Proof.Gen.Kernel2Ideal
public import proofs.«01_k».proof.Proof.Gen.Kernel2

@[expose] public section

set_option maxRecDepth 16384
set_option maxHeartbeats 16000000

noncomputable section

namespace Cert.Ffn

open Idealize.ShloMosaic Idealize.SL.Sem

theorem gate_same (x : Cert.Kernel2.Λ₀.Args (0 : Fin 14)) :
    Cert.Kernel2.defs₀ (F := Bits) .tc (0 : Fin 14) x = Cert.Kernel2Ideal.defs₀ (F := Bits) .tc (0 : Fin 14) x := (rfl)

theorem up_same (x : Cert.Kernel2.Λ₀.Args (1 : Fin 14)) :
    Cert.Kernel2.defs₀ (F := Bits) .tc (1 : Fin 14) x = Cert.Kernel2Ideal.defs₀ (F := Bits) .tc (1 : Fin 14) x := (rfl)

theorem act_same (x : Cert.Kernel2.Λ₀.Args (2 : Fin 14)) :
    Cert.Kernel2.defs₀ (F := Bits) .tc (2 : Fin 14) x = Cert.Kernel2Ideal.defs₀ (F := Bits) .tc (2 : Fin 14) x := (rfl)

theorem down_same (x : Cert.Kernel2.Λ₀.Args (3 : Fin 14)) :
    Cert.Kernel2.defs₀ (F := Bits) .tc (3 : Fin 14) x = Cert.Kernel2Ideal.defs₀ (F := Bits) .tc (3 : Fin 14) x := (rfl)

end Cert.Ffn

end
-- ==== Proof.Ffn.Same.Backward.lean ====
/- The backward calls of the feed-forward sublayer up to the input's gradient: the same body at the machine's words and at the extended reals. -/
module

public import proofs.«01_k».proof.Defs
public import proofs.«01_k».proof.Proof.Gen.Kernel2Ideal
public import proofs.«01_k».proof.Proof.Gen.Kernel2

@[expose] public section

set_option maxRecDepth 16384
set_option maxHeartbeats 16000000

noncomputable section

namespace Cert.Ffn

open Idealize.ShloMosaic Idealize.SL.Sem

theorem dAct_same (x : Cert.Kernel2.Λ₀.Args (4 : Fin 14)) :
    Cert.Kernel2.defs₀ (F := Bits) .tc (4 : Fin 14) x = Cert.Kernel2Ideal.defs₀ (F := Bits) .tc (4 : Fin 14) x := (rfl)

theorem dDown_same (x : Cert.Kernel2.Λ₀.Args (5 : Fin 14)) :
    Cert.Kernel2.defs₀ (F := Bits) .tc (5 : Fin 14) x = Cert.Kernel2Ideal.defs₀ (F := Bits) .tc (5 : Fin 14) x := (rfl)

theorem cot_same (x : Cert.Kernel2.Λ₀.Args (6 : Fin 14)) :
    Cert.Kernel2.defs₀ (F := Bits) .tc (6 : Fin 14) x = Cert.Kernel2Ideal.defs₀ (F := Bits) .tc (6 : Fin 14) x := (rfl)

theorem dInGate_same (x : Cert.Kernel2.Λ₀.Args (7 : Fin 14)) :
    Cert.Kernel2.defs₀ (F := Bits) .tc (7 : Fin 14) x = Cert.Kernel2Ideal.defs₀ (F := Bits) .tc (7 : Fin 14) x := (rfl)

theorem dIn_same (x : Cert.Kernel2.Λ₀.Args (8 : Fin 14)) :
    Cert.Kernel2.defs₀ (F := Bits) .tc (8 : Fin 14) x = Cert.Kernel2Ideal.defs₀ (F := Bits) .tc (8 : Fin 14) x := (rfl)

end Cert.Ffn

end
-- ==== Proof.Ffn.Same.Weights.lean ====
/- The gradients of the gate and up weights, and the first projection's calls: the same body at the machine's words and at the extended reals. -/
module

public import proofs.«01_k».proof.Defs
public import proofs.«01_k».proof.Proof.Gen.Kernel2Ideal
public import proofs.«01_k».proof.Proof.Gen.Kernel2

@[expose] public section

set_option maxRecDepth 16384
set_option maxHeartbeats 16000000

noncomputable section

namespace Cert.Ffn

open Idealize.ShloMosaic Idealize.SL.Sem

theorem dGate_same (x : Cert.Kernel2.Λ₀.Args (9 : Fin 14)) :
    Cert.Kernel2.defs₀ (F := Bits) .tc (9 : Fin 14) x = Cert.Kernel2Ideal.defs₀ (F := Bits) .tc (9 : Fin 14) x := (rfl)

theorem dUp_same (x : Cert.Kernel2.Λ₀.Args (10 : Fin 14)) :
    Cert.Kernel2.defs₀ (F := Bits) .tc (10 : Fin 14) x = Cert.Kernel2Ideal.defs₀ (F := Bits) .tc (10 : Fin 14) x := (rfl)

theorem proj_same (x : Cert.Kernel2.Λ₀.Args (11 : Fin 14)) :
    Cert.Kernel2.defs₀ (F := Bits) .tc (11 : Fin 14) x = Cert.Kernel2Ideal.defs₀ (F := Bits) .tc (11 : Fin 14) x := (rfl)

theorem dProjIn_same (x : Cert.Kernel2.Λ₀.Args (12 : Fin 14)) :
    Cert.Kernel2.defs₀ (F := Bits) .tc (12 : Fin 14) x = Cert.Kernel2Ideal.defs₀ (F := Bits) .tc (12 : Fin 14) x := (rfl)

theorem dProjWeight_same (x : Cert.Kernel2.Λ₀.Args (13 : Fin 14)) :
    Cert.Kernel2.defs₀ (F := Bits) .tc (13 : Fin 14) x = Cert.Kernel2Ideal.defs₀ (F := Bits) .tc (13 : Fin 14) x := (rfl)

end Cert.Ffn

end
-- ==== Proof.Ffn.Same.lean ====
/- The second kernel's text is the same read at the machine's words and at the extended reals: one table of bodies. -/
module

public import proofs.«01_k».proof.Proof.Ffn.Same.Forward
public import proofs.«01_k».proof.Proof.Ffn.Same.Backward
public import proofs.«01_k».proof.Proof.Ffn.Same.Weights

@[expose] public section

set_option maxRecDepth 16384
set_option maxHeartbeats 16000000

noncomputable section

namespace Cert.Ffn

open Idealize.ShloMosaic Idealize.SL.Sem

/-- What holds of each of the fourteen calls holds of every call. -/
theorem every_call {p : Fin 14 → Prop}
    (h : p 0 ∧ p 1 ∧ p 2 ∧ p 3 ∧ p 4 ∧ p 5 ∧ p 6 ∧ p 7 ∧ p 8 ∧ p 9 ∧ p 10 ∧ p 11 ∧ p 12 ∧ p 13) : ∀ l, p l := by
  obtain ⟨h0, h1, h2, h3, h4, h5, h6, h7, h8, h9, h10, h11, h12, h13⟩ := h
  intro l
  fin_cases l <;> assumption

theorem tcBodies_same : Cert.Kernel2.defs₀ (F := Bits) .tc = Cert.Kernel2Ideal.defs₀ (F := Bits) .tc :=
  funext (every_call (p := fun l => Cert.Kernel2.defs₀ (F := Bits) .tc l = Cert.Kernel2Ideal.defs₀ (F := Bits) .tc l)
    ⟨funext gate_same, funext up_same, funext act_same, funext down_same, funext dAct_same, funext dDown_same, funext cot_same,
      funext dInGate_same, funext dIn_same, funext dGate_same, funext dUp_same, funext proj_same, funext dProjIn_same, funext dProjWeight_same⟩)

theorem bodies_same : Cert.Kernel2.defs₀ (F := Bits) = Cert.Kernel2Ideal.defs₀ (F := Bits) :=
  funext fun
    | .tc => tcBodies_same
    | .scScalar _ => rfl
    | .scVector _ _ => rfl

theorem calls_same : Cert.Kernel2.defs (F := Bits) = Cert.Kernel2Ideal.defs (F := Bits) :=
  congrArg (Pipeline.defs (Cert.Kernel2.pcfgs (F := Bits))) bodies_same

end Cert.Ffn

end
-- ==== Proof.Ffn.Base.lean ====
/- What the feed-forward sublayer's products share: one body over any tile sizes, run once, and the accumulator it carries
   from point to point of its grid. -/
module

public import proofs.«01_k».proof.Proof.Fwd.Base
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points

@[expose] public section

set_option maxRecDepth 16384

noncomputable section

namespace Cert.Ffn

open Cert.Kernel2Ideal Cert.Kernel2Ideal.Gen
open Cert.Attn (load_window load_stored stored_put)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## A buffer read and written whole -/

section Whole

variable {s : Shape} {α : Type} {z : Fin s.rank → ℕ}

theorem offset_zero (inb : ∀ a, z a + s.size a ≤ s.size a) (a : Fin s.rank) : z a = 0 := by have := inb a; omega

/-- A buffer put whole is what was put. -/
theorem put_all (inb : ∀ a, z a + s.size a ≤ s.size a) (x w : s.Idx → α) : VecWindow.put x z s.size w = w := by
  funext y
  have h : ∀ a, z a ≤ (y a).val ∧ (y a).val < z a + s.size a := fun a => by
    rw [offset_zero inb a]; exact ⟨Nat.zero_le _, by have := (y a).isLt; omega⟩
  unfold VecWindow.put
  rw [dif_pos h]
  exact congrArg w (funext fun a => Fin.ext (by show (y a).val - z a = (y a).val; rw [offset_zero inb a]; rfl))

/-- The window of a buffer's own extents is the buffer. -/
theorem window_all (x : s.Idx → α) (inb : ∀ a, z a + s.size a ≤ s.size a) : VecWindow.window x z s.size inb = x :=
  funext fun y => congrArg x (funext fun a => Fin.ext (by show z a + 1 * (y a).val = (y a).val; rw [offset_zero inb a]; omega))

end Whole

/-! ## A product's body -/

/-- How a buffer is read and written whole: the offsets, all zero, and that there is something in it. -/
structure Reach (s : Shape) where
  z : Fin s.rank → ℕ
  inb : ∀ a, z a + s.size a ≤ s.size a
  pos : 0 < s.numel

/-- A matrix added to a product on the way out: where it lies, what it holds and how it is added. -/
structure Addend (F : FTy → Type) [FloatOps F] (so : Shape) (eo : EltTy) where
  s : Shape
  e : EltTy
  r : Reach s
  m : Memref sig .tc .vmem s e
  whole : m.IsWhole
  x : Vec F s e
  add : Vec F so eo → Vec F s e → Vec F so eo

section Body

variable {sa sb so : Shape} {ea eb eo : EltTy}

/-- The accumulator started afresh at the first tile of the summed axis, a tile's product added to it, and the
    accumulator stored at the last tile, with the addend if there is one. -/
def productBody (first last : BitVec 1) (z : Vec F so eo) (step : Vec F so eo → Vec F sa ea → Vec F sb eb → Vec F so eo)
    (ra : Reach sa) (rb : Reach sb) (ro : Reach so) (h32 : eo.bits = 32)
    (a : Memref sig .tc .vmem sa ea) (b : Memref sig .tc .vmem sb eb) (e : Option (Addend F so eo))
    (o : Memref sig .tc .vmem so eo) (s : Memref sig .tc .vmem so eo) : Prog (TpuEff nD τ sig (Elt F) Λ₀ .tc) PUnit := do
  if h1 : first = 1#1 then do
    let v16 : Vec F so eo ← Prog.lift (.load s (Rect.unit (s := so) ro.z so.size ro.inb).toLoadRect (View.loadsAt_vmem ro.pos))
    Prog.lift (.store s (Rect.unit (s := so) ro.z so.size ro.inb) z Finset.univ (View.stores_vmem_bits_univ ro.pos h32) (.inl rfl))
    pure ⟨⟩
  else do
    pure ⟨⟩
  let v3 : Vec F so eo ← Prog.lift (.load s (Rect.unit (s := so) ro.z so.size ro.inb).toLoadRect (View.loadsAt_vmem ro.pos))
  let v4 : Vec F sa ea ← Prog.lift (.load a (Rect.unit (s := sa) ra.z sa.size ra.inb).toLoadRect (View.loadsAt_vmem ra.pos))
  let v6 : Vec F sb eb ← Prog.lift (.load b (Rect.unit (s := sb) rb.z sb.size rb.inb).toLoadRect (View.loadsAt_vmem rb.pos))
  let v9 : Vec F so eo ← Prog.lift (.load s (Rect.unit (s := so) ro.z so.size ro.inb).toLoadRect (View.loadsAt_vmem ro.pos))
  Prog.lift (.store s (Rect.unit (s := so) ro.z so.size ro.inb) (step v3 v4 v6) Finset.univ (View.stores_vmem_bits_univ ro.pos h32) (.inl rfl))
  match e with
  | none =>
    if h2 : last = 1#1 then do
      let v14 : Vec F so eo ← Prog.lift (.load s (Rect.unit (s := so) ro.z so.size ro.inb).toLoadRect (View.loadsAt_vmem ro.pos))
      let v15 : Vec F so eo ← Prog.lift (.load o (Rect.unit (s := so) ro.z so.size ro.inb).toLoadRect (View.loadsAt_vmem ro.pos))
      Prog.lift (.store o (Rect.unit (s := so) ro.z so.size ro.inb) v14 Finset.univ (View.stores_vmem_bits_univ ro.pos h32) (.inl rfl))
      pure ⟨⟩
    else do
      pure ⟨⟩
    pure ⟨⟩
  | some e =>
    if h2 : last = 1#1 then do
      let v15 : Vec F so eo ← Prog.lift (.load s (Rect.unit (s := so) ro.z so.size ro.inb).toLoadRect (View.loadsAt_vmem ro.pos))
      let v16 : Vec F e.s e.e ← Prog.lift (.load e.m (Rect.unit (s := e.s) e.r.z e.s.size e.r.inb).toLoadRect (View.loadsAt_vmem e.r.pos))
      let v18 : Vec F so eo ← Prog.lift (.load o (Rect.unit (s := so) ro.z so.size ro.inb).toLoadRect (View.loadsAt_vmem ro.pos))
      Prog.lift (.store o (Rect.unit (s := so) ro.z so.size ro.inb) (e.add v15 v16) Finset.univ (View.stores_vmem_bits_univ ro.pos h32) (.inl rfl))
      pure ⟨⟩
    else do
      pure ⟨⟩
    pure ⟨⟩

/-- The addend's buffer, held at what it holds. -/
def addendHeld (c : Dev nD) : Option (Addend F so eo) → sProp 𝕄
  | none => iprop(emp)
  | some e => owns (c : Thread nD τ) e.m fullShare e.x

/-- An accumulator with the addend, if there is one. -/
def withAddend : Option (Addend F so eo) → Vec F so eo → Vec F so eo
  | none, u => u
  | some e, u => e.add u e.x

set_option maxHeartbeats 4000000 in
/-- What the body leaves: the accumulator one tile further, and at the last tile the result in the output's buffer. -/
theorem product_run (c : Dev nD) (first last : BitVec 1) (z : Vec F so eo) (step : Vec F so eo → Vec F sa ea → Vec F sb eb → Vec F so eo)
    (ra : Reach sa) (rb : Reach sb) (ro : Reach so) (h32 : eo.bits = 32)
    (a : Memref sig .tc .vmem sa ea) (ha : a.IsWhole) (b : Memref sig .tc .vmem sb eb) (hb : b.IsWhole) (e : Option (Addend F so eo))
    (o : Memref sig .tc .vmem so eo) (ho : o.IsWhole) (s : Memref sig .tc .vmem so eo) (hs : s.IsWhole)
    (x : Vec F sa ea) (y : Vec F sb eb) (d u : Vec F so eo) (E : Set ℕ) (K : PUnit → sProp 𝕄) :
    iprop(owns (c : Thread nD τ) a fullShare x ∗ owns (c : Thread nD τ) b fullShare y ∗ addendHeld c e ∗ owns (c : Thread nD τ) o fullShare d ∗ owns (c : Thread nD τ) s fullShare u
        ∗ (iprop(owns (c : Thread nD τ) a fullShare x ∗ owns (c : Thread nD τ) b fullShare y ∗ addendHeld c e
            ∗ owns (c : Thread nD τ) o fullShare (if last = 1#1 then withAddend e (step (if first = 1#1 then z else u) x y) else d)
            ∗ owns (c : Thread nD τ) s fullShare (step (if first = 1#1 then z else u) x y)) -∗ K ⟨⟩))
      ⊢ wp frame (wpE (defs₀ (F := F)) Variants.none c none) E (productBody first last z step ra rb ro h32 a b e o s) K := by
  cases e with
  | none =>
    unfold productBody addendHeld withAddend owns
    iintro ⟨⟨%f0, %hf0, H0⟩, ⟨%f1, %hf1, H1⟩, -, ⟨%f2, %hf2, H2⟩, ⟨%f3, %hf3, H3⟩, Hk⟩
    obtain rfl := ha.eq_unread hf0; obtain rfl := hb.eq_unread hf1; obtain rfl := ho.eq_unread hf2; obtain rfl := hs.eq_unread hf3
    by_cases h1 : first = 1#1 <;> by_cases h2 : last = 1#1
    all_goals
      sl_exec (disch := first | sl_exact h1 | sl_exact h2)
      sl_step
      iapply Hk
      simp only [h1, h2, if_true, if_false]
      isplitl [H0]
      · iexists _; isplitr; · ipureintro; exact ha.read_unread _
        iexact H0
      isplitl [H1]
      · iexists _; isplitr; · ipureintro; exact hb.read_unread _
        iexact H1
      isplitr; · iempintro
      isplitl [H2]
      · iexists _; isplitr; swap; iexact H2
        ipureintro
        sl_open_run
        simp only [load_window, load_stored, stored_put, View.writes_nil, put_all ra.inb, put_all rb.inb, put_all ro.inb, window_all, Memref.IsWhole.read_unread]
      iexists _; isplitr; swap; iexact H3
      ipureintro
      sl_open_run
      simp only [load_window, load_stored, stored_put, View.writes_nil, put_all ra.inb, put_all rb.inb, put_all ro.inb, window_all, Memref.IsWhole.read_unread]
  | some e =>
    unfold productBody addendHeld withAddend owns
    have he := e.whole
    iintro ⟨⟨%f0, %hf0, H0⟩, ⟨%f1, %hf1, H1⟩, ⟨%fe, %hfe, He⟩, ⟨%f2, %hf2, H2⟩, ⟨%f3, %hf3, H3⟩, Hk⟩
    obtain rfl := ha.eq_unread hf0; obtain rfl := hb.eq_unread hf1; obtain rfl := he.eq_unread hfe; obtain rfl := ho.eq_unread hf2; obtain rfl := hs.eq_unread hf3
    by_cases h1 : first = 1#1 <;> by_cases h2 : last = 1#1
    all_goals
      sl_exec (disch := first | sl_exact h1 | sl_exact h2)
      sl_step
      iapply Hk
      simp only [h1, h2, if_true, if_false]
      isplitl [H0]
      · iexists _; isplitr; · ipureintro; exact ha.read_unread _
        iexact H0
      isplitl [H1]
      · iexists _; isplitr; · ipureintro; exact hb.read_unread _
        iexact H1
      isplitl [He]
      · iexists _; isplitr; · ipureintro; exact he.read_unread _
        iexact He
      isplitl [H2]
      · iexists _; isplitr; swap; iexact H2
        ipureintro
        sl_open_run
        simp only [load_window, load_stored, stored_put, View.writes_nil, put_all ra.inb, put_all rb.inb, put_all ro.inb, window_all, Memref.IsWhole.read_unread]
      iexists _; isplitr; swap; iexact H3
      ipureintro
      sl_open_run
      simp only [load_window, load_stored, stored_put, View.writes_nil, put_all ra.inb, put_all rb.inb, put_all ro.inb, window_all, Memref.IsWhole.read_unread]

end Body

/-! ## The accumulator from point to point -/

/-- What point `n` leaves in the accumulator: started afresh from `z` at every `nk`-th point, gone on with otherwise. -/
def accAt {S : Type} {N : ℕ} (nk : ℕ) (z : S) (f : (n : ℕ) → n < N → S → S) : (n : ℕ) → n < N → S
  | 0, h => f 0 h z
  | n + 1, h => f (n + 1) h (if (n + 1) % nk = 0 then z else accAt nk z f n (Nat.lt_of_succ_lt h))

/-- A point's step from whatever it finds, which is what the point before left unless it starts afresh. -/
theorem accAt_eq {S : Type} {N : ℕ} (nk : ℕ) (z : S) (f : (n : ℕ) → n < N → S → S) (n : ℕ) (h : n < N) (u : S)
    (hu : ∀ h' : n - 1 < N, n ≠ 0 → u = accAt nk z f (n - 1) h') : accAt nk z f n h = f n h (if n % nk = 0 then z else u) := by
  cases n with
  | zero => rw [if_pos (Nat.zero_mod nk)]; rfl
  | succ n => rw [hu (Nat.lt_of_succ_lt h) (Nat.succ_ne_zero n)]; rfl

/-- An output stored only at the last tile is idle at the others. -/
theorem live_of {b : BitVec 1} (h : b = 1#1) : (!(b == 1#1)) = false := by simp [h]
theorem idle_of {b : BitVec 1} (h : ¬b = 1#1) : (!(b == 1#1)) = true := by simp [h]

/-- The comparison by which a body knows that it is at tile `j` of the summed axis. -/
abbrev tileIs (j k : ℕ) : BitVec 1 := Scalar.cmpi .ne (Scalar.extui (Scalar.cmpi .eq (BitVec.ofNat 32 k) (BitVec.ofNat 32 j))) 0#32

theorem tileIs_iff {j k n nk : ℕ} (e : k = n / 1 % nk) (hj : j < 16) (hk : k < 16) : tileIs j k = 1#1 ↔ n % nk = j := by
  rw [show n % nk = k from by rw [e, Nat.div_one]]
  clear e
  simp only [tileIs]
  word_cmp

end Cert.Ffn

end
-- ==== Proof.Ffn.Call.lean ====
/- A call that computes a product tile by tile, over any grid and any windows: its proof data, and the body's obligation at
   every point. -/
module

public import proofs.«01_k».proof.Proof.Ffn.Base

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## Any call of the sublayer -/

section Any

/-- The contents of the buffers when a call is entered. -/
abbrev Contents (F : FTy → Type) [FloatOps F] : Type := (c : Dev nD) → (b : Ref sig .tc) → Buf (Elt F) ((c : Thread nD τ).loc b)

variable (V : Contents F) (c : Dev nD) (cfg : Pipeline.Cfg sig Λ₀)

/-- The block of window `w` at point `t`. -/
def block (w : Fin cfg.W) (t : Fin cfg.N) : ((cfg.win w).xblock (cfg.grid.coords t)).Idx → Elt F (cfg.win w).elt :=
  ((cfg.win w).blk t).view.read (Elt F) (V c (Pipeline.arrRef cfg.spec w))

/-- The same as the contents of the buffer it is fetched into. -/
def staged (w : Fin cfg.W) (t : Fin cfg.N) : (cfg.win w).block.Idx → Elt F (cfg.win w).elt :=
  (cfg.win w).fill (cfg.grid.coords t) (fun _ => Classical.arbitrary _) (block V c cfg w t)

/-- A call's proof data, from what its windows hold after each point and what is carried between points. -/
def callDat (after : (w : Fin cfg.W) → Fin cfg.N → (cfg.win w).block.Idx → Elt F (cfg.win w).elt) (Φ : (n : ℕ) → n ≤ cfg.N → sProp 𝕄) :
    Dat τ (Elt F) Unit ℕ (UR sig nD τ) ℕ cfg c where
  A w := V c (Pipeline.arrRef cfg.spec w)
  after := after
  Φ t := Φ t.val (Nat.le_of_lt_succ t.isLt)
  q w := Pipeline.shareOf cfg.spec w
  owed _ := 0

variable {cfg}

/-- An input window left as found holds its block at every point. -/
theorem before_staged (after : (w : Fin cfg.W) → Fin cfg.N → (cfg.win w).block.Idx → Elt F (cfg.win w).elt) (Φ : (n : ℕ) → n ≤ cfg.N → sProp 𝕄)
    (w : Fin cfg.W) (hw : (cfg.win w).isOut = false) (hlive : ∀ i, cfg.idle w i = false)
    (hclip : ∀ i a, (cfg.win w).clip i a = none) (hkeep : after w = staged V c cfg w) (t : Fin cfg.N) (d) :
    (callDat V c cfg after Φ).before w t d = staged V c cfg w t :=
  (Dat.before_in_eq_fetched _ w hw hlive (fun t t' _ => by funext a; rw [hclip, hclip])
      (fun t => by show (cfg.win w).cut _ (after w t) = _; rw [hkeep]; exact (cfg.win w).cut_fill _ _ _) t d).trans
    (Pipeline.fill_of_clip_none w _ (hclip _) _ _ _)

/-- A window that is not idle is left at what it is to hold. -/
theorem leaves_live (after : (w : Fin cfg.W) → Fin cfg.N → (cfg.win w).block.Idx → Elt F (cfg.win w).elt) (Φ : (n : ℕ) → n ≤ cfg.N → sProp 𝕄)
    (w : Fin cfg.W) (t : Fin cfg.N) (h : cfg.idle w (cfg.grid.coords t) = false) :
    (callDat V c cfg after Φ).leavesExact w t = owns (c : Thread nD τ) ((cfg.win w).stage (cfg.slots t w)) fullShare (after w t) := by
  unfold Dat.leavesExact; rw [h]; rfl

/-- A memref said to lie where it lies. -/
def inVmem {sp : Space} {s : Shape} {e : EltTy} (h : sp = .vmem) (m : Memref sig .tc sp s e) : Memref sig .tc .vmem s e := h ▸ m

theorem inVmem_whole {sp : Space} {s : Shape} {e : EltTy} (h : sp = .vmem) (m : Memref sig .tc sp s e) (hm : m.IsWhole) : (inVmem h m).IsWhole := by
  subst h; exact hm

theorem inVmem_owns {sp : Space} {s : Shape} {e : EltTy} (h : sp = .vmem) (m : Memref sig .tc sp s e) (q) (x : s.Idx → Elt F e) :
    (owns (c : Thread nD τ) m q x : sProp 𝕄) = owns (c : Thread nD τ) (inVmem h m) q x := by subst h; rfl

/-- The buffer window `w` is in at point `t`. -/
def stageAt (cfg : Pipeline.Cfg sig Λ₀) (vmem : ∀ w, Space.core (cfg.win w).stageSpace = .vmem) (t : Fin cfg.N) (w : Fin cfg.W) :
    Memref sig .tc .vmem (cfg.win w).block (cfg.win w).elt := inVmem (vmem w) ((cfg.win w).stage (cfg.slots t w))

theorem stageAt_whole (cfg : Pipeline.Cfg sig Λ₀) (vmem : ∀ w, Space.core (cfg.win w).stageSpace = .vmem)
    (whole : ∀ w (s : Fin (cfg.win w).nbuf), ((cfg.win w).stage s).IsWhole) (t : Fin cfg.N) (w : Fin cfg.W) : (stageAt cfg vmem t w).IsWhole :=
  inVmem_whole (vmem w) _ (whole w _)

end Any

/-! ## A product's call -/

/-- A window other than the output `o`, fetched whole and never written. -/
structure Fetched (cfg : Pipeline.Cfg sig Λ₀) (o w : Fin cfg.W) : Prop where
  ne : w ≠ o
  isOut : (cfg.win w).isOut = false
  idle : ∀ i, cfg.idle w i = false
  uncut : ∀ i x, (cfg.win w).clip i x = none

/-- The window a product adds on the way out. -/
structure ExtraWin (F : FTy → Type) [FloatOps F] (cfg : Pipeline.Cfg sig Λ₀) (o : Fin cfg.W) where
  w : Fin cfg.W
  fetched : Fetched cfg o w := by exact ⟨by decide, rfl, fun _ => rfl, fun _ _ => rfl⟩
  r : Reach (cfg.win w).block
  add : Vec F (cfg.win o).block (cfg.win o).elt → Vec F (cfg.win w).block (cfg.win w).elt → Vec F (cfg.win o).block (cfg.win o).elt

/-- Three windows conjoined, or four. -/
def joined {I M : Type} [URA M] (e : Option I) (a b o : I) (Φ : I → sProp M) : sProp M :=
  match e with
  | none => iprop(Φ a ∗ Φ b ∗ Φ o)
  | some e => iprop(Φ a ∗ Φ b ∗ Φ e ∗ Φ o)

theorem joined_eq {I M : Type} [URA M] (e : Option I) (a b o : I) (Φ : I → sProp M) :
    joined e a b o Φ = iprop(Φ a ∗ Φ b ∗ e.elim iprop(emp) Φ ∗ Φ o) := by
  cases e with
  | none =>
    show iprop(Φ a ∗ Φ b ∗ Φ o) = iprop(Φ a ∗ Φ b ∗ emp ∗ Φ o)
    rw [show iprop(emp ∗ Φ o) = Φ o from equiv_iff.mp Idealize.SL.BI.emp_sep]
  | some e => rfl

variable (F) in
/-- A call that computes a product: its windows, how they are read, what its body does, and that its body does so. -/
structure ProductCall (cfg : Pipeline.Cfg sig Λ₀) where
  a : Fin cfg.W
  b : Fin cfg.W
  o : Fin cfg.W
  e : Option (ExtraWin F cfg o)
  ra : Reach (cfg.win a).block
  rb : Reach (cfg.win b).block
  ro : Reach (cfg.win o).block
  h32 : (cfg.win o).elt.bits = 32 := by rfl
  nk : ℕ
  z : Vec F (cfg.win o).block (cfg.win o).elt
  step : Vec F (cfg.win o).block (cfg.win o).elt → Vec F (cfg.win a).block (cfg.win a).elt → Vec F (cfg.win b).block (cfg.win b).elt
    → Vec F (cfg.win o).block (cfg.win o).elt
  first : cfg.grid.Coords → BitVec 1
  last : cfg.grid.Coords → BitVec 1
  scratch : Memref sig .tc .vmem (cfg.win o).block (cfg.win o).elt
  scratch_whole : scratch.IsWhole := by exact Memref.isWhole_whole _
  others : Dev nD → sProp 𝕄
  rest : ∀ c, (Pipeline.scopedRest cfg.spec c : sProp 𝕄) = iprop((∃ u, owns (c : Thread nD τ) scratch fullShare u) ∗ others c)
  windows : ∀ Φ : Fin cfg.W → sProp 𝕄, bigSep Finset.univ Φ = joined (e.map (·.w)) a b o Φ
  fetched_a : Fetched cfg o a := by exact ⟨by decide, rfl, fun _ => rfl, fun _ _ => rfl⟩
  fetched_b : Fetched cfg o b := by exact ⟨by decide, rfl, fun _ => rfl, fun _ _ => rfl⟩
  idle : ∀ i, cfg.idle o i = !(last i == 1#1) := by exact fun _ => rfl
  vmem : ∀ w, Space.core (cfg.win w).stageSpace = .vmem := by decide
  whole : ∀ w (s : Fin (cfg.win w).nbuf), ((cfg.win w).stage s).IsWhole
  first_iff : ∀ t : Fin cfg.N, first (cfg.grid.coords t) = 1#1 ↔ t.val % nk = 0
  flushed : ∀ t : Fin cfg.N, (cfg.win o).flush t = true → last (cfg.grid.coords t) = 1#1
  body : ∀ (t : Fin cfg.N) (x : (w : Fin cfg.W) → (cfg.win w).block.Idx → Elt F (cfg.win w).elt),
    defs₀ (F := F) .tc cfg.body (cfg.bodyArgs t (cfg.slots t))
      = productBody (first (cfg.grid.coords t)) (last (cfg.grid.coords t)) z step ra rb ro h32 (stageAt cfg vmem t a) (stageAt cfg vmem t b)
          (e.map fun e => ⟨_, _, e.r, stageAt cfg vmem t e.w, stageAt_whole cfg vmem whole t e.w, x e.w, e.add⟩) (stageAt cfg vmem t o) scratch

namespace ProductCall

variable {cfg : Pipeline.Cfg sig Λ₀} (C : ProductCall F cfg) (V : Contents F) (c : Dev nD)

/-- The addend at point `t`. -/
def addend (t : Fin cfg.N) : Option (Addend F (cfg.win C.o).block (cfg.win C.o).elt) :=
  C.e.map fun e => ⟨_, _, e.r, stageAt cfg C.vmem t e.w, stageAt_whole cfg C.vmem C.whole t e.w, staged V c cfg e.w t, e.add⟩

/-- The accumulator after point `n`. -/
def acc : (n : ℕ) → n < cfg.N → Vec F (cfg.win C.o).block (cfg.win C.o).elt :=
  accAt C.nk C.z fun n h u => C.step u (staged V c cfg C.a ⟨n, h⟩) (staged V c cfg C.b ⟨n, h⟩)

/-- What the windows hold after each point: the inputs their blocks, the output the accumulator with the addend. -/
def after : (w : Fin cfg.W) → Fin cfg.N → (cfg.win w).block.Idx → Elt F (cfg.win w).elt :=
  Function.update (fun w => staged V c cfg w) C.o fun t => withAddend (C.addend V c t) (C.acc V c t.val t.isLt)

theorem after_in (w : Fin cfg.W) (h : w ≠ C.o) : C.after V c w = staged V c cfg w := Function.update_of_ne h _ _
theorem after_out (t : Fin cfg.N) : C.after V c C.o t = withAddend (C.addend V c t) (C.acc V c t.val t.isLt) := by
  unfold after; rw [Function.update_self]

/-- Between points: before the first the scoped buffers as found, later the accumulator at what the point before left. -/
def carried : (n : ℕ) → n ≤ cfg.N → sProp 𝕄
  | 0, _ => Pipeline.scopedRest cfg.spec c
  | n + 1, hn => iprop(owns (c : Thread nD τ) C.scratch fullShare (C.acc V c n hn) ∗ C.others c)

theorem carried_open (n : ℕ) (h : n ≤ cfg.N) :
    C.carried V c n h
      ⊢ iprop(∃ u, ⌜∀ h' : n - 1 < cfg.N, n ≠ 0 → u = C.acc V c (n - 1) h'⌝ ∗ owns (c : Thread nD τ) C.scratch fullShare u ∗ C.others c) := by
  cases n with
  | zero =>
    rw [show C.carried V c 0 h = Pipeline.scopedRest cfg.spec c from rfl, C.rest]
    iintro ⟨⟨%u, Hs⟩, Hr⟩
    iexists u
    isplitr; · ipureintro; exact fun _ hz => absurd rfl hz
    isplitl [Hs]; · iexact Hs
    iexact Hr
  | succ n =>
    rw [show C.carried V c (n + 1) h = iprop(owns (c : Thread nD τ) C.scratch fullShare (C.acc V c n h) ∗ C.others c) from rfl]
    iintro ⟨Hs, Hr⟩
    iexists (C.acc V c n h)
    isplitr; · ipureintro; exact fun _ _ => rfl
    isplitl [Hs]; · iexact Hs
    iexact Hr

/-- Forgetting what the accumulator holds. -/
theorem carried_any (n : ℕ) (h : n ≤ cfg.N) : C.carried V c n h ⊢ Pipeline.scopedRest cfg.spec c := by
  refine (C.carried_open V c n h).trans ?_
  rw [C.rest]
  iintro ⟨%u, -, Hs, Hr⟩
  isplitl [Hs]; · iexists u; iexact Hs
  iexact Hr

/-- The call's proof data. -/
def dat : Dat τ (Elt F) Unit ℕ (UR sig nD τ) ℕ cfg c := callDat V c cfg (C.after V c) (C.carried V c)

theorem before_in (w : Fin cfg.W) (h : Fetched cfg C.o w) (t : Fin cfg.N) (d) : (C.dat V c).before w t d = staged V c cfg w t :=
  before_staged V c _ _ w h.isOut h.idle h.uncut (C.after_in V c w h.ne) t d

theorem leaves_in (w : Fin cfg.W) (h : Fetched cfg C.o w) (t : Fin cfg.N) :
    (C.dat V c).leavesExact w t = owns (c : Thread nD τ) (stageAt cfg C.vmem t w) fullShare (staged V c cfg w t) := by
  rw [← C.after_in V c w h.ne]; exact (leaves_live V c _ _ w t (h.idle _)).trans (inVmem_owns c _ _ _ _)

theorem leaves_last (t : Fin cfg.N) (h : C.last (cfg.grid.coords t) = 1#1) :
    (C.dat V c).leavesExact C.o t = owns (c : Thread nD τ) (stageAt cfg C.vmem t C.o) fullShare (withAddend (C.addend V c t) (C.acc V c t.val t.isLt)) := by
  rw [← C.after_out V c t]; exact (leaves_live V c _ _ C.o t (by rw [C.idle, h]; rfl)).trans (inVmem_owns c _ _ _ _)

theorem leaves_other (t : Fin cfg.N) (h : ¬C.last (cfg.grid.coords t) = 1#1) :
    (C.dat V c).leavesExact C.o t = iprop(∃ d, owns (c : Thread nD τ) (stageAt cfg C.vmem t C.o) fullShare ((C.dat V c).before C.o t d)) :=
  (Dat.leavesExact_idle _ C.o t (by rw [C.idle]; simp [h]) (Bool.eq_false_iff.mpr fun e => h (C.flushed t e))).trans
    (congrArg _ (funext fun d => inVmem_owns c _ _ _ _))

/-- The addend's window before and after the body. -/
theorem addend_window (t : Fin cfg.N) (Φ : Fin cfg.W → sProp 𝕄)
    (h : ∀ w, Fetched cfg C.o w → Φ w = owns (c : Thread nD τ) (stageAt cfg C.vmem t w) fullShare (staged V c cfg w t)) :
    (C.e.map (·.w)).elim iprop(emp) Φ = addendHeld c (C.addend V c t) := by
  unfold addend
  cases he : C.e with
  | none => rfl
  | some e => exact h e.w e.fetched

theorem addend_before (t : Fin cfg.N) (Φ : Fin cfg.W → sProp 𝕄)
    (h : ∀ w, Fetched cfg C.o w → Φ w ⊢ owns (c : Thread nD τ) (stageAt cfg C.vmem t w) fullShare (staged V c cfg w t)) :
    (C.e.map (·.w)).elim iprop(emp) Φ ⊢ addendHeld c (C.addend V c t) := by
  unfold addend
  cases he : C.e with
  | none => exact .rfl
  | some e => exact h e.w e.fetched

theorem held_before (t : Fin cfg.N) (w : Fin cfg.W) (h : Fetched cfg C.o w) :
    (iprop(∃ d, owns (c : Thread nD τ) ((cfg.win w).stage (cfg.slots t w)) fullShare ((C.dat V c).before w t d)) : sProp 𝕄)
      ⊢ owns (c : Thread nD τ) (stageAt cfg C.vmem t w) fullShare (staged V c cfg w t) := by
  simp only [C.before_in V c w h t, inVmem_owns c (C.vmem w)]
  iintro ⟨%d, H⟩
  iexact H

set_option maxHeartbeats 4000000 in
/-- The body at a point. -/
theorem point (t : Fin cfg.N) :
    iprop((C.dat V c).Φ t.castSucc ∗ (C.dat V c).owesAt () t.castSucc
        ∗ bigSep Finset.univ fun w : Fin cfg.W => iprop(∃ d, owns (c : Thread nD τ) ((cfg.win w).stage (cfg.slots t w)) fullShare ((C.dat V c).before w t d)))
      ⊢ wp frame (wpE (defs₀ (F := F)) Variants.none c none) Set.univ (defs₀ .tc cfg.body (cfg.bodyArgs t (cfg.slots t))) fun _ =>
        iprop((C.dat V c).Φ t.succ ∗ (C.dat V c).owesAt () t.succ ∗ bigSep Finset.univ fun w : Fin cfg.W => (C.dat V c).leavesExact w t) := by
  rw [C.windows, C.windows, joined_eq, joined_eq, C.body t (fun w => staged V c cfg w t)]
  rw [addend_window C V c t (fun w => (C.dat V c).leavesExact w t) (fun w h => C.leaves_in V c w h t), C.leaves_in V c C.a C.fetched_a t, C.leaves_in V c C.b C.fetched_b t]
  rw [show (C.dat V c).owesAt () t.succ = (C.dat V c).owesAt () t.castSucc from rfl,
    show (C.dat V c).Φ t.succ = iprop(owns (c : Thread nD τ) C.scratch fullShare (C.acc V c t.val t.isLt) ∗ C.others c) from rfl,
    show (C.dat V c).Φ t.castSucc = C.carried V c t.val (Nat.le_of_lt t.isLt) from rfl]
  refine (BIClass.sep_mono (C.carried_open V c t.val _) (BIClass.sep_mono .rfl (BIClass.sep_mono (C.held_before V c t C.a C.fetched_a)
    (BIClass.sep_mono (C.held_before V c t C.b C.fetched_b) (BIClass.sep_mono (C.addend_before V c t _ fun w h => C.held_before V c t w h)
      (Entails.of_eq (congrArg _ (funext fun d => inVmem_owns c (C.vmem C.o) _ _ _)))))))).trans ?_
  iintro ⟨⟨%u, %hu, Hs, Hr⟩, Ho, H0, H1, He, ⟨%d2, H2⟩⟩
  have hstep : C.acc V c t.val t.isLt
      = C.step (if C.first (cfg.grid.coords t) = 1#1 then C.z else u) (staged V c cfg C.a t) (staged V c cfg C.b t) := by
    unfold acc; rw [accAt_eq C.nk C.z _ t.val t.isLt u hu]; simp only [C.first_iff]
  iapply (product_run c _ _ C.z C.step C.ra C.rb C.ro C.h32 _ (stageAt_whole cfg C.vmem C.whole t _) _ (stageAt_whole cfg C.vmem C.whole t _) (C.addend V c t) _ (stageAt_whole cfg C.vmem C.whole t _) C.scratch C.scratch_whole
    (staged V c cfg C.a t) (staged V c cfg C.b t) ((C.dat V c).before C.o t d2) u Set.univ _)
  isplitl [H0]; · iexact H0
  isplitl [H1]; · iexact H1
  isplitl [He]; · iexact He
  isplitl [H2]; · iexact H2
  isplitl [Hs]; · iexact Hs
  rw [← hstep]
  iintro ⟨H0, H1, He, H2, Hs⟩
  isplitl [Hs Hr]
  · isplitl [Hs]; · iexact Hs
    iexact Hr
  isplitl [Ho]; · iexact Ho
  isplitl [H0]; · iexact H0
  isplitl [H1]; · iexact H1
  isplitl [He]; · iexact He
  by_cases hl : C.last (cfg.grid.coords t) = 1#1
  · rw [C.leaves_last V c t hl, if_pos hl]; iexact H2
  · rw [C.leaves_other V c t hl, if_neg hl]; iexists d2; iexact H2

/-- The body meets its obligation at every point. -/
theorem obligation : BodyObligation (C.dat V c) (defs₀ (F := F)) Variants.none () Set.univ := fun t =>
  triple_restated (C.point V c t) rfl .rfl fun _ => .rfl

end ProductCall

end Cert.Ffn

end
-- ==== Proof.Ffn.Products.lean ====
/- The nine products of the feed-forward sublayer, each said to be such a call: its windows and tiles, and why its body is
   a product's. -/
module

public import proofs.«01_k».proof.Proof.Ffn.Call

@[expose] public section

set_option maxRecDepth 65536
set_option maxHeartbeats 4000000

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI

variable {F : FTy → Type} [FloatOps F]

/-- The gate's product `h2 · wg`, in one tile of the summed axis. -/
def gate : ProductCall F cfg0 where
  a := (0 : Fin 3)
  b := (1 : Fin 3)
  o := (2 : Fin 3)
  e := none
  ra := ⟨![0, 0], inb_S1024x1024_S1024x1024_0_0, h_S1024x1024⟩
  rb := ⟨![0, 0], inb_S1024x1408_S1024x1408_0_0, h_S1024x1408⟩
  ro := ⟨![0, 0], inb_S1024x1408_S1024x1408_0_0, h_S1024x1408⟩
  nk := 1
  z := k0_pay1
  step := k0_pay2
  first i := tileIs 0 (i 2).val
  last := k0_cond2
  scratch := Memref.whole cc0_scratch0
  others c := Pipeline.scopedRestBut spec0 c [cc0_scratch0]
  rest c := by simp only [owns_whole]; exact scopedRest0_split c
  windows := bigSep_W0
  whole := stage_whole0
  first_iff t := tileIs_iff (Pipeline.Grid.coords_val t 2 (by decide) rfl) (by decide) ((grid0.coords t 2).isLt.trans (by decide))
  flushed t _ := (tileIs_iff (Pipeline.Grid.coords_val t 2 (by decide) rfl) (by decide) ((grid0.coords t 2).isLt.trans (by decide))).mpr (Nat.mod_one t.val)
  body t x := by
    rw [show defs₀ (F := F) .tc cfg0.body (cfg0.bodyArgs t (cfg0.slots t)) = bodyAt0 t from by unfold defs₀; rw [Defs.onTc_tc]]
    unfold bodyAt0; rw [cc0_l0_ffn_g_eq_skeleton]; rfl

/-- The up product `h2 · wu`, likewise. -/
def up : ProductCall F cfg1 where
  a := (0 : Fin 3)
  b := (1 : Fin 3)
  o := (2 : Fin 3)
  e := none
  ra := ⟨![0, 0], inb_S1024x1024_S1024x1024_0_0, h_S1024x1024⟩
  rb := ⟨![0, 0], inb_S1024x1408_S1024x1408_0_0, h_S1024x1408⟩
  ro := ⟨![0, 0], inb_S1024x1408_S1024x1408_0_0, h_S1024x1408⟩
  nk := 1
  z := k1_pay1
  step := k1_pay2
  first i := tileIs 0 (i 2).val
  last := k1_cond2
  scratch := Memref.whole cc1_scratch0
  others c := Pipeline.scopedRestBut spec1 c [cc1_scratch0]
  rest c := by simp only [owns_whole]; exact scopedRest1_split c
  windows := bigSep_W1
  whole := stage_whole1
  first_iff t := tileIs_iff (Pipeline.Grid.coords_val t 2 (by decide) rfl) (by decide) ((grid1.coords t 2).isLt.trans (by decide))
  flushed t _ := (tileIs_iff (Pipeline.Grid.coords_val t 2 (by decide) rfl) (by decide) ((grid1.coords t 2).isLt.trans (by decide))).mpr (Nat.mod_one t.val)
  body t x := by
    rw [show defs₀ (F := F) .tc cfg1.body (cfg1.bodyArgs t (cfg1.slots t)) = bodyAt1 t from by unfold defs₀; rw [Defs.onTc_tc]]
    unfold bodyAt1; rw [cc1_l0_ffn_u_eq_skeleton]; rfl

/-- The down product `act · wd`, in eleven tiles of the summed axis, with `x1` added on the way out. -/
def down : ProductCall F cfg3 where
  a := (0 : Fin 4)
  b := (1 : Fin 4)
  o := (3 : Fin 4)
  e := some { w := (2 : Fin 4), r := ⟨![0, 0], inb_S1024x1024_S1024x1024_0_0, h_S1024x1024⟩, add := k3_pay3 }
  ra := ⟨![0, 0], inb_S1024x256_S1024x256_0_0, h_S1024x256⟩
  rb := ⟨![0, 0], inb_S256x1024_S256x1024_0_0, h_S256x1024⟩
  ro := ⟨![0, 0], inb_S1024x1024_S1024x1024_0_0, h_S1024x1024⟩
  nk := 11
  z := k3_pay1
  step := k3_pay2
  first i := tileIs 0 (i 2).val
  last := k3_cond2
  scratch := Memref.whole cc3_scratch0
  others c := Pipeline.scopedRestBut spec3 c [cc3_scratch0]
  rest c := by simp only [owns_whole]; exact scopedRest3_split c
  windows := bigSep_W3
  whole := stage_whole3
  first_iff t := tileIs_iff (Pipeline.Grid.coords_val t 2 (by decide) rfl) (by decide) ((grid3.coords t 2).isLt.trans (by decide))
  flushed t h := (tileIs_iff (Pipeline.Grid.coords_val t 2 (by decide) rfl) (by decide) ((grid3.coords t 2).isLt.trans (by decide))).mpr ((flush3_3 t).mp h)
  body t x := by
    rw [show defs₀ (F := F) .tc cfg3.body (cfg3.bodyArgs t (cfg3.slots t)) = bodyAt3 t from by unfold defs₀; rw [Defs.onTc_tc]]
    unfold bodyAt3; rw [cc3_l0_ffn_down_eq_skeleton]; rfl

/-- The activation's cotangent `dx2 · wdᵀ`, in one tile. -/
def dAct : ProductCall F cfg4 where
  a := (0 : Fin 3)
  b := (1 : Fin 3)
  o := (2 : Fin 3)
  e := none
  ra := ⟨![0, 0], inb_S1024x1024_S1024x1024_0_0, h_S1024x1024⟩
  rb := ⟨![0, 0], inb_S1408x1024_S1408x1024_0_0, h_S1408x1024⟩
  ro := ⟨![0, 0], inb_S1024x1408_S1024x1408_0_0, h_S1024x1408⟩
  nk := 1
  z := k4_pay1
  step := k4_pay2
  first i := tileIs 0 (i 2).val
  last := k4_cond2
  scratch := Memref.whole cc4_scratch0
  others c := Pipeline.scopedRestBut spec4 c [cc4_scratch0]
  rest c := by simp only [owns_whole]; exact scopedRest4_split c
  windows := bigSep_W4
  whole := stage_whole4
  first_iff t := tileIs_iff (Pipeline.Grid.coords_val t 2 (by decide) rfl) (by decide) ((grid4.coords t 2).isLt.trans (by decide))
  flushed t _ := (tileIs_iff (Pipeline.Grid.coords_val t 2 (by decide) rfl) (by decide) ((grid4.coords t 2).isLt.trans (by decide))).mpr (Nat.mod_one t.val)
  body t x := by
    rw [show defs₀ (F := F) .tc cfg4.body (cfg4.bodyArgs t (cfg4.slots t)) = bodyAt4 t from by unfold defs₀; rw [Defs.onTc_tc]]
    unfold bodyAt4; rw [cc4_l0_d_act_eq_skeleton]; rfl

/-- The down weight's gradient `actᵀ · dx2`, in eight tiles. -/
def dDown : ProductCall F cfg5 where
  a := (0 : Fin 3)
  b := (1 : Fin 3)
  o := (2 : Fin 3)
  e := none
  ra := ⟨![0, 0], inb_S1024x1408_S1024x1408_0_0, h_S1024x1408⟩
  rb := ⟨![0, 0], inb_S1024x1024_S1024x1024_0_0, h_S1024x1024⟩
  ro := ⟨![0, 0], inb_S1408x1024_S1408x1024_0_0, h_S1408x1024⟩
  nk := 8
  z := k5_pay1
  step := k5_pay2
  first i := tileIs 0 (i 2).val
  last := k5_cond2
  scratch := Memref.whole cc5_scratch0
  others c := Pipeline.scopedRestBut spec5 c [cc5_scratch0]
  rest c := by simp only [owns_whole]; exact scopedRest5_split c
  windows := bigSep_W5
  whole := stage_whole5
  first_iff t := tileIs_iff (Pipeline.Grid.coords_val t 2 (by decide) rfl) (by decide) ((grid5.coords t 2).isLt.trans (by decide))
  flushed t h := (tileIs_iff (Pipeline.Grid.coords_val t 2 (by decide) rfl) (by decide) ((grid5.coords t 2).isLt.trans (by decide))).mpr ((flush5_2 t).mp h)
  body t x := by
    rw [show defs₀ (F := F) .tc cfg5.body (cfg5.bodyArgs t (cfg5.slots t)) = bodyAt5 t from by unfold defs₀; rw [Defs.onTc_tc]]
    unfold bodyAt5; rw [cc5_l0_dw_ffn_down_eq_skeleton]; rfl

/-- The gate's share of the input's gradient, `dgate · wgᵀ`, in eleven tiles. -/
def dInGate : ProductCall F cfg7 where
  a := (0 : Fin 3)
  b := (1 : Fin 3)
  o := (2 : Fin 3)
  e := none
  ra := ⟨![0, 0], inb_S1024x256_S1024x256_0_0, h_S1024x256⟩
  rb := ⟨![0, 0], inb_S1024x256_S1024x256_0_0, h_S1024x256⟩
  ro := ⟨![0, 0], inb_S1024x1024_S1024x1024_0_0, h_S1024x1024⟩
  nk := 11
  z := k7_pay1
  step := k7_pay2
  first i := tileIs 0 (i 2).val
  last := k7_cond2
  scratch := Memref.whole cc7_scratch0
  others c := Pipeline.scopedRestBut spec7 c [cc7_scratch0]
  rest c := by simp only [owns_whole]; exact scopedRest7_split c
  windows := bigSep_W7
  whole := stage_whole7
  first_iff t := tileIs_iff (Pipeline.Grid.coords_val t 2 (by decide) rfl) (by decide) ((grid7.coords t 2).isLt.trans (by decide))
  flushed t h := (tileIs_iff (Pipeline.Grid.coords_val t 2 (by decide) rfl) (by decide) ((grid7.coords t 2).isLt.trans (by decide))).mpr ((flush7_2 t).mp h)
  body t x := by
    rw [show defs₀ (F := F) .tc cfg7.body (cfg7.bodyArgs t (cfg7.slots t)) = bodyAt7 t from by unfold defs₀; rw [Defs.onTc_tc]]
    unfold bodyAt7; rw [cc7_l0_d_h2_g_eq_skeleton]; rfl

/-- The input's gradient: `dup · wuᵀ` with the gate's share added on the way out. -/
def dIn : ProductCall F cfg8 where
  a := (0 : Fin 4)
  b := (1 : Fin 4)
  o := (3 : Fin 4)
  e := some { w := (2 : Fin 4), r := ⟨![0, 0], inb_S1024x1024_S1024x1024_0_0, h_S1024x1024⟩, add := k8_pay3 }
  ra := ⟨![0, 0], inb_S1024x256_S1024x256_0_0, h_S1024x256⟩
  rb := ⟨![0, 0], inb_S1024x256_S1024x256_0_0, h_S1024x256⟩
  ro := ⟨![0, 0], inb_S1024x1024_S1024x1024_0_0, h_S1024x1024⟩
  nk := 11
  z := k8_pay1
  step := k8_pay2
  first i := tileIs 0 (i 2).val
  last := k8_cond2
  scratch := Memref.whole cc8_scratch0
  others c := Pipeline.scopedRestBut spec8 c [cc8_scratch0]
  rest c := by simp only [owns_whole]; exact scopedRest8_split c
  windows := bigSep_W8
  whole := stage_whole8
  first_iff t := tileIs_iff (Pipeline.Grid.coords_val t 2 (by decide) rfl) (by decide) ((grid8.coords t 2).isLt.trans (by decide))
  flushed t h := (tileIs_iff (Pipeline.Grid.coords_val t 2 (by decide) rfl) (by decide) ((grid8.coords t 2).isLt.trans (by decide))).mpr ((flush8_3 t).mp h)
  body t x := by
    rw [show defs₀ (F := F) .tc cfg8.body (cfg8.bodyArgs t (cfg8.slots t)) = bodyAt8 t from by unfold defs₀; rw [Defs.onTc_tc]]
    unfold bodyAt8; rw [cc8_l0_d_h2_u_eq_skeleton]; rfl

/-- The gate weight's gradient `h2ᵀ · dgate`, in eight tiles. -/
def dGate : ProductCall F cfg9 where
  a := (0 : Fin 3)
  b := (1 : Fin 3)
  o := (2 : Fin 3)
  e := none
  ra := ⟨![0, 0], inb_S1024x1024_S1024x1024_0_0, h_S1024x1024⟩
  rb := ⟨![0, 0], inb_S1024x1408_S1024x1408_0_0, h_S1024x1408⟩
  ro := ⟨![0, 0], inb_S1024x1408_S1024x1408_0_0, h_S1024x1408⟩
  nk := 8
  z := k9_pay1
  step := k9_pay2
  first i := tileIs 0 (i 2).val
  last := k9_cond2
  scratch := Memref.whole cc9_scratch0
  others c := Pipeline.scopedRestBut spec9 c [cc9_scratch0]
  rest c := by simp only [owns_whole]; exact scopedRest9_split c
  windows := bigSep_W9
  whole := stage_whole9
  first_iff t := tileIs_iff (Pipeline.Grid.coords_val t 2 (by decide) rfl) (by decide) ((grid9.coords t 2).isLt.trans (by decide))
  flushed t h := (tileIs_iff (Pipeline.Grid.coords_val t 2 (by decide) rfl) (by decide) ((grid9.coords t 2).isLt.trans (by decide))).mpr ((flush9_2 t).mp h)
  body t x := by
    rw [show defs₀ (F := F) .tc cfg9.body (cfg9.bodyArgs t (cfg9.slots t)) = bodyAt9 t from by unfold defs₀; rw [Defs.onTc_tc]]
    unfold bodyAt9; rw [cc9_l0_dw_ffn_g_eq_skeleton]; rfl

/-- The up weight's gradient `h2ᵀ · dup`, likewise. -/
def dUp : ProductCall F cfg10 where
  a := (0 : Fin 3)
  b := (1 : Fin 3)
  o := (2 : Fin 3)
  e := none
  ra := ⟨![0, 0], inb_S1024x1024_S1024x1024_0_0, h_S1024x1024⟩
  rb := ⟨![0, 0], inb_S1024x1408_S1024x1408_0_0, h_S1024x1408⟩
  ro := ⟨![0, 0], inb_S1024x1408_S1024x1408_0_0, h_S1024x1408⟩
  nk := 8
  z := k10_pay1
  step := k10_pay2
  first i := tileIs 0 (i 2).val
  last := k10_cond2
  scratch := Memref.whole cc10_scratch0
  others c := Pipeline.scopedRestBut spec10 c [cc10_scratch0]
  rest c := by simp only [owns_whole]; exact scopedRest10_split c
  windows := bigSep_W10
  whole := stage_whole10
  first_iff t := tileIs_iff (Pipeline.Grid.coords_val t 2 (by decide) rfl) (by decide) ((grid10.coords t 2).isLt.trans (by decide))
  flushed t h := (tileIs_iff (Pipeline.Grid.coords_val t 2 (by decide) rfl) (by decide) ((grid10.coords t 2).isLt.trans (by decide))).mpr ((flush10_2 t).mp h)
  body t x := by
    rw [show defs₀ (F := F) .tc cfg10.body (cfg10.bodyArgs t (cfg10.slots t)) = bodyAt10 t from by unfold defs₀; rw [Defs.onTc_tc]]
    unfold bodyAt10; rw [cc10_l0_dw_ffn_u_eq_skeleton]; rfl

end Cert.Ffn

end
-- ==== Proof.Ffn.Projection.lean ====
/- The three products of the layer's first projection, each said to be such a call. -/
module

public import proofs.«01_k».proof.Proof.Ffn.Call

@[expose] public section

set_option maxRecDepth 65536
set_option maxHeartbeats 4000000

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI

variable {F : FTy → Type} [FloatOps F]

/-- The projection `h · w_in`, in one tile of the summed axis. -/
def proj : ProductCall F cfg11 where
  a := (0 : Fin 3)
  b := (1 : Fin 3)
  o := (2 : Fin 3)
  e := none
  ra := ⟨![0, 0], inb_S1024x1024_S1024x1024_0_0, h_S1024x1024⟩
  rb := ⟨![0, 0], inb_S1024x1024_S1024x1024_0_0, h_S1024x1024⟩
  ro := ⟨![0, 0], inb_S1024x1024_S1024x1024_0_0, h_S1024x1024⟩
  nk := 1
  z := k11_pay1
  step := k11_pay2
  first i := tileIs 0 (i 2).val
  last := k11_cond2
  scratch := Memref.whole cc11_scratch0
  others c := Pipeline.scopedRestBut spec11 c [cc11_scratch0]
  rest c := by simp only [owns_whole]; exact scopedRest11_split c
  windows := bigSep_W11
  whole := stage_whole11
  first_iff t := tileIs_iff (Pipeline.Grid.coords_val t 2 (by decide) rfl) (by decide) ((grid11.coords t 2).isLt.trans (by decide))
  flushed t _ := (tileIs_iff (Pipeline.Grid.coords_val t 2 (by decide) rfl) (by decide) ((grid11.coords t 2).isLt.trans (by decide))).mpr (Nat.mod_one t.val)
  body t x := by
    rw [show defs₀ (F := F) .tc cfg11.body (cfg11.bodyArgs t (cfg11.slots t)) = bodyAt11 t from by unfold defs₀; rw [Defs.onTc_tc]]
    unfold bodyAt11; rw [cc11_l0_in_proj_eq_skeleton]; rfl

/-- The gradient of its input `dz · w_inᵀ`, in eight tiles. -/
def dProjIn : ProductCall F cfg12 where
  a := (0 : Fin 3)
  b := (1 : Fin 3)
  o := (2 : Fin 3)
  e := none
  ra := ⟨![0, 0], inb_S1024x1024_S1024x1024_0_0, h_S1024x1024⟩
  rb := ⟨![0, 0], inb_S1024x1024_S1024x1024_0_0, h_S1024x1024⟩
  ro := ⟨![0, 0], inb_S1024x1024_S1024x1024_0_0, h_S1024x1024⟩
  nk := 8
  z := k12_pay1
  step := k12_pay2
  first i := tileIs 0 (i 2).val
  last := k12_cond2
  scratch := Memref.whole cc12_scratch0
  others c := Pipeline.scopedRestBut spec12 c [cc12_scratch0]
  rest c := by simp only [owns_whole]; exact scopedRest12_split c
  windows := bigSep_W12
  whole := stage_whole12
  first_iff t := tileIs_iff (Pipeline.Grid.coords_val t 2 (by decide) rfl) (by decide) ((grid12.coords t 2).isLt.trans (by decide))
  flushed t h := (tileIs_iff (Pipeline.Grid.coords_val t 2 (by decide) rfl) (by decide) ((grid12.coords t 2).isLt.trans (by decide))).mpr ((flush12_2 t).mp h)
  body t x := by
    rw [show defs₀ (F := F) .tc cfg12.body (cfg12.bodyArgs t (cfg12.slots t)) = bodyAt12 t from by unfold defs₀; rw [Defs.onTc_tc]]
    unfold bodyAt12; rw [cc12_l0_d_h_eq_skeleton]; rfl

/-- The gradient of its weight `hᵀ · dz`, in eight tiles. -/
def dProjWeight : ProductCall F cfg13 where
  a := (0 : Fin 3)
  b := (1 : Fin 3)
  o := (2 : Fin 3)
  e := none
  ra := ⟨![0, 0], inb_S1024x1024_S1024x1024_0_0, h_S1024x1024⟩
  rb := ⟨![0, 0], inb_S1024x1024_S1024x1024_0_0, h_S1024x1024⟩
  ro := ⟨![0, 0], inb_S1024x1024_S1024x1024_0_0, h_S1024x1024⟩
  nk := 8
  z := k13_pay1
  step := k13_pay2
  first i := tileIs 0 (i 2).val
  last := k13_cond2
  scratch := Memref.whole cc13_scratch0
  others c := Pipeline.scopedRestBut spec13 c [cc13_scratch0]
  rest c := by simp only [owns_whole]; exact scopedRest13_split c
  windows := bigSep_W13
  whole := stage_whole13
  first_iff t := tileIs_iff (Pipeline.Grid.coords_val t 2 (by decide) rfl) (by decide) ((grid13.coords t 2).isLt.trans (by decide))
  flushed t h := (tileIs_iff (Pipeline.Grid.coords_val t 2 (by decide) rfl) (by decide) ((grid13.coords t 2).isLt.trans (by decide))).mpr ((flush13_2 t).mp h)
  body t x := by
    rw [show defs₀ (F := F) .tc cfg13.body (cfg13.bodyArgs t (cfg13.slots t)) = bodyAt13 t from by unfold defs₀; rw [Defs.onTc_tc]]
    unfold bodyAt13; rw [cc13_l0_dw_in_eq_skeleton]; rfl

end Cert.Ffn
-- ==== Proof.Ffn.Pointwise.lean ====
/- The two elementwise calls of the feed-forward sublayer: the activation, and its two cotangents. -/
module

public import proofs.«01_k».proof.Proof.Ffn.Call

@[expose] public section

set_option maxRecDepth 65536

noncomputable section

namespace Cert.Ffn

open Cert.Kernel2Ideal Cert.Kernel2Ideal.Gen
open Cert.Attn (load_window load_stored stored_put)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- A tile's extents fit the tile. -/
theorem tile_inb (a : Fin S256x2816.rank) : (![0, 0] : Fin 2 → ℕ) a + S256x2816.size a ≤ S256x2816.size a := inb_S256x2816_S256x2816_0_0 a

/-! ## The bodies -/

set_option maxHeartbeats 4000000 in
/-- The activation's body: the output holds the activation of the two inputs. -/
theorem act_run (c : Dev nD) (i : grid2.Coords) (a b : Memref sig .tc .vmem S256x2816 .f32) (ha : a.IsWhole) (hb : b.IsWhole)
    (o : Memref sig .tc .vmem S256x2816 .bf16) (ho : o.IsWhole) (x y : Vec F S256x2816 .f32) (d : Vec F S256x2816 .bf16) (E : Set ℕ) (K : PUnit → sProp 𝕄) :
    iprop(owns (c : Thread nD τ) a fullShare x ∗ owns (c : Thread nD τ) b fullShare y ∗ owns (c : Thread nD τ) o fullShare d
        ∗ (iprop(owns (c : Thread nD τ) a fullShare x ∗ owns (c : Thread nD τ) b fullShare y ∗ owns (c : Thread nD τ) o fullShare (k2_pay1 x y)) -∗ K ⟨⟩))
      ⊢ wp frame (wpE (defs₀ (F := F)) Variants.none c none) E (cc2_l0_swiglu i a ha b hb o ho) K := by
  rw [cc2_l0_swiglu_eq_skeleton]
  unfold cc2_l0_swiglu_skel owns
  iintro ⟨⟨%f0, %hf0, H0⟩, ⟨%f1, %hf1, H1⟩, ⟨%f2, %hf2, H2⟩, Hk⟩
  obtain rfl := ha.eq_unread hf0; obtain rfl := hb.eq_unread hf1; obtain rfl := ho.eq_unread hf2
  sl_exec
  sl_step
  iapply Hk
  isplitl [H0]
  · iexists _; isplitr; · ipureintro; exact ha.read_unread _
    iexact H0
  isplitl [H1]
  · iexists _; isplitr; · ipureintro; exact hb.read_unread _
    iexact H1
  iexists _; isplitr; swap; iexact H2
  ipureintro
  sl_open_run
  simp only [load_window, load_stored, stored_put, View.writes_nil, put_all tile_inb, Memref.IsWhole.read_unread]
  exact congr (congrArg k2_pay1 (window_all x tile_inb)) (window_all y tile_inb)

set_option maxHeartbeats 4000000 in
/-- The cotangents' body: the outputs hold the two cotangents. -/
theorem dAct_run (c : Dev nD) (i : grid6.Coords) (a b e : Memref sig .tc .vmem S256x2816 .f32) (ha : a.IsWhole) (hb : b.IsWhole) (he : e.IsWhole)
    (o p : Memref sig .tc .vmem S256x2816 .bf16) (ho : o.IsWhole) (hp : p.IsWhole) (x y z : Vec F S256x2816 .f32) (d g : Vec F S256x2816 .bf16)
    (E : Set ℕ) (K : PUnit → sProp 𝕄) :
    iprop(owns (c : Thread nD τ) a fullShare x ∗ owns (c : Thread nD τ) b fullShare y ∗ owns (c : Thread nD τ) e fullShare z
        ∗ owns (c : Thread nD τ) o fullShare d ∗ owns (c : Thread nD τ) p fullShare g
        ∗ (iprop(owns (c : Thread nD τ) a fullShare x ∗ owns (c : Thread nD τ) b fullShare y ∗ owns (c : Thread nD τ) e fullShare z
            ∗ owns (c : Thread nD τ) o fullShare (k6_pay4 x y z) ∗ owns (c : Thread nD τ) p fullShare (k6_pay5 x z)) -∗ K ⟨⟩))
      ⊢ wp frame (wpE (defs₀ (F := F)) Variants.none c none) E (cc6_l0_d_swiglu i a ha b hb e he o ho p hp) K := by
  rw [cc6_l0_d_swiglu_eq_skeleton]
  unfold cc6_l0_d_swiglu_skel owns
  iintro ⟨⟨%f0, %hf0, H0⟩, ⟨%f1, %hf1, H1⟩, ⟨%f2, %hf2, H2⟩, ⟨%f3, %hf3, H3⟩, ⟨%f4, %hf4, H4⟩, Hk⟩
  obtain rfl := ha.eq_unread hf0; obtain rfl := hb.eq_unread hf1; obtain rfl := he.eq_unread hf2
  obtain rfl := ho.eq_unread hf3; obtain rfl := hp.eq_unread hf4
  sl_exec
  sl_step
  iapply Hk
  isplitl [H0]
  · iexists _; isplitr; · ipureintro; exact ha.read_unread _
    iexact H0
  isplitl [H1]
  · iexists _; isplitr; · ipureintro; exact hb.read_unread _
    iexact H1
  isplitl [H2]
  · iexists _; isplitr; · ipureintro; exact he.read_unread _
    iexact H2
  isplitl [H3]
  · iexists _; isplitr; swap; iexact H3
    ipureintro
    sl_open_run
    simp only [load_window, load_stored, stored_put, View.writes_nil, put_all tile_inb, Memref.IsWhole.read_unread]
    exact congr (congr (congrArg k6_pay4 (window_all x tile_inb)) (window_all y tile_inb)) (window_all z tile_inb)
  iexists _; isplitr; swap; iexact H4
  ipureintro
  sl_open_run
  simp only [load_window, load_stored, stored_put, View.writes_nil, put_all tile_inb, Memref.IsWhole.read_unread]
  exact congr (congrArg k6_pay5 (window_all x tile_inb)) (window_all z tile_inb)

/-! ## The calls -/

variable (V : Contents F) (c : Dev nD)

/-- An input of an elementwise call held before the body. -/
theorem found {cfg : Pipeline.Cfg sig Λ₀} (after : (w : Fin cfg.W) → Fin cfg.N → (cfg.win w).block.Idx → Elt F (cfg.win w).elt)
    (Φ : (n : ℕ) → n ≤ cfg.N → sProp 𝕄) (o w : Fin cfg.W) (h : Fetched cfg o w) (hkeep : after w = staged V c cfg w) (t : Fin cfg.N) :
    (iprop(∃ d, owns (c : Thread nD τ) ((cfg.win w).stage (cfg.slots t w)) fullShare ((callDat V c cfg after Φ).before w t d)) : sProp 𝕄)
      ⊢ owns (c : Thread nD τ) ((cfg.win w).stage (cfg.slots t w)) fullShare (staged V c cfg w t) := by
  simp only [before_staged V c after Φ w h.isOut h.idle h.uncut hkeep t]
  iintro ⟨%d, H⟩
  iexact H

/-- The activation's windows after each point. -/
def actAfter : (w : Fin cfg2.W) → Fin cfg2.N → (cfg2.win w).block.Idx → Elt F (cfg2.win w).elt :=
  Function.update (fun w => staged V c cfg2 w) (2 : Fin 3) fun t => k2_pay1 (staged V c cfg2 0 t) (staged V c cfg2 1 t)

/-- The activation's proof data. -/
def actDat : Dat τ (Elt F) Unit ℕ (UR sig nD τ) ℕ cfg2 c := callDat V c cfg2 (actAfter V c) fun _ _ => Pipeline.scopedRest cfg2.spec c

theorem actAfter_in (w : Fin cfg2.W) (h : w ≠ (2 : Fin 3)) : actAfter V c w = staged V c cfg2 w := Function.update_of_ne h _ _
theorem actAfter_out (t : Fin cfg2.N) : actAfter V c (2 : Fin 3) t = k2_pay1 (staged V c cfg2 0 t) (staged V c cfg2 1 t) := by
  unfold actAfter; rw [Function.update_self]

theorem actLeaves (w : Fin cfg2.W) (t : Fin cfg2.N) (h : cfg2.idle w (cfg2.grid.coords t) = false) :
    (actDat V c).leavesExact w t = owns (c : Thread nD τ) ((cfg2.win w).stage (cfg2.slots t w)) fullShare (actAfter V c w t) := leaves_live V c _ _ w t h

set_option maxHeartbeats 4000000 in
theorem actPoint (t : Fin cfg2.N) :
    iprop((actDat V c).Φ t.castSucc ∗ (actDat V c).owesAt () t.castSucc
        ∗ bigSep Finset.univ fun w : Fin cfg2.W => iprop(∃ d, owns (c : Thread nD τ) ((cfg2.win w).stage (cfg2.slots t w)) fullShare ((actDat V c).before w t d)))
      ⊢ wp frame (wpE (defs₀ (F := F)) Variants.none c none) Set.univ (defs₀ .tc cfg2.body (cfg2.bodyArgs t (cfg2.slots t))) fun _ =>
        iprop((actDat V c).Φ t.succ ∗ (actDat V c).owesAt () t.succ ∗ bigSep Finset.univ fun w : Fin cfg2.W => (actDat V c).leavesExact w t) := by
  rw [bigSep_W2, bigSep_W2, show defs₀ (F := F) .tc cfg2.body (cfg2.bodyArgs t (cfg2.slots t)) = bodyAt2 t from by unfold defs₀; rw [Defs.onTc_tc]]
  rw [show (actDat V c).owesAt () t.succ = (actDat V c).owesAt () t.castSucc from rfl, show (actDat V c).Φ t.succ = (actDat V c).Φ t.castSucc from rfl]
  rw [actLeaves V c 0 t rfl, actLeaves V c 1 t rfl, actLeaves V c 2 t rfl, actAfter_in V c 0 (by decide), actAfter_in V c 1 (by decide), actAfter_out]
  refine (BIClass.sep_mono .rfl (BIClass.sep_mono .rfl (BIClass.sep_mono
    (found V c _ _ (2 : Fin 3) (0 : Fin 3) ⟨by decide, rfl, fun _ => rfl, fun _ _ => rfl⟩ (actAfter_in V c 0 (by decide)) t)
    (BIClass.sep_mono (found V c _ _ (2 : Fin 3) (1 : Fin 3) ⟨by decide, rfl, fun _ => rfl, fun _ _ => rfl⟩ (actAfter_in V c 1 (by decide)) t) .rfl)))).trans ?_
  iintro ⟨Hr, Ho, H0, H1, ⟨%d2, H2⟩⟩
  iapply (act_run c (grid2.coords t) _ _ (hstage2_0 ((cfg2.slots t 0).cast nbuf2_0)) (hstage2_1 ((cfg2.slots t 1).cast nbuf2_1)) _
    (hstage2_2 ((cfg2.slots t 2).cast nbuf2_2)) (staged V c cfg2 0 t) (staged V c cfg2 1 t) ((actDat V c).before 2 t d2) Set.univ _)
  isplitl [H0]; · iexact H0
  isplitl [H1]; · iexact H1
  isplitl [H2]; · iexact H2
  iintro ⟨H0, H1, H2⟩
  isplitl [Hr]; · iexact Hr
  isplitl [Ho]; · iexact Ho
  isplitl [H0]; · iexact H0
  isplitl [H1]; · iexact H1
  iexact H2

/-- The activation's body meets its obligation at every point. -/
theorem actObligation : BodyObligation (actDat V c) (defs₀ (F := F)) Variants.none () Set.univ := fun t =>
  triple_restated (actPoint V c t) rfl .rfl fun _ => .rfl

/-- The cotangents' windows after each point. -/
def cotAfter : (w : Fin cfg6.W) → Fin cfg6.N → (cfg6.win w).block.Idx → Elt F (cfg6.win w).elt :=
  Function.update (Function.update (fun w => staged V c cfg6 w)
      (3 : Fin 5) fun t => k6_pay4 (staged V c cfg6 0 t) (staged V c cfg6 1 t) (staged V c cfg6 2 t))
    (4 : Fin 5) fun t => k6_pay5 (staged V c cfg6 0 t) (staged V c cfg6 2 t)

/-- The cotangents' proof data. -/
def cotDat : Dat τ (Elt F) Unit ℕ (UR sig nD τ) ℕ cfg6 c := callDat V c cfg6 (cotAfter V c) fun _ _ => Pipeline.scopedRest cfg6.spec c

theorem cotAfter_in (w : Fin cfg6.W) (h3 : w ≠ (3 : Fin 5)) (h4 : w ≠ (4 : Fin 5)) : cotAfter V c w = staged V c cfg6 w :=
  (Function.update_of_ne h4 _ _).trans (Function.update_of_ne h3 _ _)
theorem cotAfter_gate (t : Fin cfg6.N) :
    cotAfter V c (3 : Fin 5) t = k6_pay4 (staged V c cfg6 0 t) (staged V c cfg6 1 t) (staged V c cfg6 2 t) := by
  unfold cotAfter; rw [Function.update_of_ne (by decide), Function.update_self]
theorem cotAfter_up (t : Fin cfg6.N) : cotAfter V c (4 : Fin 5) t = k6_pay5 (staged V c cfg6 0 t) (staged V c cfg6 2 t) := by
  unfold cotAfter; rw [Function.update_self]

theorem cotLeaves (w : Fin cfg6.W) (t : Fin cfg6.N) (h : cfg6.idle w (cfg6.grid.coords t) = false) :
    (cotDat V c).leavesExact w t = owns (c : Thread nD τ) ((cfg6.win w).stage (cfg6.slots t w)) fullShare (cotAfter V c w t) := leaves_live V c _ _ w t h

set_option maxHeartbeats 4000000 in
theorem cotPoint (t : Fin cfg6.N) :
    iprop((cotDat V c).Φ t.castSucc ∗ (cotDat V c).owesAt () t.castSucc
        ∗ bigSep Finset.univ fun w : Fin cfg6.W => iprop(∃ d, owns (c : Thread nD τ) ((cfg6.win w).stage (cfg6.slots t w)) fullShare ((cotDat V c).before w t d)))
      ⊢ wp frame (wpE (defs₀ (F := F)) Variants.none c none) Set.univ (defs₀ .tc cfg6.body (cfg6.bodyArgs t (cfg6.slots t))) fun _ =>
        iprop((cotDat V c).Φ t.succ ∗ (cotDat V c).owesAt () t.succ ∗ bigSep Finset.univ fun w : Fin cfg6.W => (cotDat V c).leavesExact w t) := by
  rw [bigSep_W6, bigSep_W6, show defs₀ (F := F) .tc cfg6.body (cfg6.bodyArgs t (cfg6.slots t)) = bodyAt6 t from by unfold defs₀; rw [Defs.onTc_tc]]
  rw [show (cotDat V c).owesAt () t.succ = (cotDat V c).owesAt () t.castSucc from rfl, show (cotDat V c).Φ t.succ = (cotDat V c).Φ t.castSucc from rfl]
  rw [cotLeaves V c 0 t rfl, cotLeaves V c 1 t rfl, cotLeaves V c 2 t rfl, cotLeaves V c 3 t rfl, cotLeaves V c 4 t rfl,
    cotAfter_in V c 0 (by decide) (by decide), cotAfter_in V c 1 (by decide) (by decide), cotAfter_in V c 2 (by decide) (by decide),
    cotAfter_gate, cotAfter_up]
  refine (BIClass.sep_mono .rfl (BIClass.sep_mono .rfl (BIClass.sep_mono
    (found V c _ _ (4 : Fin 5) (0 : Fin 5) ⟨by decide, rfl, fun _ => rfl, fun _ _ => rfl⟩ (cotAfter_in V c 0 (by decide) (by decide)) t)
    (BIClass.sep_mono (found V c _ _ (4 : Fin 5) (1 : Fin 5) ⟨by decide, rfl, fun _ => rfl, fun _ _ => rfl⟩ (cotAfter_in V c 1 (by decide) (by decide)) t)
    (BIClass.sep_mono (found V c _ _ (4 : Fin 5) (2 : Fin 5) ⟨by decide, rfl, fun _ => rfl, fun _ _ => rfl⟩ (cotAfter_in V c 2 (by decide) (by decide)) t) .rfl))))).trans ?_
  iintro ⟨Hr, Ho, H0, H1, H2, ⟨%d3, H3⟩, ⟨%d4, H4⟩⟩
  iapply (dAct_run c (grid6.coords t) _ _ _ (hstage6_0 ((cfg6.slots t 0).cast nbuf6_0)) (hstage6_1 ((cfg6.slots t 1).cast nbuf6_1))
    (hstage6_2 ((cfg6.slots t 2).cast nbuf6_2)) _ _ (hstage6_3 ((cfg6.slots t 3).cast nbuf6_3)) (hstage6_4 ((cfg6.slots t 4).cast nbuf6_4))
    (staged V c cfg6 0 t) (staged V c cfg6 1 t) (staged V c cfg6 2 t) ((cotDat V c).before 3 t d3) ((cotDat V c).before 4 t d4) Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [Hr]; · iexact Hr
  isplitl [Ho]; · iexact Ho
  isplitl [H0]; · iexact H0
  isplitl [H1]; · iexact H1
  isplitl [H2]; · iexact H2
  isplitl [H3]; · iexact H3
  iexact H4

/-- The cotangents' body meets its obligation at every point. -/
theorem cotObligation : BodyObligation (cotDat V c) (defs₀ (F := F)) Variants.none () Set.univ := fun t =>
  triple_restated (cotPoint V c t) rfl .rfl fun _ => .rfl

end Cert.Ffn

end
-- ==== Proof.Ffn.Contents.lean ====
/- The buffers' contents between the calls of the feed-forward sublayer and of the first projection: each call changes its own result's buffer, to what it leaves there. -/
module

public import proofs.«01_k».proof.Proof.Ffn.Products
public import proofs.«01_k».proof.Proof.Ffn.Projection
public import proofs.«01_k».proof.Proof.Ffn.Pointwise

@[expose] public section

set_option maxRecDepth 65536

noncomputable section

namespace Cert.Ffn

open Cert.Kernel2Ideal Cert.Kernel2Ideal.Gen
open Idealize.ShloMosaic Idealize.ShloMosaic.TcCoe

variable {F : FTy → Type} [FloatOps F]

/-! ## The buffers' contents, call by call -/

section Put

variable (W : Dev nD → Valuation τ sig (Elt F)) (r : Ref sig .tc) (v : (c : Dev nD) → Buf (Elt F) ((c : Thread nD τ).loc r))

/-- One buffer changed on every core. -/
def put (c : Dev nD) : Valuation τ sig (Elt F) := Function.update (W c) r (v c)

theorem put_self (c : Dev nD) : put W r v c r = v c := by unfold put; rw [Function.update_self]

theorem put_of (c : Dev nD) (b : Ref sig .tc) (h : b ≠ r) : put W r v c b = W c b := by
  unfold put; rw [Function.update_of_ne (StableHlo.devRef_ne_of_ne h)]

/-- The buffers as a call is entered with them. -/
abbrev entered : Contents F := fun c b => W c b

end Put

variable (m : (ℓ : Loc nD τ sig) → Buf (Elt F) ℓ)

/-- At launch. -/
def val0 (c : Dev nD) : Valuation τ sig (Elt F) := fun b => m (c, b)
/-- After the gate's product. -/
def val1 : Dev nD → Valuation τ sig (Elt F) := put (val0 m) main_v0 fun c => (gate.dat (entered (val0 m)) c).arrAt (2 : Fin 3) cfg0.N
/-- After the up product. -/
def val2 : Dev nD → Valuation τ sig (Elt F) := put (val1 m) main_v1 fun c => (up.dat (entered (val1 m)) c).arrAt (2 : Fin 3) cfg1.N
/-- After the activation. -/
def val3 : Dev nD → Valuation τ sig (Elt F) := put (val2 m) main_v2 fun c => (actDat (entered (val2 m)) c).arrAt (2 : Fin 3) cfg2.N
/-- After the down product. -/
def val4 : Dev nD → Valuation τ sig (Elt F) := put (val3 m) main_v3 fun c => (down.dat (entered (val3 m)) c).arrAt (3 : Fin 4) cfg3.N
/-- After the activation's cotangent. -/
def val5 : Dev nD → Valuation τ sig (Elt F) := put (val4 m) main_v4 fun c => (dAct.dat (entered (val4 m)) c).arrAt (2 : Fin 3) cfg4.N
/-- After the down weight's gradient. -/
def val6 : Dev nD → Valuation τ sig (Elt F) := put (val5 m) main_v5 fun c => (dDown.dat (entered (val5 m)) c).arrAt (2 : Fin 3) cfg5.N
/-- After the two cotangents: first the gate's, then the up product's. -/
def val6g : Dev nD → Valuation τ sig (Elt F) := put (val6 m) main_v6_0 fun c => (cotDat (entered (val6 m)) c).arrAt (3 : Fin 5) cfg6.N
def val7 : Dev nD → Valuation τ sig (Elt F) := put (val6g m) main_v6_1 fun c => (cotDat (entered (val6 m)) c).arrAt (4 : Fin 5) cfg6.N
/-- After the gate's share of the input's gradient. -/
def val8 : Dev nD → Valuation τ sig (Elt F) := put (val7 m) main_v7 fun c => (dInGate.dat (entered (val7 m)) c).arrAt (2 : Fin 3) cfg7.N
/-- After the input's gradient. -/
def val9 : Dev nD → Valuation τ sig (Elt F) := put (val8 m) main_v8 fun c => (dIn.dat (entered (val8 m)) c).arrAt (3 : Fin 4) cfg8.N
/-- After the gate weight's gradient. -/
def val10 : Dev nD → Valuation τ sig (Elt F) := put (val9 m) main_v9 fun c => (dGate.dat (entered (val9 m)) c).arrAt (2 : Fin 3) cfg9.N
/-- After the up weight's gradient, the sublayer's last. -/
def val11 : Dev nD → Valuation τ sig (Elt F) := put (val10 m) main_v10 fun c => (dUp.dat (entered (val10 m)) c).arrAt (2 : Fin 3) cfg10.N

/-- After the first projection. -/
def val12 : Dev nD → Valuation τ sig (Elt F) := put (val11 m) main_v11 fun c => (proj.dat (entered (val11 m)) c).arrAt (2 : Fin 3) cfg11.N
/-- After its input's gradient. -/
def val13 : Dev nD → Valuation τ sig (Elt F) := put (val12 m) main_v12 fun c => (dProjIn.dat (entered (val12 m)) c).arrAt (2 : Fin 3) cfg12.N
/-- At the end, after its weight's gradient. -/
def val14 : Dev nD → Valuation τ sig (Elt F) := put (val13 m) main_v13 fun c => (dProjWeight.dat (entered (val13 m)) c).arrAt (2 : Fin 3) cfg13.N

theorem val7_of (c : Dev nD) (b : Ref sig .tc) (h0 : b ≠ main_v6_0) (h1 : b ≠ main_v6_1) : val7 m c b = val6 m c b := by
  rw [val7, put_of _ main_v6_1 _ c b h1, val6g, put_of _ main_v6_0 _ c b h0]
theorem val7_gate (c : Dev nD) : val7 m c main_v6_0 = (cotDat (entered (val6 m)) c).arrAt (3 : Fin 5) cfg6.N := by
  rw [val7, put_of _ main_v6_1 _ c main_v6_0 (by decide), val6g, put_self]
theorem val7_up (c : Dev nD) : val7 m c main_v6_1 = (cotDat (entered (val6 m)) c).arrAt (4 : Fin 5) cfg6.N := by
  rw [val7, put_self]

/-- The forward calls' buffers are not written later, -/
theorem val4_kept (c : Dev nD) (b : Ref sig .tc)
    (h : ∀ r ∈ [main_v4, main_v5, main_v6_0, main_v6_1, main_v7, main_v8, main_v9, main_v10], b ≠ r) : val11 m c b = val4 m c b := by
  rw [val11, put_of _ main_v10 _ c b (h _ (by decide)), val10, put_of _ main_v9 _ c b (h _ (by decide)), val9, put_of _ main_v8 _ c b (h _ (by decide)),
    val8, put_of _ main_v7 _ c b (h _ (by decide)), val7_of m c b (h _ (by decide)) (h _ (by decide)), val6, put_of _ main_v5 _ c b (h _ (by decide)),
    val5, put_of _ main_v4 _ c b (h _ (by decide))]
/-- nor the down weight's gradient, -/
theorem val6_kept (c : Dev nD) (b : Ref sig .tc)
    (h : ∀ r ∈ [main_v6_0, main_v6_1, main_v7, main_v8, main_v9, main_v10], b ≠ r) : val11 m c b = val6 m c b := by
  rw [val11, put_of _ main_v10 _ c b (h _ (by decide)), val10, put_of _ main_v9 _ c b (h _ (by decide)), val9, put_of _ main_v8 _ c b (h _ (by decide)),
    val8, put_of _ main_v7 _ c b (h _ (by decide)), val7_of m c b (h _ (by decide)) (h _ (by decide))]
/-- nor is any argument. -/
theorem val0_kept (c : Dev nD) (b : Ref sig .tc) (h : ∀ r ∈ [main_v0, main_v1, main_v2, main_v3], b ≠ r)
    (h' : ∀ r ∈ [main_v4, main_v5, main_v6_0, main_v6_1, main_v7, main_v8, main_v9, main_v10], b ≠ r) : val11 m c b = val0 m c b := by
  rw [val4_kept m c b h', val4, put_of _ main_v3 _ c b (h _ (by decide)), val3, put_of _ main_v2 _ c b (h _ (by decide)),
    val2, put_of _ main_v1 _ c b (h _ (by decide)), val1, put_of _ main_v0 _ c b (h _ (by decide))]

/-- The projection's calls write their own three results. -/
theorem val14_of (c : Dev nD) (b : Ref sig .tc) (h : ∀ r ∈ [main_v11, main_v12, main_v13], b ≠ r) : val14 m c b = val11 m c b := by
  rw [val14, put_of _ main_v13 _ c b (h _ (by decide)), val13, put_of _ main_v12 _ c b (h _ (by decide)), val12, put_of _ main_v11 _ c b (h _ (by decide))]

/-- What the cotangents' call only reads stays. -/
theorem cot_kept (c : Dev nD) (w : Fin 5) (h : (cfg6.win w).isOut = false) (h0 : Pipeline.arrRef spec6 w ≠ main_v6_0)
    (h1 : Pipeline.arrRef spec6 w ≠ main_v6_1) : (cotDat (entered (val6 m)) c).arrAt w cfg6.N = val7 m c (Pipeline.arrRef spec6 w) := by
  rw [(cotDat (entered (val6 m)) c).arrAt_in w h, val7_of m c _ h0 h1]; rfl

end Cert.Ffn

end
-- ==== Proof.Ffn.Launched.lean ====
/- The second kernel run: the feed-forward sublayer's eleven calls and the first projection's three, one after the other, each result buffer at what its call leaves there. -/
module

public import proofs.«01_k».proof.Proof.Ffn.Contents
public import Idealize.ShloMosaic.Lib.Pipeline.Regions
public import Idealize.ShloMosaic.Lib.Pipeline.RegionArrays
public import Idealize.ShloMosaic.Adequacy

@[expose] public section

set_option maxRecDepth 65536

noncomputable section

namespace Cert.Ffn

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The calls as regions -/

/-- The proof data of the calls. -/
def dats : (p : Fin 14) → (c : Dev nD) → Dat τ (Elt F) Unit ℕ (UR sig nD τ) ℕ (cfgs p) c
  | ⟨0, _⟩ => gate.dat (entered (val0 m))
  | ⟨1, _⟩ => up.dat (entered (val1 m))
  | ⟨2, _⟩ => actDat (entered (val2 m))
  | ⟨3, _⟩ => down.dat (entered (val3 m))
  | ⟨4, _⟩ => dAct.dat (entered (val4 m))
  | ⟨5, _⟩ => dDown.dat (entered (val5 m))
  | ⟨6, _⟩ => cotDat (entered (val6 m))
  | ⟨7, _⟩ => dInGate.dat (entered (val7 m))
  | ⟨8, _⟩ => dIn.dat (entered (val8 m))
  | ⟨9, _⟩ => dGate.dat (entered (val9 m))
  | ⟨10, _⟩ => dUp.dat (entered (val10 m))
  | ⟨11, _⟩ => proj.dat (entered (val11 m))
  | ⟨12, _⟩ => dProjIn.dat (entered (val12 m))
  | ⟨13, _⟩ => dProjWeight.dat (entered (val13 m))
  | ⟨_ + 14, h⟩ => absurd h (Nat.not_lt.2 (Nat.le_add_left _ _))

/-- No core owes another anything. -/
abbrev noCells : GSem nD τ sig → Finset Unit := fun _ => ∅
abbrev noLevel : GSem nD τ sig → Unit → ℕ := fun _ _ => 0

/-- What rides beside the buffers: the core owes nothing. -/
abbrev nothingOwed (c : Dev nD) : sProp 𝕄 := iprop(∃ W, owes (c : Thread nD τ) (0 : CellTallies nD τ sig Unit) W)

/-- The thread state at a valuation of the buffers. -/
abbrev heldAt (W : Dev nD → Valuation τ sig (Elt F)) (c : Dev nD) : sProp 𝕄 :=
  iprop(StableHlo.held (c : Thread nD τ) (Pipeline.ucRefs τ sig) (W c) ∗ nothingOwed c)

set_option backward.isDefEq.respectTransparency.types false in
/-- A call whose invariant is its scoped rest at both ends carries the buffers from one valuation to another. -/
def region {p : Fin 14} (kit : Pipeline.LaunchFacts₀ (nD := nD) (τ := τ) cfgs p)
    (hbody : ∀ c, Pipeline.BodyObligationLoose (dats m p c) (defs₀ (F := F)) Variants.none () Set.univ)
    (howed : ∀ c t, (dats m p c).owed t = 0) (hrec : ∀ c, (dats m p c).recorded 0 = Set.univ)
    (hq : ∀ c w, ((cfgs p).spec w).isOut = false → (dats m p c).q w = Pipeline.shareOf (cfgs p).spec w)
    (hin : ∀ c, Pipeline.scopedRest (cfgs p).spec c ⊢ (dats m p c).Φ 0)
    (hout : ∀ c, (dats m p c).Φ (Fin.last (cfgs p).N) ⊢ Pipeline.scopedRest (cfgs p).spec c)
    (W W' : Dev nD → Valuation τ sig (Elt F))
    (hA : ∀ c w, (dats m p c).A w = W c (Pipeline.arrRef (cfgs p).spec w))
    (hF : ∀ c w, (dats m p c).arrAt w (cfgs p).N = W' c (Pipeline.arrRef (cfgs p).spec w))
    (hrest : ∀ c (b : Ref sig .tc), b ∉ Finset.univ.image (Pipeline.arrRef (cfgs p).spec) → W' c b = W c b) :
    RegionSeg (pcfgs (F := F)) adm (dats m) () defs₀ Variants.none noCells noLevel p where
  win := kit.win
  block_pos := kit.block_pos
  stage_whole := kit.stage_whole
  K := PEmpty
  osem k := k.elim
  ho := Pipeline.OwnSemFacts.none _
  hbody := hbody
  hwaits := Pipeline.hwaits_of_owed_zero _ _ _ _ noCells noLevel p howed
  pre := heldAt W
  post := heldAt W'
  X _ := iprop(emp)
  Y _ := iprop(emp)
  Z c := Pipeline.unscopedRest (cfgs p).spec c (fun b => W c b)
  hentry c := by
    have hsplit := Pipeline.arrays_of_unscopedBufs_shared (pcfgs (F := F)) adm (dats m) kit.win kit.sharedIn kit.arr_whole c (hq c)
      (fun b => W c b) (hA c)
    rw [Pipeline.ownSems0_none, Pipeline.prefHeld_of_none _ rfl]
    unfold heldAt
    rw [← Pipeline.unscopedBufs_held]
    iintro ⟨⟨Hub, HO⟩, -, -⟩
    ihave H := hsplit $$ Hub
    icases H with ⟨Ha, Hr⟩
    imodintro
    isplitl [Ha]; · iexact Ha
    isplitr; · iempintro
    isplitl [HO]
    · unfold Dat.owesAt Pipeline.owesWithin Dat.bound
      rw [howed c 0, hrec c]
      icases HO with ⟨%W, HO⟩; iexists W; isplitr; · ipureintro; exact fun _ _ => Or.inl trivial
      iexact HO
    isplitr; · iempintro
    iexact Hr
  hin c := (show _ ⊢ (Pipeline.scopedRest (cfgs p).spec c : sProp 𝕄) from by
    iintro ⟨-, -, Hr⟩
    iexact Hr).trans (hin c)
  hout c := (hout c).trans (by
    rw [Pipeline.ownSems0_none]
    iintro Hr
    isplitr; · iempintro
    isplitr; · iempintro
    iexact Hr)
  hexit c := by
    have hjoin := Pipeline.unscopedBufs_of_arrays_shared (pcfgs (F := F)) adm kit.win kit.sharedIn kit.arr_whole c (dats m) (hq c)
      (fun b => W c b) (fun b => W' c b) ((dats m p c).arrAt · (cfgs p).N) (hF c) (hrest c)
    unfold heldAt
    rw [← Pipeline.unscopedBufs_held]
    iintro ⟨Ha, HO, -, Hr⟩
    imodintro
    isplitl [Ha Hr]
    · iapply hjoin
      isplitl [Ha]; · iexact Ha
      iexact Hr
    unfold Dat.owesAt Pipeline.owesWithin
    rw [howed c (Fin.last _)]
    icases HO with ⟨%W, -, HO⟩; iexists W; iexact HO

/-- A call with one output changes that buffer alone. -/
def regionOne {p : Fin 14} (kit : Pipeline.LaunchFacts (nD := nD) (τ := τ) cfgs p)
    (hbody : ∀ c, Pipeline.BodyObligationLoose (dats m p c) (defs₀ (F := F)) Variants.none () Set.univ)
    (howed : ∀ c t, (dats m p c).owed t = 0) (hrec : ∀ c, (dats m p c).recorded 0 = Set.univ)
    (hq : ∀ c w, ((cfgs p).spec w).isOut = false → (dats m p c).q w = Pipeline.shareOf (cfgs p).spec w)
    (hin : ∀ c, Pipeline.scopedRest (cfgs p).spec c ⊢ (dats m p c).Φ 0)
    (hout : ∀ c, (dats m p c).Φ (Fin.last (cfgs p).N) ⊢ Pipeline.scopedRest (cfgs p).spec c)
    (W : Dev nD → Valuation τ sig (Elt F)) (hA : ∀ c w, (dats m p c).A w = W c (Pipeline.arrRef (cfgs p).spec w)) (o : Fin (cfgs p).W)
    (ho : ∀ w, w ≠ o → ((cfgs p).win w).isOut = false ∧ Pipeline.arrRef (cfgs p).spec w ≠ Pipeline.arrRef (cfgs p).spec o) :
    RegionSeg (pcfgs (F := F)) adm (dats m) () defs₀ Variants.none noCells noLevel p :=
  region m kit.to₀ hbody howed hrec hq hin hout W (put W (Pipeline.arrRef (cfgs p).spec o) fun c => (dats m p c).arrAt o (cfgs p).N) hA
    (fun c w => by
      by_cases h : w = o
      · subst h; exact (put_self W (Pipeline.arrRef (cfgs p).spec w) (fun c => (dats m p c).arrAt w (cfgs p).N) c).symm
      · exact ((dats m p c).arrAt_in w (ho w h).1 _).trans ((hA c w).trans (put_of W _ _ c _ (ho w h).2).symm))
    (fun c b hb => put_of W _ _ c b fun e => hb (e ▸ Finset.mem_image_of_mem _ (Finset.mem_univ o)))

def region0 : RegionSeg (pcfgs (F := F)) adm (dats m) () defs₀ Variants.none noCells noLevel 0 :=
  regionOne m launch0 (fun c => (gate.obligation (entered (val0 m)) c).loose) (fun _ _ => rfl) (fun _ => rfl) (fun _ _ _ => rfl)
    (fun c => .rfl) (fun c => gate.carried_any (entered (val0 m)) c cfg0.N le_rfl) (val0 m) (fun _ _ => rfl) (2 : Fin 3) (by decide)
def region1 : RegionSeg (pcfgs (F := F)) adm (dats m) () defs₀ Variants.none noCells noLevel 1 :=
  regionOne m launch1 (fun c => (up.obligation (entered (val1 m)) c).loose) (fun _ _ => rfl) (fun _ => rfl) (fun _ _ _ => rfl)
    (fun c => .rfl) (fun c => up.carried_any (entered (val1 m)) c cfg1.N le_rfl) (val1 m) (fun _ _ => rfl) (2 : Fin 3) (by decide)
def region2 : RegionSeg (pcfgs (F := F)) adm (dats m) () defs₀ Variants.none noCells noLevel 2 :=
  regionOne m launch2 (fun c => (actObligation (entered (val2 m)) c).loose) (fun _ _ => rfl) (fun _ => rfl) (fun _ _ _ => rfl)
    (fun c => .rfl) (fun c => .rfl) (val2 m) (fun _ _ => rfl) (2 : Fin 3) (by decide)
def region3 : RegionSeg (pcfgs (F := F)) adm (dats m) () defs₀ Variants.none noCells noLevel 3 :=
  regionOne m launch3 (fun c => (down.obligation (entered (val3 m)) c).loose) (fun _ _ => rfl) (fun _ => rfl) (fun _ _ _ => rfl)
    (fun c => .rfl) (fun c => down.carried_any (entered (val3 m)) c cfg3.N le_rfl) (val3 m) (fun _ _ => rfl) (3 : Fin 4) (by decide)
def region4 : RegionSeg (pcfgs (F := F)) adm (dats m) () defs₀ Variants.none noCells noLevel 4 :=
  regionOne m launch4 (fun c => (dAct.obligation (entered (val4 m)) c).loose) (fun _ _ => rfl) (fun _ => rfl) (fun _ _ _ => rfl)
    (fun c => .rfl) (fun c => dAct.carried_any (entered (val4 m)) c cfg4.N le_rfl) (val4 m) (fun _ _ => rfl) (2 : Fin 3) (by decide)
def region5 : RegionSeg (pcfgs (F := F)) adm (dats m) () defs₀ Variants.none noCells noLevel 5 :=
  regionOne m launch5 (fun c => (dDown.obligation (entered (val5 m)) c).loose) (fun _ _ => rfl) (fun _ => rfl) (fun _ _ _ => rfl)
    (fun c => .rfl) (fun c => dDown.carried_any (entered (val5 m)) c cfg5.N le_rfl) (val5 m) (fun _ _ => rfl) (2 : Fin 3) (by decide)
/-- The two cotangents' call, the one with two outputs. -/
def region6 : RegionSeg (pcfgs (F := F)) adm (dats m) () defs₀ Variants.none noCells noLevel 6 :=
  region m launch6.to₀ (fun c => (cotObligation (entered (val6 m)) c).loose) (fun _ _ => rfl) (fun _ => rfl) (fun _ _ _ => rfl)
    (fun c => .rfl) (fun c => .rfl) (val6 m) (val7 m) (fun _ _ => rfl)
    (fun c w => by
      match w with
      | ⟨0, _⟩ => exact cot_kept m c 0 rfl (by decide) (by decide)
      | ⟨1, _⟩ => exact cot_kept m c 1 rfl (by decide) (by decide)
      | ⟨2, _⟩ => exact cot_kept m c 2 rfl (by decide) (by decide)
      | ⟨3, _⟩ => exact (val7_gate m c).symm
      | ⟨4, _⟩ => exact (val7_up m c).symm
      | ⟨_ + 5, h⟩ => exact absurd h (Nat.not_lt.2 (Nat.le_add_left _ _)))
    (fun c b hb => val7_of m c b (fun e => hb (e ▸ (by decide : main_v6_0 ∈ Finset.univ.image (Pipeline.arrRef spec6))))
      (fun e => hb (e ▸ (by decide : main_v6_1 ∈ Finset.univ.image (Pipeline.arrRef spec6)))))
def region7 : RegionSeg (pcfgs (F := F)) adm (dats m) () defs₀ Variants.none noCells noLevel 7 :=
  regionOne m launch7 (fun c => (dInGate.obligation (entered (val7 m)) c).loose) (fun _ _ => rfl) (fun _ => rfl) (fun _ _ _ => rfl)
    (fun c => .rfl) (fun c => dInGate.carried_any (entered (val7 m)) c cfg7.N le_rfl) (val7 m) (fun _ _ => rfl) (2 : Fin 3) (by decide)
def region8 : RegionSeg (pcfgs (F := F)) adm (dats m) () defs₀ Variants.none noCells noLevel 8 :=
  regionOne m launch8 (fun c => (dIn.obligation (entered (val8 m)) c).loose) (fun _ _ => rfl) (fun _ => rfl) (fun _ _ _ => rfl)
    (fun c => .rfl) (fun c => dIn.carried_any (entered (val8 m)) c cfg8.N le_rfl) (val8 m) (fun _ _ => rfl) (3 : Fin 4) (by decide)
def region9 : RegionSeg (pcfgs (F := F)) adm (dats m) () defs₀ Variants.none noCells noLevel 9 :=
  regionOne m launch9 (fun c => (dGate.obligation (entered (val9 m)) c).loose) (fun _ _ => rfl) (fun _ => rfl) (fun _ _ _ => rfl)
    (fun c => .rfl) (fun c => dGate.carried_any (entered (val9 m)) c cfg9.N le_rfl) (val9 m) (fun _ _ => rfl) (2 : Fin 3) (by decide)
def region10 : RegionSeg (pcfgs (F := F)) adm (dats m) () defs₀ Variants.none noCells noLevel 10 :=
  regionOne m launch10 (fun c => (dUp.obligation (entered (val10 m)) c).loose) (fun _ _ => rfl) (fun _ => rfl) (fun _ _ _ => rfl)
    (fun c => .rfl) (fun c => dUp.carried_any (entered (val10 m)) c cfg10.N le_rfl) (val10 m) (fun _ _ => rfl) (2 : Fin 3) (by decide)
def region11 : RegionSeg (pcfgs (F := F)) adm (dats m) () defs₀ Variants.none noCells noLevel 11 :=
  regionOne m launch11 (fun c => (proj.obligation (entered (val11 m)) c).loose) (fun _ _ => rfl) (fun _ => rfl) (fun _ _ _ => rfl)
    (fun c => .rfl) (fun c => proj.carried_any (entered (val11 m)) c cfg11.N le_rfl) (val11 m) (fun _ _ => rfl) (2 : Fin 3) (by decide)
def region12 : RegionSeg (pcfgs (F := F)) adm (dats m) () defs₀ Variants.none noCells noLevel 12 :=
  regionOne m launch12 (fun c => (dProjIn.obligation (entered (val12 m)) c).loose) (fun _ _ => rfl) (fun _ => rfl) (fun _ _ _ => rfl)
    (fun c => .rfl) (fun c => dProjIn.carried_any (entered (val12 m)) c cfg12.N le_rfl) (val12 m) (fun _ _ => rfl) (2 : Fin 3) (by decide)
def region13 : RegionSeg (pcfgs (F := F)) adm (dats m) () defs₀ Variants.none noCells noLevel 13 :=
  regionOne m launch13 (fun c => (dProjWeight.obligation (entered (val13 m)) c).loose) (fun _ _ => rfl) (fun _ => rfl) (fun _ _ _ => rfl)
    (fun c => .rfl) (fun c => dProjWeight.carried_any (entered (val13 m)) c cfg13.N le_rfl) (val13 m) (fun _ _ => rfl) (2 : Fin 3) (by decide)

/-! ## The run -/

set_option backward.isDefEq.respectTransparency.types false in
/-- Every weakly fair execution from any memory with zero counters ends, with every buffer the calls share at `val14`
    and every semaphore counter at zero. -/
theorem run_all : θ_run defs (onTc (τ := τ) (main (F := F))) ⟨m, fun _ => 0, ρ⟩ (fun r =>
    (∀ c : Dev nD, ∀ b ∈ Pipeline.ucRefs τ sig, r.2.mem (c, b) = val14 m c b) ∧ r.2.sem = fun _ => 0) :=
  Pipeline.θ_run_regions_kit_dev_sems (pcfgs (F := F)) adm (dats m) () cellOf_inj emb₁ defs₀ Variants.none noCells noLevel m ρ main
    (fun _ => [.region (region0 m), .region (region1 m), .region (region2 m), .region (region3 m), .region (region4 m), .region (region5 m), .region (region6 m), .region (region7 m), .region (region8 m), .region (region9 m), .region (region10 m), .region (region11 m), .region (region12 m),
      .region (region13 m)])
    (fun c Q => by rw [main_segs adm (dats m) () Variants.none noCells noLevel (region0 m) (region1 m) (region2 m) (region3 m) (region4 m) (region5 m) (region6 m) (region7 m) (region8 m) (region9 m) (region10 m) (region11 m) (region12 m)
      (region13 m) c])
    (fun c => by simp only [Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := heldAt (val0 m)) (Tₙ := fun c => StableHlo.held (c : Thread nD τ) (Pipeline.ucRefs τ sig) (val14 m c))
    (hch := fun c => ⟨.rfl, .rfl, .rfl, .rfl, .rfl, .rfl, .rfl, .rfl, .rfl, .rfl, .rfl, .rfl, .rfl, .rfl, .rfl⟩)
    (hinit := by
      refine Pipeline.initEach noCells noLevel fun c => ?_
      rw [show unscopedBufs c (fun b => m ((c : Thread nD τ).loc b)) = StableHlo.held (c : Thread nD τ) (Pipeline.ucRefs τ sig) (val0 m c) from Pipeline.unscopedBufs_held c (val0 m c)]
      iintro ⟨⟨Hh, -, HO, -, -, -⟩, -⟩
      imodintro
      isplitl [Hh]; · iexact Hh
      iexists ∅; iexact HO)
    (QY := fun c s => ∀ b ∈ Pipeline.ucRefs τ sig, s.mem (c, b) = val14 m c b)
    (hfin := fun c s' => by
      unfold StableHlo.held
      iintro ⟨Hh, HSI⟩
      ihave Hr := (pointsTo_read_all (Pipeline.ucRefs τ sig) (fun b => ((c : Thread nD τ).1, b)) (val14 m c) s') $$ [Hh HSI]
      · isplitl [Hh] <;> iassumption
      icases Hr with ⟨%h, HSI⟩
      imodintro
      isplitr
      · ipureintro; exact h
      · iexact HSI)
    (hQ := fun _ h hz => ⟨h, funext fun g => hz g (.inr (regions_no_unscoped g.2))⟩)

/-- The final memory at the buffers the claims name. -/
theorem run_main : θ_run defs (onTc (τ := τ) (main (F := F))) ⟨m, fun _ => 0, ρ⟩ (fun r => (∀ c : Dev nD,
      r.2.mem ((c.tc : Thread nD τ).loc main_v3) = val4 m c main_v3
      ∧ r.2.mem ((c.tc : Thread nD τ).loc main_v8) = val9 m c main_v8
      ∧ r.2.mem ((c.tc : Thread nD τ).loc main_v9) = val10 m c main_v9
      ∧ r.2.mem ((c.tc : Thread nD τ).loc main_v10) = val11 m c main_v10
      ∧ r.2.mem ((c.tc : Thread nD τ).loc main_v5) = val6 m c main_v5
      ∧ r.2.mem ((c.tc : Thread nD τ).loc main_v11) = val12 m c main_v11
      ∧ r.2.mem ((c.tc : Thread nD τ).loc main_v12) = val13 m c main_v12
      ∧ r.2.mem ((c.tc : Thread nD τ).loc main_v13) = val14 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => by
    have last : ∀ (c : Dev nD) (b : Ref sig .tc), b.isScoped = false → r.2.mem ((c.tc : Thread nD τ).loc b) = val14 m c b := fun c b hb =>
      h.1 c (Proc.devRef .tc b) (Finset.mem_filter.mpr ⟨StableHlo.devRef_mem_tcRefs b, by simpa using hb⟩)
    have key (c : Dev nD) (b : Ref sig .tc) (hb : b.isScoped = false) (hn : ∀ r ∈ [main_v11, main_v12, main_v13], b ≠ r) :
        r.2.mem ((c.tc : Thread nD τ).loc b) = val11 m c b := (last c b hb).trans (val14_of m c b hn)
    have arg (c : Dev nD) (b : Ref sig .tc) (hb : b.isScoped = false) (hn : ∀ r ∈ [main_v11, main_v12, main_v13], b ≠ r)
        (hf : ∀ r ∈ [main_v0, main_v1, main_v2, main_v3], b ≠ r)
        (hg : ∀ r ∈ [main_v4, main_v5, main_v6_0, main_v6_1, main_v7, main_v8, main_v9, main_v10], b ≠ r) :
        r.2.mem ((c.tc : Thread nD τ).loc b) = m ((c.tc : Thread nD τ).loc b) := (key c b hb hn).trans (val0_kept m c b hf hg)
    refine ⟨fun c => ⟨(key c main_v3 rfl (by decide)).trans (val4_kept m c main_v3 (by decide)), ?_, ?_, key c main_v10 rfl (by decide),
      (key c main_v5 rfl (by decide)).trans (val6_kept m c main_v5 (by decide)), ?_, ?_, last c main_v13 rfl,
      arg c main_arg0 rfl (by decide) (by decide) (by decide), arg c main_arg1 rfl (by decide) (by decide) (by decide),
      arg c main_arg2 rfl (by decide) (by decide) (by decide), arg c main_arg3 rfl (by decide) (by decide) (by decide),
      arg c main_arg4 rfl (by decide) (by decide) (by decide), arg c main_arg5 rfl (by decide) (by decide) (by decide),
      arg c main_arg6 rfl (by decide) (by decide) (by decide), arg c main_arg7 rfl (by decide) (by decide) (by decide),
      arg c main_arg8 rfl (by decide) (by decide) (by decide)⟩, h.2⟩
    · refine (key c main_v8 rfl (by decide)).trans ?_
      rw [val11, put_of _ main_v10 _ c main_v8 (by decide), val10, put_of _ main_v9 _ c main_v8 (by decide)]
    · refine (key c main_v9 rfl (by decide)).trans ?_
      rw [val11, put_of _ main_v10 _ c main_v9 (by decide)]
    · refine (last c main_v11 rfl).trans ?_
      rw [val14, put_of _ main_v13 _ c main_v11 (by decide), val13, put_of _ main_v12 _ c main_v11 (by decide)]
    · refine (last c main_v12 rfl).trans ?_
      rw [val14, put_of _ main_v13 _ c main_v12 (by decide)]) (run_all m ρ)

end Cert.Ffn

end
-- ==== Proof.Ffn.Value.Sums.lean ====
/- Arrays of extended reals by their entries, and the sum an accumulator has gathered after each point of its grid. -/
module

public import proofs.«01_k».proof.Proof.Ffn.Base
public import Idealize.ShloMosaic.Lib.Pointwise

@[expose] public section

noncomputable section

namespace Cert.Ffn

open Idealize.ShloMosaic Finset

/-- The array `x` has the entries `f`. -/
def Holds {m n : ℕ} (x : (⟨2, ![m, n]⟩ : Shape).Idx → EReal) (f : ℕ → ℕ → EReal) : Prop :=
  ∀ (a : Fin m) (b : Fin n), x (ix2 a b) = f a.val b.val

section Holds
variable {m n : ℕ} {x y : (⟨2, ![m, n]⟩ : Shape).Idx → EReal} {f g : ℕ → ℕ → EReal}

theorem eq_ix2 (i : (⟨2, ![m, n]⟩ : Shape).Idx) : i = ix2 (i 0) (i 1) := by funext d; fin_cases d <;> rfl

theorem Holds.at (hx : Holds x f) (i : (⟨2, ![m, n]⟩ : Shape).Idx) : x i = f (i 0).val (i 1).val :=
  (congrArg x (eq_ix2 i)).trans (hx (i 0) (i 1))

theorem Holds.of_at (h : ∀ i, x i = f (i 0).val (i 1).val) : Holds x f := fun a b => h (ix2 a b)

theorem Holds.eq (hx : Holds x f) (hy : Holds y f) : x = y := funext fun i => (hx.at i).trans (hy.at i).symm

/-- A block's entries, from the array's: the block's corner plus the entry's own coordinates. -/
theorem Holds.block {M N r0 d0 : ℕ} {X : (⟨2, ![M, N]⟩ : Shape).Idx → EReal} (hX : Holds X f)
    (emb : (⟨2, ![m, n]⟩ : Shape).Idx → (⟨2, ![M, N]⟩ : Shape).Idx) (hx : ∀ i, x i = X (emb i))
    (h : ∀ i, (emb i 0).val = r0 + (i 0).val ∧ (emb i 1).val = d0 + (i 1).val) : Holds x (fun r d => f (r0 + r) (d0 + d)) := fun a b =>
  (hx _).trans ((hX.at _).trans (congrArg₂ f (h _).1 (h _).2))

end Holds

/-- The entries of an array. -/
def entries {m n : ℕ} (x : (⟨2, ![m, n]⟩ : Shape).Idx → EReal) : ℕ → ℕ → EReal :=
  fun r d => if h : r < m ∧ d < n then x (ix2 ⟨r, h.1⟩ ⟨d, h.2⟩) else 0

theorem holds_entries {m n : ℕ} (x : (⟨2, ![m, n]⟩ : Shape).Idx → EReal) : Holds x (entries x) := fun a b => by
  rw [entries, dif_pos ⟨a.isLt, b.isLt⟩]

/-- A sum over an axis, entry by entry. -/
theorem sum_axis {n : ℕ} {x : Fin n → EReal} {f : ℕ → EReal} (h : ∀ k, x k = f k.val) : ∑ k, x k = ∑ k ∈ range n, f k := by
  rw [← Fin.sum_univ_eq_sum_range]; exact sum_congr rfl fun k _ => h k

/-- Where each of the `nk` points of a run adds its `tk` terms of a sum, the accumulator is the sum of the terms so far. -/
theorem accAt_sum {ι : Type} {N nk tk : ℕ} (z : ι → EReal) (f : (n : ℕ) → n < N → (ι → EReal) → ι → EReal) (i : ι) (g : ℕ → ℕ → EReal) (hz : z i = 0)
    (hf : ∀ n h u, f n h u i = u i + ∑ k ∈ range tk, g (n / nk) (tk * (n % nk) + k)) (n : ℕ) (h : n < N) :
    accAt nk z f n h i = ∑ k ∈ range (tk * (n % nk + 1)), g (n / nk) k := by
  induction n with
  | zero =>
    show f 0 h z i = _
    rw [hf, hz, zero_add]
    simp only [Nat.zero_mod, Nat.mul_zero, Nat.zero_add, Nat.mul_one]
  | succ n ih =>
    show f (n + 1) h (if (n + 1) % nk = 0 then z else accAt nk z f n (Nat.lt_of_succ_lt h)) i = _
    rw [hf]
    by_cases e : (n + 1) % nk = 0
    · rw [if_pos e, hz, zero_add, e]
      simp only [Nat.mul_zero, Nat.zero_add, Nat.mul_one]
    · have hd : (n + 1) / nk = n / nk := by rw [Nat.succ_div, if_neg fun d => e (Nat.mod_eq_zero_of_dvd d), Nat.add_zero]
      have hm : (n + 1) % nk = n % nk + 1 := by
        have h1 := Nat.div_add_mod n nk
        have h2 := Nat.div_add_mod (n + 1) nk
        rw [hd] at h2
        omega
      rw [if_neg e, ih, hd, hm, Nat.mul_add tk (n % nk + 1) 1, Nat.mul_one, sum_range_add]

end Cert.Ffn

end
-- ==== Proof.Ffn.Value.Layer.lean ====
/- The feed-forward sublayer over the extended reals, entry by entry: `x1 + (silu(h · wg) * (h · wu)) · wd`, and what its
   derivative takes back from the gradient of its result. -/
module

public import proofs.«01_k».proof.Proof.Ffn.Value.Sums

@[expose] public section

noncomputable section

namespace Cert.Ffn

open Idealize.ShloMosaic Finset

/-- The activation of a gate and an up product. -/
def actOf (g u : EReal) : EReal := g * Ideal.logistic g * u

/-- The gate's cotangent, from the gate, the up product and the activation's cotangent. -/
def gateCot (g u d : EReal) : EReal := d * u * Ideal.logistic g + g * (d * u) * (Ideal.logistic g * ((1 : EReal) - Ideal.logistic g))

/-- The up product's cotangent. -/
def upCot (g d : EReal) : EReal := g * Ideal.logistic g * d

variable (x h wg wu wd dx : ℕ → ℕ → EReal)

/-- The hidden rows times a weight: the gate, and with the other weight the up product. -/
def hidden (r d : ℕ) : EReal := ∑ k ∈ range 1024, h r k * wg k d

/-- The activation. -/
def activation (r d : ℕ) : EReal := actOf (hidden h wg r d) (hidden h wu r d)

/-- The sublayer's result. -/
def layer (r d : ℕ) : EReal := x r d + ∑ k ∈ range 2816, activation h wg wu r k * wd k d

/-- The activation's cotangent. -/
def dActivation (r d : ℕ) : EReal := ∑ k ∈ range 1024, dx r k * wd d k

/-- The gate's cotangent. -/
def dHiddenGate (r d : ℕ) : EReal := gateCot (hidden h wg r d) (hidden h wu r d) (dActivation wd dx r d)

/-- The up product's cotangent. -/
def dHiddenUp (r d : ℕ) : EReal := upCot (hidden h wg r d) (dActivation wd dx r d)

/-- The input's gradient. -/
def dInput (r d : ℕ) : EReal := ∑ k ∈ range 2816, dHiddenUp h wg wd dx r k * wu d k + ∑ k ∈ range 2816, dHiddenGate h wg wu wd dx r k * wg d k

/-- The gate weight's gradient. -/
def dWeightGate (r d : ℕ) : EReal := ∑ k ∈ range 8192, h k r * dHiddenGate h wg wu wd dx k d

/-- The up weight's gradient. -/
def dWeightUp (r d : ℕ) : EReal := ∑ k ∈ range 8192, h k r * dHiddenUp h wg wd dx k d

/-- The down weight's gradient. -/
def dWeightDown (d r : ℕ) : EReal := ∑ k ∈ range 8192, activation h wg wu k d * dx k r

/-! ## The first projection, whose result is a `hidden` of its own -/

/-- The gradient of its input. -/
def dProjected (w dz : ℕ → ℕ → EReal) (r d : ℕ) : EReal := ∑ k ∈ range 8192, dz r k * w d k

/-- The gradient of its weight. -/
def dProjectedWeight (h dz : ℕ → ℕ → EReal) (r d : ℕ) : EReal := ∑ k ∈ range 8192, h k r * dz k d

end Cert.Ffn

end
-- ==== Proof.Ffn.Value.RefLayer.lean ====
/- The reference of the feed-forward sublayer and of the first projection, and of their derivatives, holds their entries. -/
module

public import proofs.«01_k».proof.Proof.Ffn.Value.Layer
public import proofs.«01_k».proof.Proof.Gen.Reference2Ideal.Read

@[expose] public section

set_option maxRecDepth 16384

noncomputable section

namespace Cert.Ffn

open Cert.Reference2Ideal Cert.Reference2Ideal.Read
open Idealize.ShloMosaic Finset

variable {x0 x1 x5 x6 : S8192x1024.Idx → EReal} {x2 x3 : S1024x2816.Idx → EReal} {x4 : S2816x1024.Idx → EReal} {x7 : S1024x8192.Idx → EReal} {x8 : S8192x8192.Idx → EReal}
  {x h wg wu wd dx : ℕ → ℕ → EReal}

/-- The reference's one over one and the exponential of minus the gate is the logistic function of the gate. -/
theorem ref_logistic (i : S8192x2816.Idx) : val_main_v5_2 (F := Ideal) x1 x2 i = Ideal.logistic (val_main_v4 (F := Ideal) x1 x2 i) := by
  rw [val_main_v5_2_apply, val_main_call0_v4_apply, val_main_call0_cst_0_apply, val_main_call0_v3_apply, val_main_call0_v2_apply,
    val_main_call0_cst_apply, val_main_call0_v1_apply, val_main_call0_v0_apply]
  show Ideal.div (Ideal.ofBits .f32 0x3F800000#32) (Ideal.ofBits .f32 0x3F800000#32 + Ideal.exp (-(val_main_v4 (F := Ideal) x1 x2 i))) = _
  rw [Ideal.ofBits_one_f32]
  rfl

/-- Its derivative's factor, one minus it times itself. -/
theorem ref_slope (i : S8192x2816.Idx) : val_main_v5_1 (F := Ideal) x1 x2 i
    = Ideal.logistic (val_main_v4 (F := Ideal) x1 x2 i) * ((1 : EReal) - Ideal.logistic (val_main_v4 (F := Ideal) x1 x2 i)) := by
  rw [val_main_v5_1_apply, val_main_call0_v7_apply, val_main_call0_v6_apply, val_main_call0_cst_1_apply, ref_logistic]
  show _ * (Ideal.ofBits .f32 0x3F800000#32 - _) = _
  rw [Ideal.ofBits_one_f32]

section
variable (hh : Holds (m := 8192) (n := 1024) x1 h) (hg : Holds (m := 1024) (n := 2816) x2 wg) (hu : Holds (m := 1024) (n := 2816) x3 wu)
  (hd : Holds (m := 2816) (n := 1024) x4 wd) (hx : Holds (m := 8192) (n := 1024) x0 x) (hdx : Holds (m := 8192) (n := 1024) x5 dx)

include hh hg in
theorem ref_gate : Holds (m := 8192) (n := 2816) (val_main_v4 (F := Ideal) x1 x2) (hidden h wg) := Holds.of_at fun i => by
  rw [val_main_v4_apply]
  exact sum_axis fun k => congrArg₂ (fun a b : EReal => a * b) (hh.at _) (hg.at _)

include hh hu in
theorem ref_up : Holds (m := 8192) (n := 2816) (val_main_v6 (F := Ideal) x1 x3) (hidden h wu) := Holds.of_at fun i => by
  rw [val_main_v6_apply]
  exact sum_axis fun k => congrArg₂ (fun a b : EReal => a * b) (hh.at _) (hu.at _)

include hh hg hu in
theorem ref_activation : Holds (m := 8192) (n := 2816) (val_main_v7 (F := Ideal) x1 x2 x3) (activation h wg wu) := Holds.of_at fun i => by
  rw [val_main_v7_apply, val_main_v5_0_apply, ref_logistic]
  exact congrArg₂ actOf ((ref_gate hh hg).at i) ((ref_up hh hu).at i)

include hh hg hu hd hx in
theorem ref_layer : Holds (m := 8192) (n := 1024) (val_main_v9 (F := Ideal) x0 x1 x2 x3 x4) (layer x h wg wu wd) := Holds.of_at fun i => by
  rw [val_main_v9_apply, val_main_v8_apply]
  exact congrArg₂ (fun a b : EReal => a + b) (hx.at i) (sum_axis fun k => congrArg₂ (fun a b : EReal => a * b) ((ref_activation hh hg hu).at _) (hd.at _))

include hdx in
theorem ref_dx : Holds (m := 8192) (n := 1024) (val_main_v13 (F := Ideal) x5) dx := Holds.of_at fun i => by
  have h0 : (i 0).val < 8192 := (i 0).isLt
  have h1 : (i 1).val < 1024 := (i 1).isLt
  rw [val_main_v13_apply]
  refine (hdx.at _).trans (congrArg₂ dx ?_ ?_)
  · show ((i 0).val * 1024 + (i 1).val) / 1024 = _
    omega
  · show ((i 0).val * 1024 + (i 1).val) % 1024 = _
    omega

include hd hdx in
theorem ref_dActivation : Holds (m := 8192) (n := 2816) (val_main_v16 (F := Ideal) x4 x5) (dActivation wd dx) := Holds.of_at fun i => by
  rw [val_main_v16_apply]
  exact sum_axis fun k => congrArg₂ (fun a b : EReal => a * b) ((ref_dx hdx).at _) (hd.at _)

include hh hg hd hdx in
theorem ref_dUp : Holds (m := 8192) (n := 2816) (val_main_v17 (F := Ideal) x1 x2 x4 x5) (dHiddenUp h wg wd dx) := Holds.of_at fun i => by
  rw [val_main_v17_apply, val_main_v5_0_apply, ref_logistic]
  exact congrArg₂ upCot ((ref_gate hh hg).at i) ((ref_dActivation hd hdx).at i)

include hh hg hu hd hdx in
theorem ref_dGate : Holds (m := 8192) (n := 2816) (val_main_v22 (F := Ideal) x1 x2 x3 x4 x5) (dHiddenGate h wg wu wd dx) := Holds.of_at fun i => by
  rw [val_main_v22_apply, val_main_call1_v1_apply, val_main_call1_v2_apply, val_main_call1_v0_apply, val_main_v18_apply, ref_logistic, ref_slope]
  show gateCot (val_main_v4 (F := Ideal) x1 x2 i) (val_main_v6 (F := Ideal) x1 x3 i) (val_main_v16 (F := Ideal) x4 x5 i) = _
  exact congr (congrArg₂ gateCot ((ref_gate hh hg).at i) ((ref_up hh hu).at i)) ((ref_dActivation hd hdx).at i)

include hh hg hu hd hdx in
theorem ref_dInput : Holds (m := 8192) (n := 1024) (val_main_v26 (F := Ideal) x1 x2 x3 x4 x5) (dInput h wg wu wd dx) := Holds.of_at fun i => by
  rw [val_main_v26_apply, val_main_v21_apply, val_main_v25_apply]
  exact congrArg₂ (fun a b : EReal => a + b)
    (sum_axis fun k => congrArg₂ (fun a b : EReal => a * b) ((ref_dUp hh hg hd hdx).at _) (hu.at _))
    (sum_axis fun k => congrArg₂ (fun a b : EReal => a * b) ((ref_dGate hh hg hu hd hdx).at _) (hg.at _))

include hh hg hu hd hdx in
theorem ref_dWeightGate : Holds (m := 1024) (n := 2816) (val_main_v24 (F := Ideal) x1 x2 x3 x4 x5) (dWeightGate h wg wu wd dx) := Holds.of_at fun i => by
  rw [val_main_v24_apply, val_main_v23_apply]
  exact sum_axis fun k => (congrArg₂ (fun a b : EReal => a * b) ((ref_dGate hh hg hu hd hdx).at _) (hh.at _)).trans (mul_comm _ _)

include hh hg hd hdx in
theorem ref_dWeightUp : Holds (m := 1024) (n := 2816) (val_main_v20 (F := Ideal) x1 x2 x4 x5) (dWeightUp h wg wd dx) := Holds.of_at fun i => by
  rw [val_main_v20_apply, val_main_v19_apply]
  exact sum_axis fun k => (congrArg₂ (fun a b : EReal => a * b) ((ref_dUp hh hg hd hdx).at _) (hh.at _)).trans (mul_comm _ _)

include hh hg hu hdx in
theorem ref_dWeightDown : Holds (m := 2816) (n := 1024) (val_main_v15 (F := Ideal) x1 x2 x3 x5) (dWeightDown h wg wu dx) := Holds.of_at fun i => by
  rw [val_main_v15_apply, val_main_v14_apply]
  exact sum_axis fun k => (congrArg₂ (fun a b : EReal => a * b) ((ref_dx hdx).at _) ((ref_activation hh hg hu).at _)).trans (mul_comm _ _)
end

/-! ## The first projection -/

section
variable {w dz : ℕ → ℕ → EReal} (hh : Holds (m := 8192) (n := 1024) x6 h) (hw : Holds (m := 1024) (n := 8192) x7 w)
  (hdz : Holds (m := 8192) (n := 8192) x8 dz)

include hh hw in
theorem ref_proj : Holds (m := 8192) (n := 8192) (val_main_v12 (F := Ideal) x6 x7) (hidden h w) := Holds.of_at fun i => by
  rw [val_main_v12_apply]
  exact sum_axis fun k => congrArg₂ (fun a b : EReal => a * b) (hh.at _) (hw.at _)

include hw hdz in
theorem ref_dProjIn : Holds (m := 8192) (n := 1024) (val_main_v30 (F := Ideal) x7 x8) (dProjected w dz) := Holds.of_at fun i => by
  rw [val_main_v30_apply]
  exact sum_axis fun k => congrArg₂ (fun a b : EReal => a * b) (hdz.at _) (hw.at _)

include hh hdz in
theorem ref_dProjWeight : Holds (m := 1024) (n := 8192) (val_main_v29 (F := Ideal) x6 x8) (dProjectedWeight h dz) := Holds.of_at fun i => by
  rw [val_main_v29_apply, val_main_v28_apply]
  exact sum_axis fun k => (congrArg₂ (fun a b : EReal => a * b) (hdz.at _) (hh.at _)).trans (mul_comm _ _)
end

end Cert.Ffn

end
-- ==== Proof.Ffn.Value.Forward.lean ====
/- The forward calls' products: the gate's, the up product and the down product with what is added to it. -/
module

public import proofs.«01_k».proof.Proof.Ffn.Value.Sums
public import proofs.«01_k».proof.Proof.Ffn.Products
public import Idealize.ShloMosaic.Lib.Pipeline.ValueKit

@[expose] public section

set_option maxRecDepth 65536

noncomputable section

namespace Cert.Ffn

open Cert.Kernel2Ideal Cert.Kernel2Ideal.Gen
open Idealize.ShloMosaic Idealize.ShloMosaic.TcCoe Finset

variable {V : Contents Ideal} {c : Dev nD} {A B D : ℕ → ℕ → EReal}

/-! ## The gate's product -/

theorem idx0_0 : ∀ t : Fin grid0.N, win0_0.index t 0 = t.val % 8 ∧ win0_0.index t 1 = 0 := by decide +kernel
theorem idx0_1 : ∀ t : Fin grid0.N, win0_1.index t 0 = 0 ∧ win0_1.index t 1 = t.val / 8 := by decide +kernel
theorem idx0_2 : ∀ t : Fin grid0.N, win0_2.index t 0 = t.val % 8 ∧ win0_2.index t 1 = t.val / 8 := by decide +kernel

theorem gate_step (u : Vec Ideal S1024x1408 .f32) (x : Vec Ideal S1024x1024 .bf16) (y : Vec Ideal S1024x1408 .bf16) (a : Fin 1024) (b : Fin 1408) :
    k0_pay2 (F := Ideal) u x y (ix2 a b) = u (ix2 a b) + ∑ k : Fin 1024, x (ix2 a k) * y (ix2 k b) := by pointwise [k0_pay2]

theorem gate_start (i : S1024x1408.Idx) : k0_pay1 (F := Ideal) i = 0 := by pointwise [k0_pay1]

section
variable (hA : Holds (m := 8192) (n := 1024) (V c main_arg1) A) (hB : Holds (m := 1024) (n := 2816) (V c main_arg2) B)

include hA in
theorem gate_rows (t : Fin cfg0.N) : Holds (m := 1024) (n := 1024) (staged V c cfg0 (0 : Fin 3) t) (fun r k => A (1024 * (t.val % 8) + r) (0 + k)) := by
  obtain ⟨e0, e1⟩ := idx0_0 t
  refine hA.block ((cfg0.win 0).blk t).view.emb (fun y => (cfg0.win 0).fill_xinj _ _ _ y) fun y => ⟨?_, ?_⟩
  · blk_simp [e0]; omega
  · blk_simp [e1]

include hB in
theorem gate_cols (t : Fin cfg0.N) : Holds (m := 1024) (n := 1408) (staged V c cfg0 (1 : Fin 3) t) (fun k d => B (0 + k) (1408 * (t.val / 8) + d)) := by
  obtain ⟨e0, e1⟩ := idx0_1 t
  refine hB.block ((cfg0.win 1).blk t).view.emb (fun y => (cfg0.win 1).fill_xinj _ _ _ y) fun y => ⟨?_, ?_⟩
  · blk_simp [e0]
  · blk_simp [e1]; omega

include hA hB in
theorem gate_acc (t : Fin cfg0.N) (a : Fin 1024) (b : Fin 1408) :
    gate.acc V c t.val t.isLt (ix2 a b) = ∑ k ∈ range 1024, A (1024 * (t.val % 8) + a.val) k * B k (1408 * (t.val / 8) + b.val) :=
  (accAt_sum (nk := 1) (tk := 1024) _ _ _ (fun n k => A (1024 * (n % 8) + a.val) k * B k (1408 * (n / 8) + b.val)) (gate_start _)
    (fun n h u => (gate_step u _ _ a b).trans (congrArg _ (sum_axis fun k => (congrArg₂ (· * ·) (gate_rows hA ⟨n, h⟩ a k) (gate_cols hB ⟨n, h⟩ k b)).trans
      (by simp [Nat.mod_one])))) t.val t.isLt).trans (by simp [Nat.mod_one])

include hA hB in
theorem gate_array : Holds (m := 8192) (n := 2816) ((gate.dat V c).arrAt (2 : Fin 3) cfg0.N) (fun r d => ∑ k ∈ range 1024, A r k * B k d) := by
  have e : (gate.dat V c).arrAt (2 : Fin 3) cfg0.N = fun i => ∑ k ∈ range 1024, A (i 0).val k * B k (i 1).val := by
    refine (gate.dat V c).arrAt_eq_of_covers (2 : Fin 3) _ (by decide +kernel) fun t hf y => ?_
    obtain ⟨e0, e1⟩ := idx0_2 t
    blk_simp [e0, e1]
    refine (congrFun (gate.after_out V c t) y).trans ((congrArg _ (eq_ix2 y)).trans ((gate_acc hA hB t (y 0) (y 1)).trans ?_))
    rw [Nat.mul_comm 1024, Nat.mul_comm 1408]
  rw [e]
  exact fun a b => rfl
end

/-! ## The up product -/

theorem idx1_0 : ∀ t : Fin grid1.N, win1_0.index t 0 = t.val % 8 ∧ win1_0.index t 1 = 0 := by decide +kernel
theorem idx1_1 : ∀ t : Fin grid1.N, win1_1.index t 0 = 0 ∧ win1_1.index t 1 = t.val / 8 := by decide +kernel
theorem idx1_2 : ∀ t : Fin grid1.N, win1_2.index t 0 = t.val % 8 ∧ win1_2.index t 1 = t.val / 8 := by decide +kernel

section
variable (hA : Holds (m := 8192) (n := 1024) (V c main_arg1) A) (hB : Holds (m := 1024) (n := 2816) (V c main_arg3) B)

include hA in
theorem up_rows (t : Fin cfg1.N) : Holds (m := 1024) (n := 1024) (staged V c cfg1 (0 : Fin 3) t) (fun r k => A (1024 * (t.val % 8) + r) (0 + k)) := by
  obtain ⟨e0, e1⟩ := idx1_0 t
  refine hA.block ((cfg1.win 0).blk t).view.emb (fun y => (cfg1.win 0).fill_xinj _ _ _ y) fun y => ⟨?_, ?_⟩
  · blk_simp [e0]; omega
  · blk_simp [e1]

include hB in
theorem up_cols (t : Fin cfg1.N) : Holds (m := 1024) (n := 1408) (staged V c cfg1 (1 : Fin 3) t) (fun k d => B (0 + k) (1408 * (t.val / 8) + d)) := by
  obtain ⟨e0, e1⟩ := idx1_1 t
  refine hB.block ((cfg1.win 1).blk t).view.emb (fun y => (cfg1.win 1).fill_xinj _ _ _ y) fun y => ⟨?_, ?_⟩
  · blk_simp [e0]
  · blk_simp [e1]; omega

include hA hB in
theorem up_acc (t : Fin cfg1.N) (a : Fin 1024) (b : Fin 1408) :
    up.acc V c t.val t.isLt (ix2 a b) = ∑ k ∈ range 1024, A (1024 * (t.val % 8) + a.val) k * B k (1408 * (t.val / 8) + b.val) :=
  (accAt_sum (nk := 1) (tk := 1024) _ _ _ (fun n k => A (1024 * (n % 8) + a.val) k * B k (1408 * (n / 8) + b.val)) (gate_start _)
    (fun n h u => (gate_step u _ _ a b).trans (congrArg _ (sum_axis fun k => (congrArg₂ (· * ·) (up_rows hA ⟨n, h⟩ a k) (up_cols hB ⟨n, h⟩ k b)).trans
      (by simp [Nat.mod_one])))) t.val t.isLt).trans (by simp [Nat.mod_one])

include hA hB in
theorem up_array : Holds (m := 8192) (n := 2816) ((up.dat V c).arrAt (2 : Fin 3) cfg1.N) (fun r d => ∑ k ∈ range 1024, A r k * B k d) := by
  have e : (up.dat V c).arrAt (2 : Fin 3) cfg1.N = fun i => ∑ k ∈ range 1024, A (i 0).val k * B k (i 1).val := by
    refine (up.dat V c).arrAt_eq_of_covers (2 : Fin 3) _ (by decide +kernel) fun t hf y => ?_
    obtain ⟨e0, e1⟩ := idx1_2 t
    blk_simp [e0, e1]
    refine (congrFun (up.after_out V c t) y).trans ((congrArg _ (eq_ix2 y)).trans ((up_acc hA hB t (y 0) (y 1)).trans ?_))
    rw [Nat.mul_comm 1024, Nat.mul_comm 1408]
  rw [e]
  exact fun a b => rfl
end

/-! ## The down product -/

theorem idx3_0 : ∀ t : Fin grid3.N, win3_0.index t 0 = t.val / 11 ∧ win3_0.index t 1 = t.val % 11 := by decide +kernel
theorem idx3_1 : ∀ t : Fin grid3.N, win3_1.index t 0 = t.val % 11 ∧ win3_1.index t 1 = 0 := by decide +kernel
theorem idx3_2 : ∀ t : Fin grid3.N, win3_2.index t 0 = t.val / 11 ∧ win3_2.index t 1 = 0 := by decide +kernel
theorem idx3_3 : ∀ t : Fin grid3.N, win3_3.index t 0 = t.val / 11 ∧ win3_3.index t 1 = 0 := by decide +kernel

theorem down_step (u : Vec Ideal S1024x1024 .f32) (x : Vec Ideal S1024x256 .bf16) (y : Vec Ideal S256x1024 .bf16) (a b : Fin 1024) :
    k3_pay2 (F := Ideal) u x y (ix2 a b) = u (ix2 a b) + ∑ k : Fin 256, x (ix2 a k) * y (ix2 k b) := by pointwise [k3_pay2]

theorem down_start (i : S1024x1024.Idx) : k3_pay1 (F := Ideal) i = 0 := by pointwise [k3_pay1]

section
variable (hA : Holds (m := 8192) (n := 2816) (V c main_v2) A) (hB : Holds (m := 2816) (n := 1024) (V c main_arg4) B)
  (hD : Holds (m := 8192) (n := 1024) (V c main_arg0) D)

include hA in
theorem down_rows (t : Fin cfg3.N) :
    Holds (m := 1024) (n := 256) (staged V c cfg3 (0 : Fin 4) t) (fun r k => A (1024 * (t.val / 11) + r) (256 * (t.val % 11) + k)) := by
  obtain ⟨e0, e1⟩ := idx3_0 t
  refine hA.block ((cfg3.win 0).blk t).view.emb (fun y => (cfg3.win 0).fill_xinj _ _ _ y) fun y => ⟨?_, ?_⟩
  · blk_simp [e0]; omega
  · blk_simp [e1]; omega

include hB in
theorem down_cols (t : Fin cfg3.N) : Holds (m := 256) (n := 1024) (staged V c cfg3 (1 : Fin 4) t) (fun k d => B (256 * (t.val % 11) + k) (0 + d)) := by
  obtain ⟨e0, e1⟩ := idx3_1 t
  refine hB.block ((cfg3.win 1).blk t).view.emb (fun y => (cfg3.win 1).fill_xinj _ _ _ y) fun y => ⟨?_, ?_⟩
  · blk_simp [e0]; omega
  · blk_simp [e1]

include hD in
theorem down_added (t : Fin cfg3.N) : Holds (m := 1024) (n := 1024) (staged V c cfg3 (2 : Fin 4) t) (fun r d => D (1024 * (t.val / 11) + r) (0 + d)) := by
  obtain ⟨e0, e1⟩ := idx3_2 t
  refine hD.block ((cfg3.win 2).blk t).view.emb (fun y => (cfg3.win 2).fill_xinj _ _ _ y) fun y => ⟨?_, ?_⟩
  · blk_simp [e0]; omega
  · blk_simp [e1]

include hA hB in
theorem down_acc (t : Fin cfg3.N) (a b : Fin 1024) :
    down.acc V c t.val t.isLt (ix2 a b) = ∑ k ∈ range (256 * (t.val % 11 + 1)), A (1024 * (t.val / 11) + a.val) k * B k b.val :=
  accAt_sum (nk := 11) (tk := 256) _ _ _ (fun n k => A (1024 * n + a.val) k * B k b.val) (down_start _)
    (fun n h u => (down_step u _ _ a b).trans (congrArg _ (sum_axis fun k => (congrArg₂ (· * ·) (down_rows hA ⟨n, h⟩ a k) (down_cols hB ⟨n, h⟩ k b)).trans
      (by simp only [Nat.zero_add])))) t.val t.isLt

include hA hB hD in
theorem down_array : Holds (m := 8192) (n := 1024) ((down.dat V c).arrAt (3 : Fin 4) cfg3.N)
    (fun r d => D r d + ∑ k ∈ range 2816, A r k * B k d) := by
  have e : (down.dat V c).arrAt (3 : Fin 4) cfg3.N = fun i => D (i 0).val (i 1).val + ∑ k ∈ range 2816, A (i 0).val k * B k (i 1).val := by
    refine (down.dat V c).arrAt_eq_of_covers (3 : Fin 4) _ (by decide +kernel) fun t hf y => ?_
    obtain ⟨e0, e1⟩ := idx3_3 t
    have hl : t.val % 11 = 10 := (flush3_3 t).mp hf
    blk_simp [e0, e1]
    refine (congrFun (down.after_out V c t) y).trans ((congrArg _ (eq_ix2 y)).trans
      ((congrArg₂ (fun x y : EReal => x + y) (down_acc hA hB t (y 0) (y 1)) (down_added hD t (y 0) (y 1))).trans ?_))
    simp only [hl, Nat.zero_add, Nat.mul_comm 1024]
    exact add_comm (G := EReal) _ _
  rw [e]
  exact fun a b => rfl
end

end Cert.Ffn

end
-- ==== Proof.Ffn.Value.Cotangents.lean ====
/- The elementwise calls and the product between them: the activation, its cotangent `dx2 · wdᵀ`, and the cotangents of the
   gate and of the up product. -/
module

public import proofs.«01_k».proof.Proof.Ffn.Value.Layer
public import proofs.«01_k».proof.Proof.Ffn.Products
public import proofs.«01_k».proof.Proof.Ffn.Pointwise
public import Idealize.ShloMosaic.Lib.Pipeline.ValueKit

@[expose] public section

set_option maxRecDepth 65536

noncomputable section

namespace Cert.Ffn

open Cert.Kernel2Ideal Cert.Kernel2Ideal.Gen
open Idealize.ShloMosaic Idealize.ShloMosaic.TcCoe Finset

variable {V : Contents Ideal} {c : Dev nD} {A B D : ℕ → ℕ → EReal}

theorem act_at (x y : Vec Ideal S256x2816 .f32) (a : Fin 256) (b : Fin 2816) :
    k2_pay1 (F := Ideal) x y (ix2 a b) = actOf (x (ix2 a b)) (y (ix2 a b)) := by pointwise [k2_pay1, actOf]

theorem gateCot_at (x y z : Vec Ideal S256x2816 .f32) (a : Fin 256) (b : Fin 2816) :
    k6_pay4 (F := Ideal) x y z (ix2 a b) = gateCot (x (ix2 a b)) (y (ix2 a b)) (z (ix2 a b)) := by
  pointwise [k6_pay4, k6_pay3, k6_pay2, k6_pay1, gateCot]

theorem upCot_at (x z : Vec Ideal S256x2816 .f32) (a : Fin 256) (b : Fin 2816) :
    k6_pay5 (F := Ideal) x z (ix2 a b) = upCot (x (ix2 a b)) (z (ix2 a b)) := by
  pointwise [k6_pay5, k6_pay3, k6_pay2, k6_pay1, upCot]

/-! ## The activation -/

theorem idx2_0 : ∀ t : Fin grid2.N, win2_0.index t 0 = t.val ∧ win2_0.index t 1 = 0 := by decide +kernel
theorem idx2_1 : ∀ t : Fin grid2.N, win2_1.index t 0 = t.val ∧ win2_1.index t 1 = 0 := by decide +kernel
theorem idx2_2 : ∀ t : Fin grid2.N, win2_2.index t 0 = t.val ∧ win2_2.index t 1 = 0 := by decide +kernel

section
variable (hA : Holds (m := 8192) (n := 2816) (V c main_v0) A) (hB : Holds (m := 8192) (n := 2816) (V c main_v1) B)

include hA in
theorem act_gate (t : Fin cfg2.N) : Holds (m := 256) (n := 2816) (staged V c cfg2 (0 : Fin 3) t) (fun r d => A (256 * t.val + r) (0 + d)) := by
  obtain ⟨e0, e1⟩ := idx2_0 t
  refine hA.block ((cfg2.win 0).blk t).view.emb (fun y => (cfg2.win 0).fill_xinj _ _ _ y) fun y => ⟨?_, ?_⟩
  · blk_simp [e0]; omega
  · blk_simp [e1]

include hB in
theorem act_up (t : Fin cfg2.N) : Holds (m := 256) (n := 2816) (staged V c cfg2 (1 : Fin 3) t) (fun r d => B (256 * t.val + r) (0 + d)) := by
  obtain ⟨e0, e1⟩ := idx2_1 t
  refine hB.block ((cfg2.win 1).blk t).view.emb (fun y => (cfg2.win 1).fill_xinj _ _ _ y) fun y => ⟨?_, ?_⟩
  · blk_simp [e0]; omega
  · blk_simp [e1]

include hA hB in
theorem act_array : Holds (m := 8192) (n := 2816) ((actDat V c).arrAt (2 : Fin 3) cfg2.N) (fun r d => actOf (A r d) (B r d)) := by
  have e : (actDat V c).arrAt (2 : Fin 3) cfg2.N = fun i => actOf (A (i 0).val (i 1).val) (B (i 0).val (i 1).val) := by
    refine (actDat V c).arrAt_eq_of_covers (2 : Fin 3) _ (by decide +kernel) fun t hf y => ?_
    obtain ⟨e0, e1⟩ := idx2_2 t
    blk_simp [e0, e1]
    refine (congrFun (actAfter_out V c t) y).trans ((congrArg _ (eq_ix2 y)).trans ((act_at _ _ (y 0) (y 1)).trans
      ((congrArg₂ actOf (act_gate hA t (y 0) (y 1)) (act_up hB t (y 0) (y 1))).trans ?_)))
    simp only [Nat.zero_add, Nat.mul_comm 256]
  rw [e]
  exact fun a b => rfl
end

/-! ## The activation's cotangent -/

theorem idx4_0 : ∀ t : Fin grid4.N, win4_0.index t 0 = t.val % 8 ∧ win4_0.index t 1 = 0 := by decide +kernel
theorem idx4_1 : ∀ t : Fin grid4.N, win4_1.index t 0 = t.val / 8 ∧ win4_1.index t 1 = 0 := by decide +kernel
theorem idx4_2 : ∀ t : Fin grid4.N, win4_2.index t 0 = t.val % 8 ∧ win4_2.index t 1 = t.val / 8 := by decide +kernel

theorem dAct_step (u : Vec Ideal S1024x1408 .f32) (x : Vec Ideal S1024x1024 .f32) (y : Vec Ideal S1408x1024 .bf16) (a : Fin 1024) (b : Fin 1408) :
    k4_pay2 (F := Ideal) u x y (ix2 a b) = u (ix2 a b) + ∑ k : Fin 1024, x (ix2 a k) * y (ix2 b k) := by pointwise [k4_pay2]

theorem dAct_start (i : S1024x1408.Idx) : k4_pay1 (F := Ideal) i = 0 := by pointwise [k4_pay1]

section
variable (hA : Holds (m := 8192) (n := 1024) (V c main_arg5) A) (hB : Holds (m := 2816) (n := 1024) (V c main_arg4) B)

include hA in
theorem dAct_rows (t : Fin cfg4.N) : Holds (m := 1024) (n := 1024) (staged V c cfg4 (0 : Fin 3) t) (fun r k => A (1024 * (t.val % 8) + r) (0 + k)) := by
  obtain ⟨e0, e1⟩ := idx4_0 t
  refine hA.block ((cfg4.win 0).blk t).view.emb (fun y => (cfg4.win 0).fill_xinj _ _ _ y) fun y => ⟨?_, ?_⟩
  · blk_simp [e0]; omega
  · blk_simp [e1]

include hB in
theorem dAct_cols (t : Fin cfg4.N) : Holds (m := 1408) (n := 1024) (staged V c cfg4 (1 : Fin 3) t) (fun d k => B (1408 * (t.val / 8) + d) (0 + k)) := by
  obtain ⟨e0, e1⟩ := idx4_1 t
  refine hB.block ((cfg4.win 1).blk t).view.emb (fun y => (cfg4.win 1).fill_xinj _ _ _ y) fun y => ⟨?_, ?_⟩
  · blk_simp [e0]; omega
  · blk_simp [e1]

include hA hB in
theorem dAct_acc (t : Fin cfg4.N) (a : Fin 1024) (b : Fin 1408) :
    dAct.acc V c t.val t.isLt (ix2 a b) = ∑ k ∈ range 1024, A (1024 * (t.val % 8) + a.val) k * B (1408 * (t.val / 8) + b.val) k :=
  (accAt_sum (nk := 1) (tk := 1024) _ _ _ (fun n k => A (1024 * (n % 8) + a.val) k * B (1408 * (n / 8) + b.val) k) (dAct_start _)
    (fun n h u => (dAct_step u _ _ a b).trans (congrArg _ (sum_axis fun k => (congrArg₂ (· * ·) (dAct_rows hA ⟨n, h⟩ a k) (dAct_cols hB ⟨n, h⟩ b k)).trans
      (by simp [Nat.mod_one])))) t.val t.isLt).trans (by simp [Nat.mod_one])

include hA hB in
theorem dAct_array : Holds (m := 8192) (n := 2816) ((dAct.dat V c).arrAt (2 : Fin 3) cfg4.N) (fun r d => ∑ k ∈ range 1024, A r k * B d k) := by
  have e : (dAct.dat V c).arrAt (2 : Fin 3) cfg4.N = fun i => ∑ k ∈ range 1024, A (i 0).val k * B (i 1).val k := by
    refine (dAct.dat V c).arrAt_eq_of_covers (2 : Fin 3) _ (by decide +kernel) fun t hf y => ?_
    obtain ⟨e0, e1⟩ := idx4_2 t
    blk_simp [e0, e1]
    refine (congrFun (dAct.after_out V c t) y).trans ((congrArg _ (eq_ix2 y)).trans ((dAct_acc hA hB t (y 0) (y 1)).trans ?_))
    rw [Nat.mul_comm 1024, Nat.mul_comm 1408]
  rw [e]
  exact fun a b => rfl
end

/-! ## The two cotangents -/

theorem idx6_0 : ∀ t : Fin grid6.N, win6_0.index t 0 = t.val ∧ win6_0.index t 1 = 0 := by decide +kernel
theorem idx6_1 : ∀ t : Fin grid6.N, win6_1.index t 0 = t.val ∧ win6_1.index t 1 = 0 := by decide +kernel
theorem idx6_2 : ∀ t : Fin grid6.N, win6_2.index t 0 = t.val ∧ win6_2.index t 1 = 0 := by decide +kernel
theorem idx6_3 : ∀ t : Fin grid6.N, win6_3.index t 0 = t.val ∧ win6_3.index t 1 = 0 := by decide +kernel
theorem idx6_4 : ∀ t : Fin grid6.N, win6_4.index t 0 = t.val ∧ win6_4.index t 1 = 0 := by decide +kernel

section
variable (hA : Holds (m := 8192) (n := 2816) (V c main_v0) A) (hB : Holds (m := 8192) (n := 2816) (V c main_v1) B)
  (hD : Holds (m := 8192) (n := 2816) (V c main_v4) D)

include hA in
theorem cot_gate (t : Fin cfg6.N) : Holds (m := 256) (n := 2816) (staged V c cfg6 (0 : Fin 5) t) (fun r d => A (256 * t.val + r) (0 + d)) := by
  obtain ⟨e0, e1⟩ := idx6_0 t
  refine hA.block ((cfg6.win 0).blk t).view.emb (fun y => (cfg6.win 0).fill_xinj _ _ _ y) fun y => ⟨?_, ?_⟩
  · blk_simp [e0]; omega
  · blk_simp [e1]

include hB in
theorem cot_up (t : Fin cfg6.N) : Holds (m := 256) (n := 2816) (staged V c cfg6 (1 : Fin 5) t) (fun r d => B (256 * t.val + r) (0 + d)) := by
  obtain ⟨e0, e1⟩ := idx6_1 t
  refine hB.block ((cfg6.win 1).blk t).view.emb (fun y => (cfg6.win 1).fill_xinj _ _ _ y) fun y => ⟨?_, ?_⟩
  · blk_simp [e0]; omega
  · blk_simp [e1]

include hD in
theorem cot_dAct (t : Fin cfg6.N) : Holds (m := 256) (n := 2816) (staged V c cfg6 (2 : Fin 5) t) (fun r d => D (256 * t.val + r) (0 + d)) := by
  obtain ⟨e0, e1⟩ := idx6_2 t
  refine hD.block ((cfg6.win 2).blk t).view.emb (fun y => (cfg6.win 2).fill_xinj _ _ _ y) fun y => ⟨?_, ?_⟩
  · blk_simp [e0]; omega
  · blk_simp [e1]

include hA hB hD in
theorem gateCot_array : Holds (m := 8192) (n := 2816) ((cotDat V c).arrAt (3 : Fin 5) cfg6.N) (fun r d => gateCot (A r d) (B r d) (D r d)) := by
  have e : (cotDat V c).arrAt (3 : Fin 5) cfg6.N
      = fun i => gateCot (A (i 0).val (i 1).val) (B (i 0).val (i 1).val) (D (i 0).val (i 1).val) := by
    refine (cotDat V c).arrAt_eq_of_covers (3 : Fin 5) _ (by decide +kernel) fun t hf y => ?_
    obtain ⟨e0, e1⟩ := idx6_3 t
    blk_simp [e0, e1]
    refine (congrFun (cotAfter_gate V c t) y).trans ((congrArg _ (eq_ix2 y)).trans ((gateCot_at _ _ _ (y 0) (y 1)).trans
      ((congr (congrArg₂ gateCot (cot_gate hA t (y 0) (y 1)) (cot_up hB t (y 0) (y 1))) (cot_dAct hD t (y 0) (y 1))).trans ?_)))
    simp only [Nat.zero_add, Nat.mul_comm 256]
  rw [e]
  exact fun a b => rfl

include hA hD in
theorem upCot_array : Holds (m := 8192) (n := 2816) ((cotDat V c).arrAt (4 : Fin 5) cfg6.N) (fun r d => upCot (A r d) (D r d)) := by
  have e : (cotDat V c).arrAt (4 : Fin 5) cfg6.N = fun i => upCot (A (i 0).val (i 1).val) (D (i 0).val (i 1).val) := by
    refine (cotDat V c).arrAt_eq_of_covers (4 : Fin 5) _ (by decide +kernel) fun t hf y => ?_
    obtain ⟨e0, e1⟩ := idx6_4 t
    blk_simp [e0, e1]
    refine (congrFun (cotAfter_up V c t) y).trans ((congrArg _ (eq_ix2 y)).trans ((upCot_at _ _ (y 0) (y 1)).trans
      ((congrArg₂ upCot (cot_gate hA t (y 0) (y 1)) (cot_dAct hD t (y 0) (y 1))).trans ?_)))
    simp only [Nat.zero_add, Nat.mul_comm 256]
  rw [e]
  exact fun a b => rfl
end

end Cert.Ffn

end
-- ==== Proof.Ffn.Value.Gradients.lean ====
/- The backward calls' last products: the gradients of the three weights and of the sublayer's input. -/
module

public import proofs.«01_k».proof.Proof.Ffn.Value.Sums
public import proofs.«01_k».proof.Proof.Ffn.Products
public import Idealize.ShloMosaic.Lib.Pipeline.ValueKit

@[expose] public section

set_option maxRecDepth 65536

noncomputable section

namespace Cert.Ffn

open Cert.Kernel2Ideal Cert.Kernel2Ideal.Gen
open Idealize.ShloMosaic Idealize.ShloMosaic.TcCoe Finset

variable {V : Contents Ideal} {c : Dev nD} {A B D : ℕ → ℕ → EReal}

/-! ## The down weight's gradient -/

theorem idx5_0 : ∀ t : Fin grid5.N, win5_0.index t 0 = t.val % 8 ∧ win5_0.index t 1 = t.val / 8 := by decide +kernel
theorem idx5_1 : ∀ t : Fin grid5.N, win5_1.index t 0 = t.val % 8 ∧ win5_1.index t 1 = 0 := by decide +kernel
theorem idx5_2 : ∀ t : Fin grid5.N, win5_2.index t 0 = t.val / 8 ∧ win5_2.index t 1 = 0 := by decide +kernel

theorem dDown_step (u : Vec Ideal S1408x1024 .f32) (x : Vec Ideal S1024x1408 .bf16) (y : Vec Ideal S1024x1024 .f32) (a : Fin 1408) (b : Fin 1024) :
    k5_pay2 (F := Ideal) u x y (ix2 a b) = u (ix2 a b) + ∑ k : Fin 1024, x (ix2 k a) * y (ix2 k b) := by pointwise [k5_pay2]

theorem dDown_start (i : S1408x1024.Idx) : k5_pay1 (F := Ideal) i = 0 := by pointwise [k5_pay1]

section
variable (hA : Holds (m := 8192) (n := 2816) (V c main_v2) A) (hB : Holds (m := 8192) (n := 1024) (V c main_arg5) B)

include hA in
theorem dDown_rows (t : Fin cfg5.N) :
    Holds (m := 1024) (n := 1408) (staged V c cfg5 (0 : Fin 3) t) (fun k d => A (1024 * (t.val % 8) + k) (1408 * (t.val / 8) + d)) := by
  obtain ⟨e0, e1⟩ := idx5_0 t
  refine hA.block ((cfg5.win 0).blk t).view.emb (fun y => (cfg5.win 0).fill_xinj _ _ _ y) fun y => ⟨?_, ?_⟩
  · blk_simp [e0]; omega
  · blk_simp [e1]; omega

include hB in
theorem dDown_cols (t : Fin cfg5.N) : Holds (m := 1024) (n := 1024) (staged V c cfg5 (1 : Fin 3) t) (fun k d => B (1024 * (t.val % 8) + k) (0 + d)) := by
  obtain ⟨e0, e1⟩ := idx5_1 t
  refine hB.block ((cfg5.win 1).blk t).view.emb (fun y => (cfg5.win 1).fill_xinj _ _ _ y) fun y => ⟨?_, ?_⟩
  · blk_simp [e0]; omega
  · blk_simp [e1]

include hA hB in
theorem dDown_acc (t : Fin cfg5.N) (a : Fin 1408) (b : Fin 1024) :
    dDown.acc V c t.val t.isLt (ix2 a b) = ∑ k ∈ range (1024 * (t.val % 8 + 1)), A k (1408 * (t.val / 8) + a.val) * B k b.val :=
  accAt_sum (nk := 8) (tk := 1024) _ _ _ (fun n k => A k (1408 * n + a.val) * B k b.val) (dDown_start _)
    (fun n h u => (dDown_step u _ _ a b).trans (congrArg _ (sum_axis fun k => (congrArg₂ (· * ·) (dDown_rows hA ⟨n, h⟩ k a) (dDown_cols hB ⟨n, h⟩ k b)).trans
      (by simp only [Nat.zero_add])))) t.val t.isLt

include hA hB in
theorem dDown_array : Holds (m := 2816) (n := 1024) ((dDown.dat V c).arrAt (2 : Fin 3) cfg5.N) (fun d r => ∑ k ∈ range 8192, A k d * B k r) := by
  have e : (dDown.dat V c).arrAt (2 : Fin 3) cfg5.N = fun i => ∑ k ∈ range 8192, A k (i 0).val * B k (i 1).val := by
    refine (dDown.dat V c).arrAt_eq_of_covers (2 : Fin 3) _ (by decide +kernel) fun t hf y => ?_
    obtain ⟨e0, e1⟩ := idx5_2 t
    have hl : t.val % 8 = 7 := (flush5_2 t).mp hf
    blk_simp [e0, e1]
    refine (congrFun (dDown.after_out V c t) y).trans ((congrArg _ (eq_ix2 y)).trans ((dDown_acc hA hB t (y 0) (y 1)).trans ?_))
    rw [hl, Nat.mul_comm 1408]
  rw [e]
  exact fun a b => rfl
end

/-! ## The gate's share of the input's gradient -/

theorem idx7_0 : ∀ t : Fin grid7.N, win7_0.index t 0 = t.val / 11 ∧ win7_0.index t 1 = t.val % 11 := by decide +kernel
theorem idx7_1 : ∀ t : Fin grid7.N, win7_1.index t 0 = 0 ∧ win7_1.index t 1 = t.val % 11 := by decide +kernel
theorem idx7_2 : ∀ t : Fin grid7.N, win7_2.index t 0 = t.val / 11 ∧ win7_2.index t 1 = 0 := by decide +kernel

theorem dInGate_step (u : Vec Ideal S1024x1024 .f32) (x y : Vec Ideal S1024x256 .bf16) (a b : Fin 1024) :
    k7_pay2 (F := Ideal) u x y (ix2 a b) = u (ix2 a b) + ∑ k : Fin 256, x (ix2 a k) * y (ix2 b k) := by pointwise [k7_pay2]

theorem dInGate_start (i : S1024x1024.Idx) : k7_pay1 (F := Ideal) i = 0 := by pointwise [k7_pay1]

section
variable (hA : Holds (m := 8192) (n := 2816) (V c main_v6_0) A) (hB : Holds (m := 1024) (n := 2816) (V c main_arg2) B)

include hA in
theorem dInGate_rows (t : Fin cfg7.N) :
    Holds (m := 1024) (n := 256) (staged V c cfg7 (0 : Fin 3) t) (fun r k => A (1024 * (t.val / 11) + r) (256 * (t.val % 11) + k)) := by
  obtain ⟨e0, e1⟩ := idx7_0 t
  refine hA.block ((cfg7.win 0).blk t).view.emb (fun y => (cfg7.win 0).fill_xinj _ _ _ y) fun y => ⟨?_, ?_⟩
  · blk_simp [e0]; omega
  · blk_simp [e1]; omega

include hB in
theorem dInGate_cols (t : Fin cfg7.N) : Holds (m := 1024) (n := 256) (staged V c cfg7 (1 : Fin 3) t) (fun d k => B (0 + d) (256 * (t.val % 11) + k)) := by
  obtain ⟨e0, e1⟩ := idx7_1 t
  refine hB.block ((cfg7.win 1).blk t).view.emb (fun y => (cfg7.win 1).fill_xinj _ _ _ y) fun y => ⟨?_, ?_⟩
  · blk_simp [e0]
  · blk_simp [e1]; omega

include hA hB in
theorem dInGate_acc (t : Fin cfg7.N) (a b : Fin 1024) :
    dInGate.acc V c t.val t.isLt (ix2 a b) = ∑ k ∈ range (256 * (t.val % 11 + 1)), A (1024 * (t.val / 11) + a.val) k * B b.val k :=
  accAt_sum (nk := 11) (tk := 256) _ _ _ (fun n k => A (1024 * n + a.val) k * B b.val k) (dInGate_start _)
    (fun n h u => (dInGate_step u _ _ a b).trans (congrArg _ (sum_axis fun k => (congrArg₂ (· * ·) (dInGate_rows hA ⟨n, h⟩ a k) (dInGate_cols hB ⟨n, h⟩ b k)).trans
      (by simp only [Nat.zero_add])))) t.val t.isLt

include hA hB in
theorem dInGate_array : Holds (m := 8192) (n := 1024) ((dInGate.dat V c).arrAt (2 : Fin 3) cfg7.N) (fun r d => ∑ k ∈ range 2816, A r k * B d k) := by
  have e : (dInGate.dat V c).arrAt (2 : Fin 3) cfg7.N = fun i => ∑ k ∈ range 2816, A (i 0).val k * B (i 1).val k := by
    refine (dInGate.dat V c).arrAt_eq_of_covers (2 : Fin 3) _ (by decide +kernel) fun t hf y => ?_
    obtain ⟨e0, e1⟩ := idx7_2 t
    have hl : t.val % 11 = 10 := (flush7_2 t).mp hf
    blk_simp [e0, e1]
    refine (congrFun (dInGate.after_out V c t) y).trans ((congrArg _ (eq_ix2 y)).trans ((dInGate_acc hA hB t (y 0) (y 1)).trans ?_))
    rw [hl, Nat.mul_comm 1024]
  rw [e]
  exact fun a b => rfl
end

/-! ## The input's gradient -/

theorem idx8_0 : ∀ t : Fin grid8.N, win8_0.index t 0 = t.val / 11 ∧ win8_0.index t 1 = t.val % 11 := by decide +kernel
theorem idx8_1 : ∀ t : Fin grid8.N, win8_1.index t 0 = 0 ∧ win8_1.index t 1 = t.val % 11 := by decide +kernel
theorem idx8_2 : ∀ t : Fin grid8.N, win8_2.index t 0 = t.val / 11 ∧ win8_2.index t 1 = 0 := by decide +kernel
theorem idx8_3 : ∀ t : Fin grid8.N, win8_3.index t 0 = t.val / 11 ∧ win8_3.index t 1 = 0 := by decide +kernel

theorem dIn_step (u : Vec Ideal S1024x1024 .f32) (x y : Vec Ideal S1024x256 .bf16) (a b : Fin 1024) :
    k8_pay2 (F := Ideal) u x y (ix2 a b) = u (ix2 a b) + ∑ k : Fin 256, x (ix2 a k) * y (ix2 b k) := by pointwise [k8_pay2]

theorem dIn_start (i : S1024x1024.Idx) : k8_pay1 (F := Ideal) i = 0 := by pointwise [k8_pay1]

theorem dIn_add (u w : Vec Ideal S1024x1024 .f32) (a b : Fin 1024) :
    k8_pay3 (F := Ideal) u w (ix2 a b) = u (ix2 a b) + w (ix2 a b) := by pointwise [k8_pay3]

section
variable (hA : Holds (m := 8192) (n := 2816) (V c main_v6_1) A) (hB : Holds (m := 1024) (n := 2816) (V c main_arg3) B)
  (hD : Holds (m := 8192) (n := 1024) (V c main_v7) D)

include hA in
theorem dIn_rows (t : Fin cfg8.N) :
    Holds (m := 1024) (n := 256) (staged V c cfg8 (0 : Fin 4) t) (fun r k => A (1024 * (t.val / 11) + r) (256 * (t.val % 11) + k)) := by
  obtain ⟨e0, e1⟩ := idx8_0 t
  refine hA.block ((cfg8.win 0).blk t).view.emb (fun y => (cfg8.win 0).fill_xinj _ _ _ y) fun y => ⟨?_, ?_⟩
  · blk_simp [e0]; omega
  · blk_simp [e1]; omega

include hB in
theorem dIn_cols (t : Fin cfg8.N) : Holds (m := 1024) (n := 256) (staged V c cfg8 (1 : Fin 4) t) (fun d k => B (0 + d) (256 * (t.val % 11) + k)) := by
  obtain ⟨e0, e1⟩ := idx8_1 t
  refine hB.block ((cfg8.win 1).blk t).view.emb (fun y => (cfg8.win 1).fill_xinj _ _ _ y) fun y => ⟨?_, ?_⟩
  · blk_simp [e0]
  · blk_simp [e1]; omega

include hD in
theorem dIn_added (t : Fin cfg8.N) : Holds (m := 1024) (n := 1024) (staged V c cfg8 (2 : Fin 4) t) (fun r d => D (1024 * (t.val / 11) + r) (0 + d)) := by
  obtain ⟨e0, e1⟩ := idx8_2 t
  refine hD.block ((cfg8.win 2).blk t).view.emb (fun y => (cfg8.win 2).fill_xinj _ _ _ y) fun y => ⟨?_, ?_⟩
  · blk_simp [e0]; omega
  · blk_simp [e1]

include hA hB in
theorem dIn_acc (t : Fin cfg8.N) (a b : Fin 1024) :
    dIn.acc V c t.val t.isLt (ix2 a b) = ∑ k ∈ range (256 * (t.val % 11 + 1)), A (1024 * (t.val / 11) + a.val) k * B b.val k :=
  accAt_sum (nk := 11) (tk := 256) _ _ _ (fun n k => A (1024 * n + a.val) k * B b.val k) (dIn_start _)
    (fun n h u => (dIn_step u _ _ a b).trans (congrArg _ (sum_axis fun k => (congrArg₂ (· * ·) (dIn_rows hA ⟨n, h⟩ a k) (dIn_cols hB ⟨n, h⟩ b k)).trans
      (by simp only [Nat.zero_add])))) t.val t.isLt

include hA hB hD in
theorem dIn_array : Holds (m := 8192) (n := 1024) ((dIn.dat V c).arrAt (3 : Fin 4) cfg8.N)
    (fun r d => ∑ k ∈ range 2816, A r k * B d k + D r d) := by
  have e : (dIn.dat V c).arrAt (3 : Fin 4) cfg8.N = fun i => ∑ k ∈ range 2816, A (i 0).val k * B (i 1).val k + D (i 0).val (i 1).val := by
    refine (dIn.dat V c).arrAt_eq_of_covers (3 : Fin 4) _ (by decide +kernel) fun t hf y => ?_
    obtain ⟨e0, e1⟩ := idx8_3 t
    have hl : t.val % 11 = 10 := (flush8_3 t).mp hf
    blk_simp [e0, e1]
    refine (congrFun (dIn.after_out V c t) y).trans ((congrArg _ (eq_ix2 y)).trans ((dIn_add _ _ (y 0) (y 1)).trans
      ((congrArg₂ (fun x y : EReal => x + y) (dIn_acc hA hB t (y 0) (y 1)) (dIn_added hD t (y 0) (y 1))).trans ?_)))
    simp only [hl, Nat.zero_add, Nat.mul_comm 1024]
  rw [e]
  exact fun a b => rfl
end

/-! ## The gate weight's gradient -/

theorem idx9_0 : ∀ t : Fin grid9.N, win9_0.index t 0 = t.val % 8 ∧ win9_0.index t 1 = 0 := by decide +kernel
theorem idx9_1 : ∀ t : Fin grid9.N, win9_1.index t 0 = t.val % 8 ∧ win9_1.index t 1 = t.val / 8 := by decide +kernel
theorem idx9_2 : ∀ t : Fin grid9.N, win9_2.index t 0 = 0 ∧ win9_2.index t 1 = t.val / 8 := by decide +kernel

theorem dGate_step (u : Vec Ideal S1024x1408 .f32) (x : Vec Ideal S1024x1024 .bf16) (y : Vec Ideal S1024x1408 .bf16) (a : Fin 1024) (b : Fin 1408) :
    k9_pay2 (F := Ideal) u x y (ix2 a b) = u (ix2 a b) + ∑ k : Fin 1024, x (ix2 k a) * y (ix2 k b) := by pointwise [k9_pay2]

theorem dGate_start (i : S1024x1408.Idx) : k9_pay1 (F := Ideal) i = 0 := by pointwise [k9_pay1]

section
variable (hA : Holds (m := 8192) (n := 1024) (V c main_arg1) A) (hB : Holds (m := 8192) (n := 2816) (V c main_v6_0) B)

include hA in
theorem dGate_rows (t : Fin cfg9.N) : Holds (m := 1024) (n := 1024) (staged V c cfg9 (0 : Fin 3) t) (fun k r => A (1024 * (t.val % 8) + k) (0 + r)) := by
  obtain ⟨e0, e1⟩ := idx9_0 t
  refine hA.block ((cfg9.win 0).blk t).view.emb (fun y => (cfg9.win 0).fill_xinj _ _ _ y) fun y => ⟨?_, ?_⟩
  · blk_simp [e0]; omega
  · blk_simp [e1]

include hB in
theorem dGate_cols (t : Fin cfg9.N) :
    Holds (m := 1024) (n := 1408) (staged V c cfg9 (1 : Fin 3) t) (fun k d => B (1024 * (t.val % 8) + k) (1408 * (t.val / 8) + d)) := by
  obtain ⟨e0, e1⟩ := idx9_1 t
  refine hB.block ((cfg9.win 1).blk t).view.emb (fun y => (cfg9.win 1).fill_xinj _ _ _ y) fun y => ⟨?_, ?_⟩
  · blk_simp [e0]; omega
  · blk_simp [e1]; omega

include hA hB in
theorem dGate_acc (t : Fin cfg9.N) (a : Fin 1024) (b : Fin 1408) :
    dGate.acc V c t.val t.isLt (ix2 a b) = ∑ k ∈ range (1024 * (t.val % 8 + 1)), A k a.val * B k (1408 * (t.val / 8) + b.val) :=
  accAt_sum (nk := 8) (tk := 1024) _ _ _ (fun n k => A k a.val * B k (1408 * n + b.val)) (dGate_start _)
    (fun n h u => (dGate_step u _ _ a b).trans (congrArg _ (sum_axis fun k => (congrArg₂ (· * ·) (dGate_rows hA ⟨n, h⟩ k a) (dGate_cols hB ⟨n, h⟩ k b)).trans
      (by simp only [Nat.zero_add])))) t.val t.isLt

include hA hB in
theorem dGate_array : Holds (m := 1024) (n := 2816) ((dGate.dat V c).arrAt (2 : Fin 3) cfg9.N) (fun r d => ∑ k ∈ range 8192, A k r * B k d) := by
  have e : (dGate.dat V c).arrAt (2 : Fin 3) cfg9.N = fun i => ∑ k ∈ range 8192, A k (i 0).val * B k (i 1).val := by
    refine (dGate.dat V c).arrAt_eq_of_covers (2 : Fin 3) _ (by decide +kernel) fun t hf y => ?_
    obtain ⟨e0, e1⟩ := idx9_2 t
    have hl : t.val % 8 = 7 := (flush9_2 t).mp hf
    blk_simp [e0, e1]
    refine (congrFun (dGate.after_out V c t) y).trans ((congrArg _ (eq_ix2 y)).trans ((dGate_acc hA hB t (y 0) (y 1)).trans ?_))
    rw [hl, Nat.mul_comm 1408]
  rw [e]
  exact fun a b => rfl
end

/-! ## The up weight's gradient -/

theorem idx10_0 : ∀ t : Fin grid10.N, win10_0.index t 0 = t.val % 8 ∧ win10_0.index t 1 = 0 := by decide +kernel
theorem idx10_1 : ∀ t : Fin grid10.N, win10_1.index t 0 = t.val % 8 ∧ win10_1.index t 1 = t.val / 8 := by decide +kernel
theorem idx10_2 : ∀ t : Fin grid10.N, win10_2.index t 0 = 0 ∧ win10_2.index t 1 = t.val / 8 := by decide +kernel

theorem dUp_step (u : Vec Ideal S1024x1408 .f32) (x : Vec Ideal S1024x1024 .bf16) (y : Vec Ideal S1024x1408 .bf16) (a : Fin 1024) (b : Fin 1408) :
    k10_pay2 (F := Ideal) u x y (ix2 a b) = u (ix2 a b) + ∑ k : Fin 1024, x (ix2 k a) * y (ix2 k b) := by pointwise [k10_pay2]

theorem dUp_start (i : S1024x1408.Idx) : k10_pay1 (F := Ideal) i = 0 := by pointwise [k10_pay1]

section
variable (hA : Holds (m := 8192) (n := 1024) (V c main_arg1) A) (hB : Holds (m := 8192) (n := 2816) (V c main_v6_1) B)

include hA in
theorem dUp_rows (t : Fin cfg10.N) : Holds (m := 1024) (n := 1024) (staged V c cfg10 (0 : Fin 3) t) (fun k r => A (1024 * (t.val % 8) + k) (0 + r)) := by
  obtain ⟨e0, e1⟩ := idx10_0 t
  refine hA.block ((cfg10.win 0).blk t).view.emb (fun y => (cfg10.win 0).fill_xinj _ _ _ y) fun y => ⟨?_, ?_⟩
  · blk_simp [e0]; omega
  · blk_simp [e1]

include hB in
theorem dUp_cols (t : Fin cfg10.N) :
    Holds (m := 1024) (n := 1408) (staged V c cfg10 (1 : Fin 3) t) (fun k d => B (1024 * (t.val % 8) + k) (1408 * (t.val / 8) + d)) := by
  obtain ⟨e0, e1⟩ := idx10_1 t
  refine hB.block ((cfg10.win 1).blk t).view.emb (fun y => (cfg10.win 1).fill_xinj _ _ _ y) fun y => ⟨?_, ?_⟩
  · blk_simp [e0]; omega
  · blk_simp [e1]; omega

include hA hB in
theorem dUp_acc (t : Fin cfg10.N) (a : Fin 1024) (b : Fin 1408) :
    dUp.acc V c t.val t.isLt (ix2 a b) = ∑ k ∈ range (1024 * (t.val % 8 + 1)), A k a.val * B k (1408 * (t.val / 8) + b.val) :=
  accAt_sum (nk := 8) (tk := 1024) _ _ _ (fun n k => A k a.val * B k (1408 * n + b.val)) (dUp_start _)
    (fun n h u => (dUp_step u _ _ a b).trans (congrArg _ (sum_axis fun k => (congrArg₂ (· * ·) (dUp_rows hA ⟨n, h⟩ k a) (dUp_cols hB ⟨n, h⟩ k b)).trans
      (by simp only [Nat.zero_add])))) t.val t.isLt

include hA hB in
theorem dUp_array : Holds (m := 1024) (n := 2816) ((dUp.dat V c).arrAt (2 : Fin 3) cfg10.N) (fun r d => ∑ k ∈ range 8192, A k r * B k d) := by
  have e : (dUp.dat V c).arrAt (2 : Fin 3) cfg10.N = fun i => ∑ k ∈ range 8192, A k (i 0).val * B k (i 1).val := by
    refine (dUp.dat V c).arrAt_eq_of_covers (2 : Fin 3) _ (by decide +kernel) fun t hf y => ?_
    obtain ⟨e0, e1⟩ := idx10_2 t
    have hl : t.val % 8 = 7 := (flush10_2 t).mp hf
    blk_simp [e0, e1]
    refine (congrFun (dUp.after_out V c t) y).trans ((congrArg _ (eq_ix2 y)).trans ((dUp_acc hA hB t (y 0) (y 1)).trans ?_))
    rw [hl, Nat.mul_comm 1408]
  rw [e]
  exact fun a b => rfl
end

end Cert.Ffn

end
-- ==== Proof.Ffn.Value.Projection.lean ====
/- The first projection's three products: the projected rows, and the gradients of its input and of its weight. -/
module

public import proofs.«01_k».proof.Proof.Ffn.Value.Sums
public import proofs.«01_k».proof.Proof.Ffn.Projection
public import Idealize.ShloMosaic.Lib.Pipeline.ValueKit

@[expose] public section

set_option maxRecDepth 65536

noncomputable section

namespace Cert.Ffn

open Cert.Kernel2Ideal Cert.Kernel2Ideal.Gen
open Idealize.ShloMosaic Idealize.ShloMosaic.TcCoe Finset

variable {V : Contents Ideal} {c : Dev nD} {A B D : ℕ → ℕ → EReal}

/-! ## The projection -/

theorem idx11_0 : ∀ t : Fin grid11.N, win11_0.index t 0 = t.val / 8 ∧ win11_0.index t 1 = 0 := by decide +kernel
theorem idx11_1 : ∀ t : Fin grid11.N, win11_1.index t 0 = 0 ∧ win11_1.index t 1 = t.val % 8 := by decide +kernel
theorem idx11_2 : ∀ t : Fin grid11.N, win11_2.index t 0 = t.val / 8 ∧ win11_2.index t 1 = t.val % 8 := by decide +kernel

theorem proj_step (u : Vec Ideal S1024x1024 .f32) (x y : Vec Ideal S1024x1024 .bf16) (a b : Fin 1024) :
    k11_pay2 (F := Ideal) u x y (ix2 a b) = u (ix2 a b) + ∑ k : Fin 1024, x (ix2 a k) * y (ix2 k b) := by pointwise [k11_pay2]

theorem proj_start (i : S1024x1024.Idx) : k11_pay1 (F := Ideal) i = 0 := by pointwise [k11_pay1]

section
variable (hA : Holds (m := 8192) (n := 1024) (V c main_arg6) A) (hB : Holds (m := 1024) (n := 8192) (V c main_arg7) B)

include hA in
theorem proj_rows (t : Fin cfg11.N) :
    Holds (m := 1024) (n := 1024) (staged V c cfg11 (0 : Fin 3) t) (fun r k => A (1024 * (t.val / 8) + r) (0 + k)) := by
  obtain ⟨e0, e1⟩ := idx11_0 t
  refine hA.block ((cfg11.win 0).blk t).view.emb (fun y => (cfg11.win 0).fill_xinj _ _ _ y) fun y => ⟨?_, ?_⟩
  · blk_simp [e0]; omega
  · blk_simp [e1]

include hB in
theorem proj_cols (t : Fin cfg11.N) :
    Holds (m := 1024) (n := 1024) (staged V c cfg11 (1 : Fin 3) t) (fun k d => B (0 + k) (1024 * (t.val % 8) + d)) := by
  obtain ⟨e0, e1⟩ := idx11_1 t
  refine hB.block ((cfg11.win 1).blk t).view.emb (fun y => (cfg11.win 1).fill_xinj _ _ _ y) fun y => ⟨?_, ?_⟩
  · blk_simp [e0]
  · blk_simp [e1]; omega

include hA hB in
theorem proj_acc (t : Fin cfg11.N) (a b : Fin 1024) :
    proj.acc V c t.val t.isLt (ix2 a b) = ∑ k ∈ range 1024, A (1024 * (t.val / 8) + a.val) k * B k (1024 * (t.val % 8) + b.val) :=
  (accAt_sum (nk := 1) (tk := 1024) _ _ _ (fun n k => A (1024 * (n / 8) + a.val) k * B k (1024 * (n % 8) + b.val)) (proj_start _)
    (fun n h u => (proj_step u _ _ a b).trans (congrArg _ (sum_axis fun k => (congrArg₂ (· * ·) (proj_rows hA ⟨n, h⟩ a k) (proj_cols hB ⟨n, h⟩ k b)).trans
      (by simp [Nat.mod_one])))) t.val t.isLt).trans (by simp [Nat.mod_one])

include hA hB in
theorem proj_array : Holds (m := 8192) (n := 8192) ((proj.dat V c).arrAt (2 : Fin 3) cfg11.N) (fun r d => ∑ k ∈ range 1024, A r k * B k d) := by
  have e : (proj.dat V c).arrAt (2 : Fin 3) cfg11.N = fun i => ∑ k ∈ range 1024, A (i 0).val k * B k (i 1).val := by
    refine (proj.dat V c).arrAt_eq_of_covers (2 : Fin 3) _ (by decide +kernel) fun t hf y => ?_
    obtain ⟨e0, e1⟩ := idx11_2 t
    blk_simp [e0, e1]
    refine (congrFun (proj.after_out V c t) y).trans ((congrArg _ (eq_ix2 y)).trans ((proj_acc hA hB t (y 0) (y 1)).trans ?_))
    simp only [Nat.mul_comm 1024]
    rfl
  rw [e]
  exact fun a b => rfl
end

/-! ## The gradient of its input -/

theorem idx12_0 : ∀ t : Fin grid12.N, win12_0.index t 0 = t.val / 8 ∧ win12_0.index t 1 = t.val % 8 := by decide +kernel
theorem idx12_1 : ∀ t : Fin grid12.N, win12_1.index t 0 = 0 ∧ win12_1.index t 1 = t.val % 8 := by decide +kernel
theorem idx12_2 : ∀ t : Fin grid12.N, win12_2.index t 0 = t.val / 8 ∧ win12_2.index t 1 = 0 := by decide +kernel

theorem dProjIn_step (u : Vec Ideal S1024x1024 .f32) (x y : Vec Ideal S1024x1024 .bf16) (a b : Fin 1024) :
    k12_pay2 (F := Ideal) u x y (ix2 a b) = u (ix2 a b) + ∑ k : Fin 1024, x (ix2 a k) * y (ix2 b k) := by pointwise [k12_pay2]

theorem dProjIn_start (i : S1024x1024.Idx) : k12_pay1 (F := Ideal) i = 0 := by pointwise [k12_pay1]

section
variable (hA : Holds (m := 8192) (n := 8192) (V c main_arg8) A) (hB : Holds (m := 1024) (n := 8192) (V c main_arg7) B)

include hA in
theorem dProjIn_rows (t : Fin cfg12.N) :
    Holds (m := 1024) (n := 1024) (staged V c cfg12 (0 : Fin 3) t) (fun r k => A (1024 * (t.val / 8) + r) (1024 * (t.val % 8) + k)) := by
  obtain ⟨e0, e1⟩ := idx12_0 t
  refine hA.block ((cfg12.win 0).blk t).view.emb (fun y => (cfg12.win 0).fill_xinj _ _ _ y) fun y => ⟨?_, ?_⟩
  · blk_simp [e0]; omega
  · blk_simp [e1]; omega

include hB in
theorem dProjIn_cols (t : Fin cfg12.N) :
    Holds (m := 1024) (n := 1024) (staged V c cfg12 (1 : Fin 3) t) (fun d k => B (0 + d) (1024 * (t.val % 8) + k)) := by
  obtain ⟨e0, e1⟩ := idx12_1 t
  refine hB.block ((cfg12.win 1).blk t).view.emb (fun y => (cfg12.win 1).fill_xinj _ _ _ y) fun y => ⟨?_, ?_⟩
  · blk_simp [e0]
  · blk_simp [e1]; omega

include hA hB in
theorem dProjIn_acc (t : Fin cfg12.N) (a b : Fin 1024) :
    dProjIn.acc V c t.val t.isLt (ix2 a b) = ∑ k ∈ range (1024 * (t.val % 8 + 1)), A (1024 * (t.val / 8) + a.val) k * B b.val k :=
  accAt_sum (nk := 8) (tk := 1024) _ _ _ (fun n k => A (1024 * n + a.val) k * B b.val k) (dProjIn_start _)
    (fun n h u => (dProjIn_step u _ _ a b).trans (congrArg _ (sum_axis fun k => (congrArg₂ (· * ·) (dProjIn_rows hA ⟨n, h⟩ a k) (dProjIn_cols hB ⟨n, h⟩ b k)).trans
      (by simp only [Nat.zero_add])))) t.val t.isLt

include hA hB in
theorem dProjIn_array : Holds (m := 8192) (n := 1024) ((dProjIn.dat V c).arrAt (2 : Fin 3) cfg12.N) (fun r d => ∑ k ∈ range 8192, A r k * B d k) := by
  have e : (dProjIn.dat V c).arrAt (2 : Fin 3) cfg12.N = fun i => ∑ k ∈ range 8192, A (i 0).val k * B (i 1).val k := by
    refine (dProjIn.dat V c).arrAt_eq_of_covers (2 : Fin 3) _ (by decide +kernel) fun t hf y => ?_
    obtain ⟨e0, e1⟩ := idx12_2 t
    have hl : t.val % 8 = 7 := (flush12_2 t).mp hf
    blk_simp [e0, e1]
    refine (congrFun (dProjIn.after_out V c t) y).trans ((congrArg _ (eq_ix2 y)).trans ((dProjIn_acc hA hB t (y 0) (y 1)).trans ?_))
    rw [hl, Nat.mul_comm 1024 (t.val / 8)]
  rw [e]
  exact fun a b => rfl
end

/-! ## The gradient of its weight -/

theorem idx13_0 : ∀ t : Fin grid13.N, win13_0.index t 0 = t.val % 8 ∧ win13_0.index t 1 = 0 := by decide +kernel
theorem idx13_1 : ∀ t : Fin grid13.N, win13_1.index t 0 = t.val % 8 ∧ win13_1.index t 1 = t.val / 8 := by decide +kernel
theorem idx13_2 : ∀ t : Fin grid13.N, win13_2.index t 0 = 0 ∧ win13_2.index t 1 = t.val / 8 := by decide +kernel

theorem dProjWeight_step (u : Vec Ideal S1024x1024 .f32) (x y : Vec Ideal S1024x1024 .bf16) (a b : Fin 1024) :
    k13_pay2 (F := Ideal) u x y (ix2 a b) = u (ix2 a b) + ∑ k : Fin 1024, x (ix2 k a) * y (ix2 k b) := by pointwise [k13_pay2]

theorem dProjWeight_start (i : S1024x1024.Idx) : k13_pay1 (F := Ideal) i = 0 := by pointwise [k13_pay1]

section
variable (hA : Holds (m := 8192) (n := 1024) (V c main_arg6) A) (hB : Holds (m := 8192) (n := 8192) (V c main_arg8) B)

include hA in
theorem dProjWeight_rows (t : Fin cfg13.N) :
    Holds (m := 1024) (n := 1024) (staged V c cfg13 (0 : Fin 3) t) (fun k r => A (1024 * (t.val % 8) + k) (0 + r)) := by
  obtain ⟨e0, e1⟩ := idx13_0 t
  refine hA.block ((cfg13.win 0).blk t).view.emb (fun y => (cfg13.win 0).fill_xinj _ _ _ y) fun y => ⟨?_, ?_⟩
  · blk_simp [e0]; omega
  · blk_simp [e1]

include hB in
theorem dProjWeight_cols (t : Fin cfg13.N) :
    Holds (m := 1024) (n := 1024) (staged V c cfg13 (1 : Fin 3) t) (fun k d => B (1024 * (t.val % 8) + k) (1024 * (t.val / 8) + d)) := by
  obtain ⟨e0, e1⟩ := idx13_1 t
  refine hB.block ((cfg13.win 1).blk t).view.emb (fun y => (cfg13.win 1).fill_xinj _ _ _ y) fun y => ⟨?_, ?_⟩
  · blk_simp [e0]; omega
  · blk_simp [e1]; omega

include hA hB in
theorem dProjWeight_acc (t : Fin cfg13.N) (a b : Fin 1024) :
    dProjWeight.acc V c t.val t.isLt (ix2 a b) = ∑ k ∈ range (1024 * (t.val % 8 + 1)), A k a.val * B k (1024 * (t.val / 8) + b.val) :=
  accAt_sum (nk := 8) (tk := 1024) _ _ _ (fun n k => A k a.val * B k (1024 * n + b.val)) (dProjWeight_start _)
    (fun n h u => (dProjWeight_step u _ _ a b).trans (congrArg _ (sum_axis fun k => (congrArg₂ (· * ·) (dProjWeight_rows hA ⟨n, h⟩ k a) (dProjWeight_cols hB ⟨n, h⟩ k b)).trans
      (by simp only [Nat.zero_add])))) t.val t.isLt

include hA hB in
theorem dProjWeight_array : Holds (m := 1024) (n := 8192) ((dProjWeight.dat V c).arrAt (2 : Fin 3) cfg13.N) (fun r d => ∑ k ∈ range 8192, A k r * B k d) := by
  have e : (dProjWeight.dat V c).arrAt (2 : Fin 3) cfg13.N = fun i => ∑ k ∈ range 8192, A k (i 0).val * B k (i 1).val := by
    refine (dProjWeight.dat V c).arrAt_eq_of_covers (2 : Fin 3) _ (by decide +kernel) fun t hf y => ?_
    obtain ⟨e0, e1⟩ := idx13_2 t
    have hl : t.val % 8 = 7 := (flush13_2 t).mp hf
    blk_simp [e0, e1]
    refine (congrFun (dProjWeight.after_out V c t) y).trans ((congrArg _ (eq_ix2 y)).trans ((dProjWeight_acc hA hB t (y 0) (y 1)).trans ?_))
    rw [hl, Nat.mul_comm 1024 (t.val / 8)]
  rw [e]
  exact fun a b => rfl
end

end Cert.Ffn

end
-- ==== Proof.Ffn.Value.Results.lean ====
/- The eight arrays the calls of the feed-forward sublayer and of the first projection leave are the reference's: both hold the same entries. -/
module

public import proofs.«01_k».proof.Proof.Ffn.Value.RefLayer
public import proofs.«01_k».proof.Proof.Ffn.Value.Forward
public import proofs.«01_k».proof.Proof.Ffn.Value.Cotangents
public import proofs.«01_k».proof.Proof.Ffn.Value.Gradients
public import proofs.«01_k».proof.Proof.Ffn.Value.Projection
public import proofs.«01_k».proof.Proof.Ffn.Contents

@[expose] public section

set_option maxRecDepth 16384

noncomputable section

namespace Cert.Ffn

open Cert.Kernel2Ideal Cert.Kernel2Ideal.Gen
open Idealize.ShloMosaic Idealize.ShloMosaic.TcCoe Finset

variable (m : (ℓ : Loc nD τ sig) → Buf (Elt Ideal) ℓ) (c : Dev nD) {x h wg wu wd dx : ℕ → ℕ → EReal}

/-- What a call before the cotangents finds in a buffer no call before it writes. -/
theorem val6_arg (b : Ref sig .tc) (hb : ∀ r ∈ [main_v0, main_v1, main_v2, main_v3, main_v4, main_v5], b ≠ r) : val6 m c b = val0 m c b := by
  rw [val6, put_of _ main_v5 _ c b (hb _ (by decide)), val5, put_of _ main_v4 _ c b (hb _ (by decide)), val4, put_of _ main_v3 _ c b (hb _ (by decide)),
    val3, put_of _ main_v2 _ c b (hb _ (by decide)), val2, put_of _ main_v1 _ c b (hb _ (by decide)), val1, put_of _ main_v0 _ c b (hb _ (by decide))]

/-- An array known by an equal one's entries. -/
theorem Holds.of_eq {p q : ℕ} {u v : (⟨2, ![p, q]⟩ : Shape).Idx → EReal} {f : ℕ → ℕ → EReal} (hv : Holds v f) (e : u = v) : Holds u f := e ▸ hv

section
variable (hx : Holds (m := 8192) (n := 1024) (val0 m c main_arg0) x) (hh : Holds (m := 8192) (n := 1024) (val0 m c main_arg1) h)
  (hg : Holds (m := 1024) (n := 2816) (val0 m c main_arg2) wg) (hu : Holds (m := 1024) (n := 2816) (val0 m c main_arg3) wu)
  (hd : Holds (m := 2816) (n := 1024) (val0 m c main_arg4) wd) (hdx : Holds (m := 8192) (n := 1024) (val0 m c main_arg5) dx)

/-! ## The forward calls -/

include hh hg in
theorem has_gate : Holds (m := 8192) (n := 2816) (val1 m c main_v0) (hidden h wg) :=
  (gate_array hh hg).of_eq (by rw [val1, put_self])

include hh hu in
theorem has_up : Holds (m := 8192) (n := 2816) (val2 m c main_v1) (hidden h wu) :=
  (up_array (V := entered (val1 m)) (hh.of_eq (by rw [entered, val1, put_of _ main_v0 _ c main_arg1 (by decide)]))
    (hu.of_eq (by rw [entered, val1, put_of _ main_v0 _ c main_arg3 (by decide)]))).of_eq (by rw [val2, put_self])

include hh hg hu in
theorem has_activation : Holds (m := 8192) (n := 2816) (val3 m c main_v2) (activation h wg wu) :=
  (act_array (V := entered (val2 m)) ((has_gate m c hh hg).of_eq (by rw [entered, val2, put_of _ main_v1 _ c main_v0 (by decide)]))
    (has_up m c hh hu)).of_eq (by rw [val3, put_self])

include hx hh hg hu hd in
theorem has_layer : Holds (m := 8192) (n := 1024) (val4 m c main_v3) (layer x h wg wu wd) := by
  have e (b : Ref sig .tc) (hb : ∀ r ∈ [main_v0, main_v1, main_v2], b ≠ r) : val3 m c b = val0 m c b := by
    rw [val3, put_of _ main_v2 _ c b (hb _ (by decide)), val2, put_of _ main_v1 _ c b (hb _ (by decide)), val1, put_of _ main_v0 _ c b (hb _ (by decide))]
  exact (down_array (V := entered (val3 m)) (has_activation m c hh hg hu) (hd.of_eq (e main_arg4 (by decide)))
    (hx.of_eq (e main_arg0 (by decide)))).of_eq (by rw [val4, put_self])

/-! ## The backward calls up to the cotangents -/

include hd hdx in
theorem has_dActivation : Holds (m := 8192) (n := 2816) (val5 m c main_v4) (dActivation wd dx) := by
  have e (b : Ref sig .tc) (hb : ∀ r ∈ [main_v0, main_v1, main_v2, main_v3], b ≠ r) : val4 m c b = val0 m c b := by
    rw [val4, put_of _ main_v3 _ c b (hb _ (by decide)), val3, put_of _ main_v2 _ c b (hb _ (by decide)), val2, put_of _ main_v1 _ c b (hb _ (by decide)),
      val1, put_of _ main_v0 _ c b (hb _ (by decide))]
  exact (dAct_array (V := entered (val4 m)) (hdx.of_eq (e main_arg5 (by decide))) (hd.of_eq (e main_arg4 (by decide)))).of_eq (by rw [val5, put_self])

include hh hg hu hdx in
theorem has_dWeightDown : Holds (m := 2816) (n := 1024) (val6 m c main_v5) (dWeightDown h wg wu dx) :=
  (dDown_array (V := entered (val5 m))
    ((has_activation m c hh hg hu).of_eq (by rw [entered, val5, put_of _ main_v4 _ c main_v2 (by decide), val4, put_of _ main_v3 _ c main_v2 (by decide)]))
    (hdx.of_eq (by rw [entered, val5, put_of _ main_v4 _ c main_arg5 (by decide), val4, put_of _ main_v3 _ c main_arg5 (by decide),
      val3, put_of _ main_v2 _ c main_arg5 (by decide), val2, put_of _ main_v1 _ c main_arg5 (by decide), val1, put_of _ main_v0 _ c main_arg5 (by decide)]))).of_eq
    (by rw [val6, put_self])

include hh hg in
theorem kept_gate : Holds (m := 8192) (n := 2816) (val6 m c main_v0) (hidden h wg) :=
  (has_gate m c hh hg).of_eq (by
    rw [val6, put_of _ main_v5 _ c main_v0 (by decide), val5, put_of _ main_v4 _ c main_v0 (by decide), val4, put_of _ main_v3 _ c main_v0 (by decide),
      val3, put_of _ main_v2 _ c main_v0 (by decide), val2, put_of _ main_v1 _ c main_v0 (by decide)])

include hh hu in
theorem kept_up : Holds (m := 8192) (n := 2816) (val6 m c main_v1) (hidden h wu) :=
  (has_up m c hh hu).of_eq (by
    rw [val6, put_of _ main_v5 _ c main_v1 (by decide), val5, put_of _ main_v4 _ c main_v1 (by decide), val4, put_of _ main_v3 _ c main_v1 (by decide),
      val3, put_of _ main_v2 _ c main_v1 (by decide)])

include hd hdx in
theorem kept_dActivation : Holds (m := 8192) (n := 2816) (val6 m c main_v4) (dActivation wd dx) :=
  (has_dActivation m c hd hdx).of_eq (by rw [val6, put_of _ main_v5 _ c main_v4 (by decide)])

include hh hg hu hd hdx in
theorem has_dGate : Holds (m := 8192) (n := 2816) (val7 m c main_v6_0) (dHiddenGate h wg wu wd dx) :=
  (gateCot_array (V := entered (val6 m)) (kept_gate m c hh hg) (kept_up m c hh hu) (kept_dActivation m c hd hdx)).of_eq (val7_gate m c)

include hh hg hd hdx in
theorem has_dUp : Holds (m := 8192) (n := 2816) (val7 m c main_v6_1) (dHiddenUp h wg wd dx) :=
  (upCot_array (V := entered (val6 m)) (kept_gate m c hh hg) (kept_dActivation m c hd hdx)).of_eq (val7_up m c)

/-! ## The gradients -/

omit hx hh hg hu hd hdx in
theorem val7_arg (b : Ref sig .tc) (hb : ∀ r ∈ [main_v0, main_v1, main_v2, main_v3, main_v4, main_v5], b ≠ r)
    (h0 : b ≠ main_v6_0) (h1 : b ≠ main_v6_1) : val7 m c b = val0 m c b := (val7_of m c b h0 h1).trans (val6_arg m c b hb)

include hh hg hu hd hdx in
theorem has_dInput : Holds (m := 8192) (n := 1024) (val9 m c main_v8) (dInput h wg wu wd dx) := by
  have share := (dInGate_array (V := entered (val7 m)) (has_dGate m c hh hg hu hd hdx) (hg.of_eq (val7_arg m c main_arg2 (by decide) (by decide) (by decide)))).of_eq
    (show val8 m c main_v7 = _ by rw [val8, put_self])
  exact (dIn_array (V := entered (val8 m)) ((has_dUp m c hh hg hd hdx).of_eq (by rw [entered, val8, put_of _ main_v7 _ c main_v6_1 (by decide)]))
    (hu.of_eq (by rw [entered, val8, put_of _ main_v7 _ c main_arg3 (by decide), val7_arg m c main_arg3 (by decide) (by decide) (by decide)])) share).of_eq
    (by rw [val9, put_self])

include hh hg hu hd hdx in
theorem has_dWeightGate : Holds (m := 1024) (n := 2816) (val10 m c main_v9) (dWeightGate h wg wu wd dx) :=
  (dGate_array (V := entered (val9 m))
    (hh.of_eq (by rw [entered, val9, put_of _ main_v8 _ c main_arg1 (by decide), val8, put_of _ main_v7 _ c main_arg1 (by decide),
      val7_arg m c main_arg1 (by decide) (by decide) (by decide)]))
    ((has_dGate m c hh hg hu hd hdx).of_eq (by rw [entered, val9, put_of _ main_v8 _ c main_v6_0 (by decide), val8, put_of _ main_v7 _ c main_v6_0 (by decide)]))).of_eq
    (by rw [val10, put_self])

include hh hg hd hdx in
theorem has_dWeightUp : Holds (m := 1024) (n := 2816) (val11 m c main_v10) (dWeightUp h wg wd dx) :=
  (dUp_array (V := entered (val10 m))
    (hh.of_eq (by rw [entered, val10, put_of _ main_v9 _ c main_arg1 (by decide), val9, put_of _ main_v8 _ c main_arg1 (by decide),
      val8, put_of _ main_v7 _ c main_arg1 (by decide), val7_arg m c main_arg1 (by decide) (by decide) (by decide)]))
    ((has_dUp m c hh hg hd hdx).of_eq (by rw [entered, val10, put_of _ main_v9 _ c main_v6_1 (by decide), val9, put_of _ main_v8 _ c main_v6_1 (by decide),
      val8, put_of _ main_v7 _ c main_v6_1 (by decide)]))).of_eq
    (by rw [val11, put_self])
end

/-! ## The first projection -/

/-- An argument as the projection's calls find it. -/
theorem val13_arg (b : Ref sig .tc) (h : ∀ r ∈ [main_v0, main_v1, main_v2, main_v3], b ≠ r)
    (h' : ∀ r ∈ [main_v4, main_v5, main_v6_0, main_v6_1, main_v7, main_v8, main_v9, main_v10], b ≠ r) (h11 : b ≠ main_v11) (h12 : b ≠ main_v12) :
    val11 m c b = val0 m c b ∧ val12 m c b = val0 m c b ∧ val13 m c b = val0 m c b := by
  have e := val0_kept m c b h h'
  exact ⟨e, by rw [val12, put_of _ main_v11 _ c b h11, e], by rw [val13, put_of _ main_v12 _ c b h12, val12, put_of _ main_v11 _ c b h11, e]⟩

section
variable {w dz : ℕ → ℕ → EReal} (hh : Holds (m := 8192) (n := 1024) (val0 m c main_arg6) h) (hw : Holds (m := 1024) (n := 8192) (val0 m c main_arg7) w)
  (hdz : Holds (m := 8192) (n := 8192) (val0 m c main_arg8) dz)

include hh hw in
theorem has_proj : Holds (m := 8192) (n := 8192) (val12 m c main_v11) (hidden h w) :=
  (proj_array (V := entered (val11 m)) (hh.of_eq (val13_arg m c main_arg6 (by decide) (by decide) (by decide) (by decide)).1)
    (hw.of_eq (val13_arg m c main_arg7 (by decide) (by decide) (by decide) (by decide)).1)).of_eq (by rw [val12, put_self])

include hw hdz in
theorem has_dProjIn : Holds (m := 8192) (n := 1024) (val13 m c main_v12) (dProjected w dz) :=
  (dProjIn_array (V := entered (val12 m)) (hdz.of_eq (val13_arg m c main_arg8 (by decide) (by decide) (by decide) (by decide)).2.1)
    (hw.of_eq (val13_arg m c main_arg7 (by decide) (by decide) (by decide) (by decide)).2.1)).of_eq (by rw [val13, put_self])

include hh hdz in
theorem has_dProjWeight : Holds (m := 1024) (n := 8192) (val14 m c main_v13) (dProjectedWeight h dz) :=
  (dProjWeight_array (V := entered (val13 m)) (hh.of_eq (val13_arg m c main_arg6 (by decide) (by decide) (by decide) (by decide)).2.2)
    (hdz.of_eq (val13_arg m c main_arg8 (by decide) (by decide) (by decide) (by decide)).2.2)).of_eq (by rw [val14, put_self])
end

/-- The projection's three results, whatever the operands are. -/
theorem projection_eq :
    Cert.Reference2Ideal.Read.val_main_v12 (F := Ideal) (m ((c.tc : Thread nD τ).loc main_arg6)) (m ((c.tc : Thread nD τ).loc main_arg7)) = val12 m c main_v11
    ∧ Cert.Reference2Ideal.Read.val_main_v30 (F := Ideal) (m ((c.tc : Thread nD τ).loc main_arg7)) (m ((c.tc : Thread nD τ).loc main_arg8)) = val13 m c main_v12
    ∧ Cert.Reference2Ideal.Read.val_main_v29 (F := Ideal) (m ((c.tc : Thread nD τ).loc main_arg6)) (m ((c.tc : Thread nD τ).loc main_arg8)) = val14 m c main_v13 := by
  have hh := holds_entries (m := 8192) (n := 1024) (m ((c.tc : Thread nD τ).loc main_arg6))
  have hw := holds_entries (m := 1024) (n := 8192) (m ((c.tc : Thread nD τ).loc main_arg7))
  have hdz := holds_entries (m := 8192) (n := 8192) (m ((c.tc : Thread nD τ).loc main_arg8))
  exact ⟨(ref_proj hh hw).eq (has_proj m c hh hw), (ref_dProjIn hw hdz).eq (has_dProjIn m c hw hdz),
    (ref_dProjWeight hh hdz).eq (has_dProjWeight m c hh hdz)⟩

/-- The sublayer's five results, whatever the operands are. -/
theorem results_eq :
    Cert.Reference2Ideal.Read.val_main_v9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = val4 m c main_v3
    ∧ Cert.Reference2Ideal.Read.val_main_v26 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = val9 m c main_v8
    ∧ Cert.Reference2Ideal.Read.val_main_v24 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = val10 m c main_v9
    ∧ Cert.Reference2Ideal.Read.val_main_v20 (F := Ideal) (m ((c.tc : Thread nD τ).loc main_arg1)) (m ((c.tc : Thread nD τ).loc main_arg2)) (m ((c.tc : Thread nD τ).loc main_arg4)) (m ((c.tc : Thread nD τ).loc main_arg5)) = val11 m c main_v10
    ∧ Cert.Reference2Ideal.Read.val_main_v15 (F := Ideal) (m ((c.tc : Thread nD τ).loc main_arg1)) (m ((c.tc : Thread nD τ).loc main_arg2)) (m ((c.tc : Thread nD τ).loc main_arg3)) (m ((c.tc : Thread nD τ).loc main_arg5)) = val6 m c main_v5 := by
  have hx := holds_entries (m := 8192) (n := 1024) (m ((c.tc : Thread nD τ).loc main_arg0))
  have hh := holds_entries (m := 8192) (n := 1024) (m ((c.tc : Thread nD τ).loc main_arg1))
  have hg := holds_entries (m := 1024) (n := 2816) (m ((c.tc : Thread nD τ).loc main_arg2))
  have hu := holds_entries (m := 1024) (n := 2816) (m ((c.tc : Thread nD τ).loc main_arg3))
  have hd := holds_entries (m := 2816) (n := 1024) (m ((c.tc : Thread nD τ).loc main_arg4))
  have hdx := holds_entries (m := 8192) (n := 1024) (m ((c.tc : Thread nD τ).loc main_arg5))
  exact ⟨(ref_layer hh hg hu hd hx).eq (has_layer m c hx hh hg hu hd), (ref_dInput hh hg hu hd hdx).eq (has_dInput m c hh hg hu hd hdx),
    (ref_dWeightGate hh hg hu hd hdx).eq (has_dWeightGate m c hh hg hu hd hdx), (ref_dWeightUp hh hg hd hdx).eq (has_dWeightUp m c hh hg hd hdx),
    (ref_dWeightDown hh hg hu hdx).eq (has_dWeightDown m c hh hg hu hdx)⟩

end Cert.Ffn

end
-- ==== Proof.lean ====
/- The calls of the multi-head latent attention, and those of the feed-forward sublayer, run, leave their arguments alone and
   compute the output and its gradients. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Regions
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Same
public import proofs.«01_k».proof.Proof.Launched
public import proofs.«01_k».proof.Proof.Value.Results
public import proofs.«01_k».proof.Proof.Ffn.Same
public import proofs.«01_k».proof.Proof.Ffn.Launched
public import proofs.«01_k».proof.Proof.Ffn.Value.Results
public import proofs.«01_k».proof.Proof.Gen.ReferenceIdeal.Run
public import Idealize.ShloMosaic.Lib.Quiescent
public import proofs.«01_k».proof.Proof.Gen.ReferenceIdeal.Read
public import proofs.«01_k».proof.Proof.Gen.Reference2Ideal.Run
public import proofs.«01_k».proof.Proof.Gen.Reference2Ideal.Read
public import Idealize.ShloMosaic.Adequacy
public import Idealize.ShloMosaic.Init

@[expose] public section

noncomputable section

namespace Cert.Proof

open Idealize.ShloMosaic Idealize.SL.Sem

/-- Both calls end, with the arguments unchanged and no semaphore counter raised. -/
theorem frame_kernelIdeal : Cert.quiescent_KernelIdeal := fun m ρ _ =>
  (θ_run Cert.KernelIdeal.defs _ _).mono (fun _ h => ⟨fun c => (h.1 c).2.2.2.2, h.2⟩) (Cert.Attn.run_main (F := Ideal) m ρ)

/-- The same of the words the machine computes with: the text is the same. -/
theorem frame_kernel : Cert.quiescent_Kernel := fun m ρ _ => by
  rw [Cert.Attn.calls_same]
  exact (θ_run (Cert.KernelIdeal.defs (F := Bits)) _ _).mono (fun _ h => ⟨fun c => (h.1 c).2.2.2.2, h.2⟩)
    (Cert.Attn.run_main (F := Bits) m ρ)

/-- The reference is a straight line of host operations and declares no semaphore. -/
theorem frame_referenceIdeal : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- On finite operands the two calls end with the reference's output and gradients. -/
theorem algebraic [Cert.Pre_finite.Facts] : Cert.algebraic_KernelIdeal_ReferenceIdeal_pre_finite := fun m g m' g' hpre hargs => by
  refine ⟨Cert.Attn.fwdO m, Cert.Attn.bwdOutQ m, Cert.Attn.bwdOutKv m, Cert.Attn.bwdOutKr m,
    (θ_run Cert.KernelIdeal.defs _ _).mono (fun _ h => h.1) (Cert.Attn.run_main (F := Ideal) m g),
    (θ_run Cert.ReferenceIdeal.defs _ _).mono (fun r h c => ?_) (Cert.ReferenceIdeal.Value.run (F := Ideal) m' g')⟩
  obtain ⟨e0, e1, e2, e3⟩ := hargs c
  obtain ⟨r0, r1, r2, r3⟩ := Cert.Attn.results_eq m c (Cert.Attn.real_of_finite _ _ _ _ (hpre c))
  obtain ⟨h0, h1, h2, h3, ha⟩ := h c
  refine ⟨h0.trans (Eq.trans ?_ r0), h1.trans (Eq.trans ?_ r1), h2.trans (Eq.trans ?_ r2), h3.trans (Eq.trans ?_ r3), ha⟩
  · rw [Cert.ReferenceIdeal.Read.val_main_v49_eq, e0, e1, e2]
  · rw [Cert.ReferenceIdeal.Read.val_main_v82_eq, e0, e1, e2, e3]
  · rw [Cert.ReferenceIdeal.Read.val_main_v83_eq, e0, e1, e2, e3]
  · rw [Cert.ReferenceIdeal.Read.val_main_v78_eq, e0, e1, e2, e3]

/-! ## The feed-forward sublayer and the first projection -/

/-- All fourteen calls end, with the arguments unchanged and no semaphore counter raised. -/
theorem frame_kernel2Ideal : Cert.quiescent_Kernel2Ideal := fun m ρ _ =>
  (θ_run Cert.Kernel2Ideal.defs _ _).mono (fun _ h => ⟨fun c => (h.1 c).2.2.2.2.2.2.2.2, h.2⟩) (Cert.Ffn.run_main (F := Ideal) m ρ)

set_option maxHeartbeats 8000000 in
/-- The same of the words the machine computes with: the text is the same. -/
theorem frame_kernel2 : Cert.quiescent_Kernel2 := fun m ρ _ => by
  rw [Cert.Ffn.calls_same]
  exact (θ_run (Cert.Kernel2Ideal.defs (F := Bits)) _ _).mono (fun _ h => ⟨fun c => (h.1 c).2.2.2.2.2.2.2.2, h.2⟩)
    (Cert.Ffn.run_main (F := Bits) m ρ)

/-- This reference too is a straight line of host operations and declares no semaphore. -/
theorem frame_reference2Ideal : Cert.quiescent_Reference2Ideal := fun m ρ _ =>
  (θ_run Cert.Reference2Ideal.defs _ _).mono (fun r h => ⟨fun c => (h c).2.2.2.2.2.2.2.2, sem_eq_zero_of_no_sems (by decide) r.2⟩)
    (Cert.Reference2Ideal.Value.run (F := Ideal) m ρ)

/-- On any operands the calls end with the reference's result and gradients. -/
theorem algebraic2 : Cert.algebraic_Kernel2Ideal_Reference2Ideal := fun m g m' g' _ hargs => by
  refine ⟨fun c => Cert.Ffn.val4 m c (Proc.devRef .tc Cert.Kernel2Ideal.main_v3), fun c => Cert.Ffn.val9 m c (Proc.devRef .tc Cert.Kernel2Ideal.main_v8),
    fun c => Cert.Ffn.val10 m c (Proc.devRef .tc Cert.Kernel2Ideal.main_v9), fun c => Cert.Ffn.val11 m c (Proc.devRef .tc Cert.Kernel2Ideal.main_v10),
    fun c => Cert.Ffn.val6 m c (Proc.devRef .tc Cert.Kernel2Ideal.main_v5), fun c => Cert.Ffn.val12 m c (Proc.devRef .tc Cert.Kernel2Ideal.main_v11),
    fun c => Cert.Ffn.val13 m c (Proc.devRef .tc Cert.Kernel2Ideal.main_v12), fun c => Cert.Ffn.val14 m c (Proc.devRef .tc Cert.Kernel2Ideal.main_v13),
    (θ_run Cert.Kernel2Ideal.defs _ _).mono (fun _ h => h.1) (Cert.Ffn.run_main (F := Ideal) m g),
    (θ_run Cert.Reference2Ideal.defs _ _).mono (fun r h c => ?_) (Cert.Reference2Ideal.Value.run (F := Ideal) m' g')⟩
  obtain ⟨e0, e1, e2, e3, e4, e5, e6, e7, e8⟩ := hargs c
  obtain ⟨r0, r1, r2, r3, r4⟩ := Cert.Ffn.results_eq m c
  obtain ⟨r5, r6, r7⟩ := Cert.Ffn.projection_eq m c
  obtain ⟨h0, h1, h2, h3, h4, h5, h6, h7, ha⟩ := h c
  refine ⟨h0.trans (Eq.trans ?_ r0), h1.trans (Eq.trans ?_ r1), h2.trans (Eq.trans ?_ r2), h3.trans (Eq.trans ?_ r3), h4.trans (Eq.trans ?_ r4),
    h5.trans (Eq.trans ?_ r5), h6.trans (Eq.trans ?_ r6), h7.trans (Eq.trans ?_ r7), ha⟩
  · rw [Cert.Reference2Ideal.Read.val_main_v9_eq, e0, e1, e2, e3, e4]
  · rw [Cert.Reference2Ideal.Read.val_main_v26_eq, e1, e2, e3, e4, e5]
  · rw [Cert.Reference2Ideal.Read.val_main_v24_eq, e1, e2, e3, e4, e5]
  · rw [Cert.Reference2Ideal.Read.val_main_v20_eq, e1, e2, e4, e5]
  · rw [Cert.Reference2Ideal.Read.val_main_v15_eq, e1, e2, e3, e5]
  · rw [Cert.Reference2Ideal.Read.val_main_v12_eq, e6, e7]
  · rw [Cert.Reference2Ideal.Read.val_main_v30_eq, e7, e8]
  · rw [Cert.Reference2Ideal.Read.val_main_v29_eq, e6, e8]

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Attn.finiteFacts,
    frame_kernel, frame_kernelIdeal, fun m ρ _ => frame_kernelIdeal m ρ trivial, frame_referenceIdeal, fun m ρ _ => frame_referenceIdeal m ρ trivial,
    frame_kernel2, frame_kernel2Ideal, frame_reference2Ideal,
    trivial, letI := Cert.Attn.finiteFacts; algebraic, trivial, algebraic2⟩

end Cert.Proof

end
